-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "logit" .f32 0x3F58E883#32 ((Real.log (7 * 3⁻¹) : ℝ) : EReal)
  ∧ IdealRules.named_const.Statement Cert.KernelIdeal.κ "inv_src" .f32 0x3ADA740E#32 ((1 / 600 : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x18x48x48 : Shape := ⟨4, ![1, 18, 48, 48]⟩
abbrev S1x36x48x48 : Shape := ⟨4, ![1, 36, 48, 48]⟩
abbrev S20736x6 : Shape := ⟨2, ![20736, 6]⟩
abbrev S_ : Shape := ⟨0, ![]⟩

class Facts : Prop where
  bcast_S_S1x18x48x48 : S_.BroadcastsInDim S1x18x48x48 (![] : Fin 0 → Fin S1x18x48x48.rank)
  reducesTo_S1x18x48x48_S_d0_1_2_3 : S1x18x48x48.ReducesTo [0, 1, 2, 3] S_
  h_S_ : 0 < S_.numel

variable [Facts]

def fn {F : FTy → Type} [FloatOps F] (main_arg0 : FVec F S1x18x48x48 .f32) (main_arg1 : FVec F S1x36x48x48 .f32) (main_arg2 : FVec F S20736x6 .f32) : IVec S_ 1 :=
  let main_v0 : FVec F S1x18x48x48 .f32 := Host.absf main_arg0
  let main_cst : FVec F S_ .f32 := constant S_ .f32 0x7F800000#32
  let main_v1 : FVec F S1x18x48x48 .f32 := broadcastInDim S1x18x48x48 ![] bcast_S_S1x18x48x48 main_cst
  let main_v2 : IVec S1x18x48x48 1 := cmpf .olt main_v0 main_v1
  let main_c : IVec S_ 1 := constantI S_ 1 1#1
  let main_v3 : IVec S_ 1 := (fun x v => Host.reduce IntOp.andi x v reducesTo_S1x18x48x48_S_d0_1_2_3 h_S_) main_v2 main_c
  main_v3
-- ==== Kernel.lean ====
abbrev S1x18x48x48 : Shape := ⟨4, ![1, 18, 48, 48]⟩
abbrev S1x36x48x48 : Shape := ⟨4, ![1, 36, 48, 48]⟩
abbrev S20736x6 : Shape := ⟨2, ![20736, 6]⟩
abbrev S377x4 : Shape := ⟨2, ![377, 4]⟩
abbrev S1508 : Shape := ⟨1, ![1508]⟩
abbrev S20736x8 : Shape := ⟨2, ![20736, 8]⟩
abbrev S2x16x48 : Shape := ⟨3, ![2, 16, 48]⟩
abbrev S4x16x48 : Shape := ⟨3, ![4, 16, 48]⟩
abbrev S768x8 : Shape := ⟨2, ![768, 8]⟩
abbrev S_ : Shape := ⟨0, ![]⟩
abbrev S16 : Shape := ⟨1, ![16]⟩
abbrev S1x2x16x48 : Shape := ⟨4, ![1, 2, 16, 48]⟩
abbrev S1x4x16x48 : Shape := ⟨4, ![1, 4, 16, 48]⟩
abbrev S1x1x16 : Shape := ⟨3, ![1, 1, 16]⟩
abbrev S192x8 : Shape := ⟨2, ![192, 8]⟩

abbrev nBuf : Table → Nat
  | .hbm => 6
  | .local .scVector .vmem => 4
  | _ => 0

abbrev bufTy : (tb : Table) → Fin (nBuf tb) → BufTy
  | .hbm, ⟨0, _⟩ => ⟨S1x18x48x48, .f32⟩
  | .hbm, ⟨1, _⟩ => ⟨S1x36x48x48, .f32⟩
  | .hbm, ⟨2, _⟩ => ⟨S20736x6, .f32⟩
  | .hbm, ⟨3, _⟩ => ⟨S377x4, .f32⟩
  | .hbm, ⟨4, _⟩ => ⟨S1508, .f32⟩
  | .hbm, ⟨5, _⟩ => ⟨S20736x8, .f32⟩
  | .local .scVector .vmem, ⟨0, _⟩ => ⟨S2x16x48, .f32⟩
  | .local .scVector .vmem, ⟨1, _⟩ => ⟨S4x16x48, .f32⟩
  | .local .scVector .vmem, ⟨2, _⟩ => ⟨S1508, .f32⟩
  | .local .scVector .vmem, ⟨3, _⟩ => ⟨S768x8, .f32⟩
  | _, _ => ⟨S1x18x48x48, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32 : BitVec 32 := 27#32
  let v2 : BitVec 1 := Scalar.cmpi .slt v1 c27_i32
  let v3 : BitVec 32 := Scalar.extui v2
  let c0_i32 : BitVec 32 := 0#32
  let v4 : BitVec 1 := Scalar.cmpi .ne v3 c0_i32
  v4

def k0_off1 (i : grid0.Coords) : Fin 4 → Nat :=
  let c0_i32_12 : BitVec 32 := 0#32
  let c2_i32_11 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let v34 : BitVec 32 := Scalar.muli c2_i32_11 v21
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let c0_i32_13 : BitVec 32 := 0#32
  ![0, v34.toNat, v32.toNat, 0]
def k0_off2 (i : grid0.Coords) : Fin 4 → Nat :=
  let c0_i32_15 : BitVec 32 := 0#32
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let v39 : BitVec 32 := Scalar.muli c4_i32 v21
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let c0_i32_16 : BitVec 32 := 0#32
  ![0, v39.toNat, v32.toNat, 0]

def k0_chk1 (i : grid0.Coords) (v50 : IVec S16 32) : Prop :=
  (∀ (k0_h1 : k0_cond1 i = 1#1), ∀ a x, ((![v50] : Fin 1 → IVec S16 32) a x).toNat < S1508.size a)
theorem k0_idx1_inb : ∀ (i : grid0.Coords) (v50 : IVec S16 32) (k0_hw1 : k0_chk1 i v50), ∀ (k0_h1 : k0_cond1 i = 1#1), ∀ a x, ((![v50] : Fin 1 → IVec S16 32) a x).toNat < S1508.size a := fun i v50 k0_hw1 k0_h1 => k0_hw1 k0_h1

def k0_chk2 (i : grid0.Coords) (v53 : IVec S16 32) : Prop :=
  (∀ (k0_h1 : k0_cond1 i = 1#1), ∀ a x, ((![v53] : Fin 1 → IVec S16 32) a x).toNat < S1508.size a)
theorem k0_idx2_inb : ∀ (i : grid0.Coords) (v53 : IVec S16 32) (k0_hw2 : k0_chk2 i v53), ∀ (k0_h1 : k0_cond1 i = 1#1), ∀ a x, ((![v53] : Fin 1 → IVec S16 32) a x).toNat < S1508.size a := fun i v53 k0_hw2 k0_h1 => k0_hw2 k0_h1

def k0_chk3 (i : grid0.Coords) (v56 : IVec S16 32) : Prop :=
  (∀ (k0_h1 : k0_cond1 i = 1#1), ∀ a x, ((![v56] : Fin 1 → IVec S16 32) a x).toNat < S1508.size a)
theorem k0_idx3_inb : ∀ (i : grid0.Coords) (v56 : IVec S16 32) (k0_hw3 : k0_chk3 i v56), ∀ (k0_h1 : k0_cond1 i = 1#1), ∀ a x, ((![v56] : Fin 1 → IVec S16 32) a x).toNat < S1508.size a := fun i v56 k0_hw3 k0_h1 => k0_hw3 k0_h1

def k0_chk4 (i : grid0.Coords) (v59 : IVec S16 32) : Prop :=
  (∀ (k0_h1 : k0_cond1 i = 1#1), ∀ a x, ((![v59] : Fin 1 → IVec S16 32) a x).toNat < S1508.size a)
theorem k0_idx4_inb : ∀ (i : grid0.Coords) (v59 : IVec S16 32) (k0_hw4 : k0_chk4 i v59), ∀ (k0_h1 : k0_cond1 i = 1#1), ∀ a x, ((![v59] : Fin 1 → IVec S16 32) a x).toNat < S1508.size a := fun i v59 k0_hw4 k0_h1 => k0_hw4 k0_h1

def k0_chk5 (i : grid0.Coords) (v67 : IVec S16 32) : Prop :=
  (∀ (k0_h1 : k0_cond1 i = 1#1), ∀ a x, ((![v67] : Fin 1 → IVec S16 32) a x).toNat < S1508.size a)
theorem k0_idx5_inb : ∀ (i : grid0.Coords) (v67 : IVec S16 32) (k0_hw5 : k0_chk5 i v67), ∀ (k0_h1 : k0_cond1 i = 1#1), ∀ a x, ((![v67] : Fin 1 → IVec S16 32) a x).toNat < S1508.size a := fun i v67 k0_hw5 k0_h1 => k0_hw5 k0_h1

def k0_chk6 (i : grid0.Coords) (v70 : IVec S16 32) : Prop :=
  (∀ (k0_h1 : k0_cond1 i = 1#1), ∀ a x, ((![v70] : Fin 1 → IVec S16 32) a x).toNat < S1508.size a)
theorem k0_idx6_inb : ∀ (i : grid0.Coords) (v70 : IVec S16 32) (k0_hw6 : k0_chk6 i v70), ∀ (k0_h1 : k0_cond1 i = 1#1), ∀ a x, ((![v70] : Fin 1 → IVec S16 32) a x).toNat < S1508.size a := fun i v70 k0_hw6 k0_h1 => k0_hw6 k0_h1

def k0_chk7 (i : grid0.Coords) (v73 : IVec S16 32) : Prop :=
  (∀ (k0_h1 : k0_cond1 i = 1#1), ∀ a x, ((![v73] : Fin 1 → IVec S16 32) a x).toNat < S1508.size a)
theorem k0_idx7_inb : ∀ (i : grid0.Coords) (v73 : IVec S16 32) (k0_hw7 : k0_chk7 i v73), ∀ (k0_h1 : k0_cond1 i = 1#1), ∀ a x, ((![v73] : Fin 1 → IVec S16 32) a x).toNat < S1508.size a := fun i v73 k0_hw7 k0_h1 => k0_hw7 k0_h1

def k0_chk8 (i : grid0.Coords) (v76 : IVec S16 32) : Prop :=
  (∀ (k0_h1 : k0_cond1 i = 1#1), ∀ a x, ((![v76] : Fin 1 → IVec S16 32) a x).toNat < S1508.size a)
theorem k0_idx8_inb : ∀ (i : grid0.Coords) (v76 : IVec S16 32) (k0_hw8 : k0_chk8 i v76), ∀ (k0_h1 : k0_cond1 i = 1#1), ∀ a x, ((![v76] : Fin 1 → IVec S16 32) a x).toNat < S1508.size a := fun i v76 k0_hw8 k0_h1 => k0_hw8 k0_h1

def k0_chk9 (i : grid0.Coords) (v84 : IVec S16 32) : Prop :=
  (∀ (k0_h1 : k0_cond1 i = 1#1), ∀ a x, ((![v84] : Fin 1 → IVec S16 32) a x).toNat < S1508.size a)
theorem k0_idx9_inb : ∀ (i : grid0.Coords) (v84 : IVec S16 32) (k0_hw9 : k0_chk9 i v84), ∀ (k0_h1 : k0_cond1 i = 1#1), ∀ a x, ((![v84] : Fin 1 → IVec S16 32) a x).toNat < S1508.size a := fun i v84 k0_hw9 k0_h1 => k0_hw9 k0_h1

def k0_chk10 (i : grid0.Coords) (v87 : IVec S16 32) : Prop :=
  (∀ (k0_h1 : k0_cond1 i = 1#1), ∀ a x, ((![v87] : Fin 1 → IVec S16 32) a x).toNat < S1508.size a)
theorem k0_idx10_inb : ∀ (i : grid0.Coords) (v87 : IVec S16 32) (k0_hw10 : k0_chk10 i v87), ∀ (k0_h1 : k0_cond1 i = 1#1), ∀ a x, ((![v87] : Fin 1 → IVec S16 32) a x).toNat < S1508.size a := fun i v87 k0_hw10 k0_h1 => k0_hw10 k0_h1

def k0_chk11 (i : grid0.Coords) (v90 : IVec S16 32) : Prop :=
  (∀ (k0_h1 : k0_cond1 i = 1#1), ∀ a x, ((![v90] : Fin 1 → IVec S16 32) a x).toNat < S1508.size a)
theorem k0_idx11_inb : ∀ (i : grid0.Coords) (v90 : IVec S16 32) (k0_hw11 : k0_chk11 i v90), ∀ (k0_h1 : k0_cond1 i = 1#1), ∀ a x, ((![v90] : Fin 1 → IVec S16 32) a x).toNat < S1508.size a := fun i v90 k0_hw11 k0_h1 => k0_hw11 k0_h1

def k0_chk12 (i : grid0.Coords) (v93 : IVec S16 32) : Prop :=
  (∀ (k0_h1 : k0_cond1 i = 1#1), ∀ a x, ((![v93] : Fin 1 → IVec S16 32) a x).toNat < S1508.size a)
theorem k0_idx12_inb : ∀ (i : grid0.Coords) (v93 : IVec S16 32) (k0_hw12 : k0_chk12 i v93), ∀ (k0_h1 : k0_cond1 i = 1#1), ∀ a x, ((![v93] : Fin 1 → IVec S16 32) a x).toNat < S1508.size a := fun i v93 k0_hw12 k0_h1 => k0_hw12 k0_h1
def k0_off3 (i : grid0.Coords) : Fin 4 → Nat :=
  let c0_i32_35 : BitVec 32 := 0#32
  let c2_i32_11 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let v34 : BitVec 32 := Scalar.muli c2_i32_11 v21
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let c0_i32_36 : BitVec 32 := 0#32
  ![0, v34.toNat, v32.toNat, 0]
def k0_off4 (i : grid0.Coords) : Fin 4 → Nat :=
  let c0_i32_38 : BitVec 32 := 0#32
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let v39 : BitVec 32 := Scalar.muli c4_i32 v21
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let c0_i32_39 : BitVec 32 := 0#32
  ![0, v39.toNat, v32.toNat, 0]

def k0_chk13 (i : grid0.Coords) (v161 : IVec S16 32) (v170 : IVec S16 32) : Prop :=
  (∀ (k0_h1 : k0_cond1 i = 1#1), ∀ a x, ((![v161, v170] : Fin 2 → IVec S16 32) a x).toNat < S192x8.size a)
theorem k0_idx13_inb : ∀ (i : grid0.Coords) (v161 : IVec S16 32) (v170 : IVec S16 32) (k0_hw13 : k0_chk13 i v161 v170), ∀ (k0_h1 : k0_cond1 i = 1#1), ∀ a x, ((![v161, v170] : Fin 2 → IVec S16 32) a x).toNat < S192x8.size a := fun i v161 v170 k0_hw13 k0_h1 => k0_hw13 k0_h1

def k0_chk14 (i : grid0.Coords) (v161 : IVec S16 32) (v174 : IVec S16 32) : Prop :=
  (∀ (k0_h1 : k0_cond1 i = 1#1), ∀ a x, ((![v161, v174] : Fin 2 → IVec S16 32) a x).toNat < S192x8.size a)
theorem k0_idx14_inb : ∀ (i : grid0.Coords) (v161 : IVec S16 32) (v174 : IVec S16 32) (k0_hw14 : k0_chk14 i v161 v174), ∀ (k0_h1 : k0_cond1 i = 1#1), ∀ a x, ((![v161, v174] : Fin 2 → IVec S16 32) a x).toNat < S192x8.size a := fun i v161 v174 k0_hw14 k0_h1 => k0_hw14 k0_h1

def k0_chk15 (i : grid0.Coords) (v161 : IVec S16 32) (v178 : IVec S16 32) : Prop :=
  (∀ (k0_h1 : k0_cond1 i = 1#1), ∀ a x, ((![v161, v178] : Fin 2 → IVec S16 32) a x).toNat < S192x8.size a)
theorem k0_idx15_inb : ∀ (i : grid0.Coords) (v161 : IVec S16 32) (v178 : IVec S16 32) (k0_hw15 : k0_chk15 i v161 v178), ∀ (k0_h1 : k0_cond1 i = 1#1), ∀ a x, ((![v161, v178] : Fin 2 → IVec S16 32) a x).toNat < S192x8.size a := fun i v161 v178 k0_hw15 k0_h1 => k0_hw15 k0_h1

def k0_chk16 (i : grid0.Coords) (v161 : IVec S16 32) (v182 : IVec S16 32) : Prop :=
  (∀ (k0_h1 : k0_cond1 i = 1#1), ∀ a x, ((![v161, v182] : Fin 2 → IVec S16 32) a x).toNat < S192x8.size a)
theorem k0_idx16_inb : ∀ (i : grid0.Coords) (v161 : IVec S16 32) (v182 : IVec S16 32) (k0_hw16 : k0_chk16 i v161 v182), ∀ (k0_h1 : k0_cond1 i = 1#1), ∀ a x, ((![v161, v182] : Fin 2 → IVec S16 32) a x).toNat < S192x8.size a := fun i v161 v182 k0_hw16 k0_h1 => k0_hw16 k0_h1

def k0_chk17 (i : grid0.Coords) (v161 : IVec S16 32) (v186 : IVec S16 32) : Prop :=
  (∀ (k0_h1 : k0_cond1 i = 1#1), ∀ a x, ((![v161, v186] : Fin 2 → IVec S16 32) a x).toNat < S192x8.size a)
theorem k0_idx17_inb : ∀ (i : grid0.Coords) (v161 : IVec S16 32) (v186 : IVec S16 32) (k0_hw17 : k0_chk17 i v161 v186), ∀ (k0_h1 : k0_cond1 i = 1#1), ∀ a x, ((![v161, v186] : Fin 2 → IVec S16 32) a x).toNat < S192x8.size a := fun i v161 v186 k0_hw17 k0_h1 => k0_hw17 k0_h1

def k0_chk18 (i : grid0.Coords) (v161 : IVec S16 32) (v190 : IVec S16 32) : Prop :=
  (∀ (k0_h1 : k0_cond1 i = 1#1), ∀ a x, ((![v161, v190] : Fin 2 → IVec S16 32) a x).toNat < S192x8.size a)
theorem k0_idx18_inb : ∀ (i : grid0.Coords) (v161 : IVec S16 32) (v190 : IVec S16 32) (k0_hw18 : k0_chk18 i v161 v190), ∀ (k0_h1 : k0_cond1 i = 1#1), ∀ a x, ((![v161, v190] : Fin 2 → IVec S16 32) a x).toNat < S192x8.size a := fun i v161 v190 k0_hw18 k0_h1 => k0_hw18 k0_h1

def k0_chk19 (i : grid0.Coords) (v161 : IVec S16 32) (v194 : IVec S16 32) : Prop :=
  (∀ (k0_h1 : k0_cond1 i = 1#1), ∀ a x, ((![v161, v194] : Fin 2 → IVec S16 32) a x).toNat < S192x8.size a)
theorem k0_idx19_inb : ∀ (i : grid0.Coords) (v161 : IVec S16 32) (v194 : IVec S16 32) (k0_hw19 : k0_chk19 i v161 v194), ∀ (k0_h1 : k0_cond1 i = 1#1), ∀ a x, ((![v161, v194] : Fin 2 → IVec S16 32) a x).toNat < S192x8.size a := fun i v161 v194 k0_hw19 k0_h1 => k0_hw19 k0_h1

def k0_chk20 (i : grid0.Coords) (v161 : IVec S16 32) (v198 : IVec S16 32) : Prop :=
  (∀ (k0_h1 : k0_cond1 i = 1#1), ∀ a x, ((![v161, v198] : Fin 2 → IVec S16 32) a x).toNat < S192x8.size a)
theorem k0_idx20_inb : ∀ (i : grid0.Coords) (v161 : IVec S16 32) (v198 : IVec S16 32) (k0_hw20 : k0_chk20 i v161 v198), ∀ (k0_h1 : k0_cond1 i = 1#1), ∀ a x, ((![v161, v198] : Fin 2 → IVec S16 32) a x).toNat < S192x8.size a := fun i v161 v198 k0_hw20 k0_h1 => k0_hw20 k0_h1

def k0_chk21 (i : grid0.Coords) (v260 : IVec S16 32) (v269 : IVec S16 32) : Prop :=
  (∀ (k0_h1 : k0_cond1 i = 1#1), ∀ a x, ((![v260, v269] : Fin 2 → IVec S16 32) a x).toNat < S192x8.size a)
theorem k0_idx21_inb : ∀ (i : grid0.Coords) (v260 : IVec S16 32) (v269 : IVec S16 32) (k0_hw21 : k0_chk21 i v260 v269), ∀ (k0_h1 : k0_cond1 i = 1#1), ∀ a x, ((![v260, v269] : Fin 2 → IVec S16 32) a x).toNat < S192x8.size a := fun i v260 v269 k0_hw21 k0_h1 => k0_hw21 k0_h1

def k0_chk22 (i : grid0.Coords) (v260 : IVec S16 32) (v273 : IVec S16 32) : Prop :=
  (∀ (k0_h1 : k0_cond1 i = 1#1), ∀ a x, ((![v260, v273] : Fin 2 → IVec S16 32) a x).toNat < S192x8.size a)
theorem k0_idx22_inb : ∀ (i : grid0.Coords) (v260 : IVec S16 32) (v273 : IVec S16 32) (k0_hw22 : k0_chk22 i v260 v273), ∀ (k0_h1 : k0_cond1 i = 1#1), ∀ a x, ((![v260, v273] : Fin 2 → IVec S16 32) a x).toNat < S192x8.size a := fun i v260 v273 k0_hw22 k0_h1 => k0_hw22 k0_h1

def k0_chk23 (i : grid0.Coords) (v260 : IVec S16 32) (v277 : IVec S16 32) : Prop :=
  (∀ (k0_h1 : k0_cond1 i = 1#1), ∀ a x, ((![v260, v277] : Fin 2 → IVec S16 32) a x).toNat < S192x8.size a)
theorem k0_idx23_inb : ∀ (i : grid0.Coords) (v260 : IVec S16 32) (v277 : IVec S16 32) (k0_hw23 : k0_chk23 i v260 v277), ∀ (k0_h1 : k0_cond1 i = 1#1), ∀ a x, ((![v260, v277] : Fin 2 → IVec S16 32) a x).toNat < S192x8.size a := fun i v260 v277 k0_hw23 k0_h1 => k0_hw23 k0_h1

def k0_chk24 (i : grid0.Coords) (v260 : IVec S16 32) (v281 : IVec S16 32) : Prop :=
  (∀ (k0_h1 : k0_cond1 i = 1#1), ∀ a x, ((![v260, v281] : Fin 2 → IVec S16 32) a x).toNat < S192x8.size a)
theorem k0_idx24_inb : ∀ (i : grid0.Coords) (v260 : IVec S16 32) (v281 : IVec S16 32) (k0_hw24 : k0_chk24 i v260 v281), ∀ (k0_h1 : k0_cond1 i = 1#1), ∀ a x, ((![v260, v281] : Fin 2 → IVec S16 32) a x).toNat < S192x8.size a := fun i v260 v281 k0_hw24 k0_h1 => k0_hw24 k0_h1

def k0_chk25 (i : grid0.Coords) (v260 : IVec S16 32) (v285 : IVec S16 32) : Prop :=
  (∀ (k0_h1 : k0_cond1 i = 1#1), ∀ a x, ((![v260, v285] : Fin 2 → IVec S16 32) a x).toNat < S192x8.size a)
theorem k0_idx25_inb : ∀ (i : grid0.Coords) (v260 : IVec S16 32) (v285 : IVec S16 32) (k0_hw25 : k0_chk25 i v260 v285), ∀ (k0_h1 : k0_cond1 i = 1#1), ∀ a x, ((![v260, v285] : Fin 2 → IVec S16 32) a x).toNat < S192x8.size a := fun i v260 v285 k0_hw25 k0_h1 => k0_hw25 k0_h1

def k0_chk26 (i : grid0.Coords) (v260 : IVec S16 32) (v289 : IVec S16 32) : Prop :=
  (∀ (k0_h1 : k0_cond1 i = 1#1), ∀ a x, ((![v260, v289] : Fin 2 → IVec S16 32) a x).toNat < S192x8.size a)
theorem k0_idx26_inb : ∀ (i : grid0.Coords) (v260 : IVec S16 32) (v289 : IVec S16 32) (k0_hw26 : k0_chk26 i v260 v289), ∀ (k0_h1 : k0_cond1 i = 1#1), ∀ a x, ((![v260, v289] : Fin 2 → IVec S16 32) a x).toNat < S192x8.size a := fun i v260 v289 k0_hw26 k0_h1 => k0_hw26 k0_h1

def k0_chk27 (i : grid0.Coords) (v260 : IVec S16 32) (v293 : IVec S16 32) : Prop :=
  (∀ (k0_h1 : k0_cond1 i = 1#1), ∀ a x, ((![v260, v293] : Fin 2 → IVec S16 32) a x).toNat < S192x8.size a)
theorem k0_idx27_inb : ∀ (i : grid0.Coords) (v260 : IVec S16 32) (v293 : IVec S16 32) (k0_hw27 : k0_chk27 i v260 v293), ∀ (k0_h1 : k0_cond1 i = 1#1), ∀ a x, ((![v260, v293] : Fin 2 → IVec S16 32) a x).toNat < S192x8.size a := fun i v260 v293 k0_hw27 k0_h1 => k0_hw27 k0_h1

def k0_chk28 (i : grid0.Coords) (v260 : IVec S16 32) (v297 : IVec S16 32) : Prop :=
  (∀ (k0_h1 : k0_cond1 i = 1#1), ∀ a x, ((![v260, v297] : Fin 2 → IVec S16 32) a x).toNat < S192x8.size a)
theorem k0_idx28_inb : ∀ (i : grid0.Coords) (v260 : IVec S16 32) (v297 : IVec S16 32) (k0_hw28 : k0_chk28 i v260 v297), ∀ (k0_h1 : k0_cond1 i = 1#1), ∀ a x, ((![v260, v297] : Fin 2 → IVec S16 32) a x).toNat < S192x8.size a := fun i v260 v297 k0_hw28 k0_h1 => k0_hw28 k0_h1

def k0_chk29 (i : grid0.Coords) (v359 : IVec S16 32) (v368 : IVec S16 32) : Prop :=
  (∀ (k0_h1 : k0_cond1 i = 1#1), ∀ a x, ((![v359, v368] : Fin 2 → IVec S16 32) a x).toNat < S192x8.size a)
theorem k0_idx29_inb : ∀ (i : grid0.Coords) (v359 : IVec S16 32) (v368 : IVec S16 32) (k0_hw29 : k0_chk29 i v359 v368), ∀ (k0_h1 : k0_cond1 i = 1#1), ∀ a x, ((![v359, v368] : Fin 2 → IVec S16 32) a x).toNat < S192x8.size a := fun i v359 v368 k0_hw29 k0_h1 => k0_hw29 k0_h1

def k0_chk30 (i : grid0.Coords) (v359 : IVec S16 32) (v372 : IVec S16 32) : Prop :=
  (∀ (k0_h1 : k0_cond1 i = 1#1), ∀ a x, ((![v359, v372] : Fin 2 → IVec S16 32) a x).toNat < S192x8.size a)
theorem k0_idx30_inb : ∀ (i : grid0.Coords) (v359 : IVec S16 32) (v372 : IVec S16 32) (k0_hw30 : k0_chk30 i v359 v372), ∀ (k0_h1 : k0_cond1 i = 1#1), ∀ a x, ((![v359, v372] : Fin 2 → IVec S16 32) a x).toNat < S192x8.size a := fun i v359 v372 k0_hw30 k0_h1 => k0_hw30 k0_h1

def k0_chk31 (i : grid0.Coords) (v359 : IVec S16 32) (v376 : IVec S16 32) : Prop :=
  (∀ (k0_h1 : k0_cond1 i = 1#1), ∀ a x, ((![v359, v376] : Fin 2 → IVec S16 32) a x).toNat < S192x8.size a)
theorem k0_idx31_inb : ∀ (i : grid0.Coords) (v359 : IVec S16 32) (v376 : IVec S16 32) (k0_hw31 : k0_chk31 i v359 v376), ∀ (k0_h1 : k0_cond1 i = 1#1), ∀ a x, ((![v359, v376] : Fin 2 → IVec S16 32) a x).toNat < S192x8.size a := fun i v359 v376 k0_hw31 k0_h1 => k0_hw31 k0_h1

def k0_chk32 (i : grid0.Coords) (v359 : IVec S16 32) (v380 : IVec S16 32) : Prop :=
  (∀ (k0_h1 : k0_cond1 i = 1#1), ∀ a x, ((![v359, v380] : Fin 2 → IVec S16 32) a x).toNat < S192x8.size a)
theorem k0_idx32_inb : ∀ (i : grid0.Coords) (v359 : IVec S16 32) (v380 : IVec S16 32) (k0_hw32 : k0_chk32 i v359 v380), ∀ (k0_h1 : k0_cond1 i = 1#1), ∀ a x, ((![v359, v380] : Fin 2 → IVec S16 32) a x).toNat < S192x8.size a := fun i v359 v380 k0_hw32 k0_h1 => k0_hw32 k0_h1

def k0_chk33 (i : grid0.Coords) (v359 : IVec S16 32) (v384 : IVec S16 32) : Prop :=
  (∀ (k0_h1 : k0_cond1 i = 1#1), ∀ a x, ((![v359, v384] : Fin 2 → IVec S16 32) a x).toNat < S192x8.size a)
theorem k0_idx33_inb : ∀ (i : grid0.Coords) (v359 : IVec S16 32) (v384 : IVec S16 32) (k0_hw33 : k0_chk33 i v359 v384), ∀ (k0_h1 : k0_cond1 i = 1#1), ∀ a x, ((![v359, v384] : Fin 2 → IVec S16 32) a x).toNat < S192x8.size a := fun i v359 v384 k0_hw33 k0_h1 => k0_hw33 k0_h1

def k0_chk34 (i : grid0.Coords) (v359 : IVec S16 32) (v388 : IVec S16 32) : Prop :=
  (∀ (k0_h1 : k0_cond1 i = 1#1), ∀ a x, ((![v359, v388] : Fin 2 → IVec S16 32) a x).toNat < S192x8.size a)
theorem k0_idx34_inb : ∀ (i : grid0.Coords) (v359 : IVec S16 32) (v388 : IVec S16 32) (k0_hw34 : k0_chk34 i v359 v388), ∀ (k0_h1 : k0_cond1 i = 1#1), ∀ a x, ((![v359, v388] : Fin 2 → IVec S16 32) a x).toNat < S192x8.size a := fun i v359 v388 k0_hw34 k0_h1 => k0_hw34 k0_h1

def k0_chk35 (i : grid0.Coords) (v359 : IVec S16 32) (v392 : IVec S16 32) : Prop :=
  (∀ (k0_h1 : k0_cond1 i = 1#1), ∀ a x, ((![v359, v392] : Fin 2 → IVec S16 32) a x).toNat < S192x8.size a)
theorem k0_idx35_inb : ∀ (i : grid0.Coords) (v359 : IVec S16 32) (v392 : IVec S16 32) (k0_hw35 : k0_chk35 i v359 v392), ∀ (k0_h1 : k0_cond1 i = 1#1), ∀ a x, ((![v359, v392] : Fin 2 → IVec S16 32) a x).toNat < S192x8.size a := fun i v359 v392 k0_hw35 k0_h1 => k0_hw35 k0_h1

def k0_chk36 (i : grid0.Coords) (v359 : IVec S16 32) (v396 : IVec S16 32) : Prop :=
  (∀ (k0_h1 : k0_cond1 i = 1#1), ∀ a x, ((![v359, v396] : Fin 2 → IVec S16 32) a x).toNat < S192x8.size a)
theorem k0_idx36_inb : ∀ (i : grid0.Coords) (v359 : IVec S16 32) (v396 : IVec S16 32) (k0_hw36 : k0_chk36 i v359 v396), ∀ (k0_h1 : k0_cond1 i = 1#1), ∀ a x, ((![v359, v396] : Fin 2 → IVec S16 32) a x).toNat < S192x8.size a := fun i v359 v396 k0_hw36 k0_h1 => k0_hw36 k0_h1

def k0_chk37 (i : grid0.Coords) (v458 : IVec S16 32) (v467 : IVec S16 32) : Prop :=
  (∀ (k0_h1 : k0_cond1 i = 1#1), ∀ a x, ((![v458, v467] : Fin 2 → IVec S16 32) a x).toNat < S192x8.size a)
theorem k0_idx37_inb : ∀ (i : grid0.Coords) (v458 : IVec S16 32) (v467 : IVec S16 32) (k0_hw37 : k0_chk37 i v458 v467), ∀ (k0_h1 : k0_cond1 i = 1#1), ∀ a x, ((![v458, v467] : Fin 2 → IVec S16 32) a x).toNat < S192x8.size a := fun i v458 v467 k0_hw37 k0_h1 => k0_hw37 k0_h1

def k0_chk38 (i : grid0.Coords) (v458 : IVec S16 32) (v471 : IVec S16 32) : Prop :=
  (∀ (k0_h1 : k0_cond1 i = 1#1), ∀ a x, ((![v458, v471] : Fin 2 → IVec S16 32) a x).toNat < S192x8.size a)
theorem k0_idx38_inb : ∀ (i : grid0.Coords) (v458 : IVec S16 32) (v471 : IVec S16 32) (k0_hw38 : k0_chk38 i v458 v471), ∀ (k0_h1 : k0_cond1 i = 1#1), ∀ a x, ((![v458, v471] : Fin 2 → IVec S16 32) a x).toNat < S192x8.size a := fun i v458 v471 k0_hw38 k0_h1 => k0_hw38 k0_h1

def k0_chk39 (i : grid0.Coords) (v458 : IVec S16 32) (v475 : IVec S16 32) : Prop :=
  (∀ (k0_h1 : k0_cond1 i = 1#1), ∀ a x, ((![v458, v475] : Fin 2 → IVec S16 32) a x).toNat < S192x8.size a)
theorem k0_idx39_inb : ∀ (i : grid0.Coords) (v458 : IVec S16 32) (v475 : IVec S16 32) (k0_hw39 : k0_chk39 i v458 v475), ∀ (k0_h1 : k0_cond1 i = 1#1), ∀ a x, ((![v458, v475] : Fin 2 → IVec S16 32) a x).toNat < S192x8.size a := fun i v458 v475 k0_hw39 k0_h1 => k0_hw39 k0_h1

def k0_chk40 (i : grid0.Coords) (v458 : IVec S16 32) (v479 : IVec S16 32) : Prop :=
  (∀ (k0_h1 : k0_cond1 i = 1#1), ∀ a x, ((![v458, v479] : Fin 2 → IVec S16 32) a x).toNat < S192x8.size a)
theorem k0_idx40_inb : ∀ (i : grid0.Coords) (v458 : IVec S16 32) (v479 : IVec S16 32) (k0_hw40 : k0_chk40 i v458 v479), ∀ (k0_h1 : k0_cond1 i = 1#1), ∀ a x, ((![v458, v479] : Fin 2 → IVec S16 32) a x).toNat < S192x8.size a := fun i v458 v479 k0_hw40 k0_h1 => k0_hw40 k0_h1

def k0_chk41 (i : grid0.Coords) (v458 : IVec S16 32) (v483 : IVec S16 32) : Prop :=
  (∀ (k0_h1 : k0_cond1 i = 1#1), ∀ a x, ((![v458, v483] : Fin 2 → IVec S16 32) a x).toNat < S192x8.size a)
theorem k0_idx41_inb : ∀ (i : grid0.Coords) (v458 : IVec S16 32) (v483 : IVec S16 32) (k0_hw41 : k0_chk41 i v458 v483), ∀ (k0_h1 : k0_cond1 i = 1#1), ∀ a x, ((![v458, v483] : Fin 2 → IVec S16 32) a x).toNat < S192x8.size a := fun i v458 v483 k0_hw41 k0_h1 => k0_hw41 k0_h1

def k0_chk42 (i : grid0.Coords) (v458 : IVec S16 32) (v487 : IVec S16 32) : Prop :=
  (∀ (k0_h1 : k0_cond1 i = 1#1), ∀ a x, ((![v458, v487] : Fin 2 → IVec S16 32) a x).toNat < S192x8.size a)
theorem k0_idx42_inb : ∀ (i : grid0.Coords) (v458 : IVec S16 32) (v487 : IVec S16 32) (k0_hw42 : k0_chk42 i v458 v487), ∀ (k0_h1 : k0_cond1 i = 1#1), ∀ a x, ((![v458, v487] : Fin 2 → IVec S16 32) a x).toNat < S192x8.size a := fun i v458 v487 k0_hw42 k0_h1 => k0_hw42 k0_h1

def k0_chk43 (i : grid0.Coords) (v458 : IVec S16 32) (v491 : IVec S16 32) : Prop :=
  (∀ (k0_h1 : k0_cond1 i = 1#1), ∀ a x, ((![v458, v491] : Fin 2 → IVec S16 32) a x).toNat < S192x8.size a)
theorem k0_idx43_inb : ∀ (i : grid0.Coords) (v458 : IVec S16 32) (v491 : IVec S16 32) (k0_hw43 : k0_chk43 i v458 v491), ∀ (k0_h1 : k0_cond1 i = 1#1), ∀ a x, ((![v458, v491] : Fin 2 → IVec S16 32) a x).toNat < S192x8.size a := fun i v458 v491 k0_hw43 k0_h1 => k0_hw43 k0_h1

def k0_chk44 (i : grid0.Coords) (v458 : IVec S16 32) (v495 : IVec S16 32) : Prop :=
  (∀ (k0_h1 : k0_cond1 i = 1#1), ∀ a x, ((![v458, v495] : Fin 2 → IVec S16 32) a x).toNat < S192x8.size a)
theorem k0_idx44_inb : ∀ (i : grid0.Coords) (v458 : IVec S16 32) (v495 : IVec S16 32) (k0_hw44 : k0_chk44 i v458 v495), ∀ (k0_h1 : k0_cond1 i = 1#1), ∀ a x, ((![v458, v495] : Fin 2 → IVec S16 32) a x).toNat < S192x8.size a := fun i v458 v495 k0_hw44 k0_h1 => k0_hw44 k0_h1

def k0_chk45 (i : grid0.Coords) (v557 : IVec S16 32) (v566 : IVec S16 32) : Prop :=
  (∀ (k0_h1 : k0_cond1 i = 1#1), ∀ a x, ((![v557, v566] : Fin 2 → IVec S16 32) a x).toNat < S192x8.size a)
theorem k0_idx45_inb : ∀ (i : grid0.Coords) (v557 : IVec S16 32) (v566 : IVec S16 32) (k0_hw45 : k0_chk45 i v557 v566), ∀ (k0_h1 : k0_cond1 i = 1#1), ∀ a x, ((![v557, v566] : Fin 2 → IVec S16 32) a x).toNat < S192x8.size a := fun i v557 v566 k0_hw45 k0_h1 => k0_hw45 k0_h1

def k0_chk46 (i : grid0.Coords) (v557 : IVec S16 32) (v570 : IVec S16 32) : Prop :=
  (∀ (k0_h1 : k0_cond1 i = 1#1), ∀ a x, ((![v557, v570] : Fin 2 → IVec S16 32) a x).toNat < S192x8.size a)
theorem k0_idx46_inb : ∀ (i : grid0.Coords) (v557 : IVec S16 32) (v570 : IVec S16 32) (k0_hw46 : k0_chk46 i v557 v570), ∀ (k0_h1 : k0_cond1 i = 1#1), ∀ a x, ((![v557, v570] : Fin 2 → IVec S16 32) a x).toNat < S192x8.size a := fun i v557 v570 k0_hw46 k0_h1 => k0_hw46 k0_h1

def k0_chk47 (i : grid0.Coords) (v557 : IVec S16 32) (v574 : IVec S16 32) : Prop :=
  (∀ (k0_h1 : k0_cond1 i = 1#1), ∀ a x, ((![v557, v574] : Fin 2 → IVec S16 32) a x).toNat < S192x8.size a)
theorem k0_idx47_inb : ∀ (i : grid0.Coords) (v557 : IVec S16 32) (v574 : IVec S16 32) (k0_hw47 : k0_chk47 i v557 v574), ∀ (k0_h1 : k0_cond1 i = 1#1), ∀ a x, ((![v557, v574] : Fin 2 → IVec S16 32) a x).toNat < S192x8.size a := fun i v557 v574 k0_hw47 k0_h1 => k0_hw47 k0_h1

def k0_chk48 (i : grid0.Coords) (v557 : IVec S16 32) (v578 : IVec S16 32) : Prop :=
  (∀ (k0_h1 : k0_cond1 i = 1#1), ∀ a x, ((![v557, v578] : Fin 2 → IVec S16 32) a x).toNat < S192x8.size a)
theorem k0_idx48_inb : ∀ (i : grid0.Coords) (v557 : IVec S16 32) (v578 : IVec S16 32) (k0_hw48 : k0_chk48 i v557 v578), ∀ (k0_h1 : k0_cond1 i = 1#1), ∀ a x, ((![v557, v578] : Fin 2 → IVec S16 32) a x).toNat < S192x8.size a := fun i v557 v578 k0_hw48 k0_h1 => k0_hw48 k0_h1

def k0_chk49 (i : grid0.Coords) (v557 : IVec S16 32) (v582 : IVec S16 32) : Prop :=
  (∀ (k0_h1 : k0_cond1 i = 1#1), ∀ a x, ((![v557, v582] : Fin 2 → IVec S16 32) a x).toNat < S192x8.size a)
theorem k0_idx49_inb : ∀ (i : grid0.Coords) (v557 : IVec S16 32) (v582 : IVec S16 32) (k0_hw49 : k0_chk49 i v557 v582), ∀ (k0_h1 : k0_cond1 i = 1#1), ∀ a x, ((![v557, v582] : Fin 2 → IVec S16 32) a x).toNat < S192x8.size a := fun i v557 v582 k0_hw49 k0_h1 => k0_hw49 k0_h1

def k0_chk50 (i : grid0.Coords) (v557 : IVec S16 32) (v586 : IVec S16 32) : Prop :=
  (∀ (k0_h1 : k0_cond1 i = 1#1), ∀ a x, ((![v557, v586] : Fin 2 → IVec S16 32) a x).toNat < S192x8.size a)
theorem k0_idx50_inb : ∀ (i : grid0.Coords) (v557 : IVec S16 32) (v586 : IVec S16 32) (k0_hw50 : k0_chk50 i v557 v586), ∀ (k0_h1 : k0_cond1 i = 1#1), ∀ a x, ((![v557, v586] : Fin 2 → IVec S16 32) a x).toNat < S192x8.size a := fun i v557 v586 k0_hw50 k0_h1 => k0_hw50 k0_h1

def k0_chk51 (i : grid0.Coords) (v557 : IVec S16 32) (v590 : IVec S16 32) : Prop :=
  (∀ (k0_h1 : k0_cond1 i = 1#1), ∀ a x, ((![v557, v590] : Fin 2 → IVec S16 32) a x).toNat < S192x8.size a)
theorem k0_idx51_inb : ∀ (i : grid0.Coords) (v557 : IVec S16 32) (v590 : IVec S16 32) (k0_hw51 : k0_chk51 i v557 v590), ∀ (k0_h1 : k0_cond1 i = 1#1), ∀ a x, ((![v557, v590] : Fin 2 → IVec S16 32) a x).toNat < S192x8.size a := fun i v557 v590 k0_hw51 k0_h1 => k0_hw51 k0_h1

def k0_chk52 (i : grid0.Coords) (v557 : IVec S16 32) (v594 : IVec S16 32) : Prop :=
  (∀ (k0_h1 : k0_cond1 i = 1#1), ∀ a x, ((![v557, v594] : Fin 2 → IVec S16 32) a x).toNat < S192x8.size a)
theorem k0_idx52_inb : ∀ (i : grid0.Coords) (v557 : IVec S16 32) (v594 : IVec S16 32) (k0_hw52 : k0_chk52 i v557 v594), ∀ (k0_h1 : k0_cond1 i = 1#1), ∀ a x, ((![v557, v594] : Fin 2 → IVec S16 32) a x).toNat < S192x8.size a := fun i v557 v594 k0_hw52 k0_h1 => k0_hw52 k0_h1

def k0_chk53 (i : grid0.Coords) (v656 : IVec S16 32) (v665 : IVec S16 32) : Prop :=
  (∀ (k0_h1 : k0_cond1 i = 1#1), ∀ a x, ((![v656, v665] : Fin 2 → IVec S16 32) a x).toNat < S192x8.size a)
theorem k0_idx53_inb : ∀ (i : grid0.Coords) (v656 : IVec S16 32) (v665 : IVec S16 32) (k0_hw53 : k0_chk53 i v656 v665), ∀ (k0_h1 : k0_cond1 i = 1#1), ∀ a x, ((![v656, v665] : Fin 2 → IVec S16 32) a x).toNat < S192x8.size a := fun i v656 v665 k0_hw53 k0_h1 => k0_hw53 k0_h1

def k0_chk54 (i : grid0.Coords) (v656 : IVec S16 32) (v669 : IVec S16 32) : Prop :=
  (∀ (k0_h1 : k0_cond1 i = 1#1), ∀ a x, ((![v656, v669] : Fin 2 → IVec S16 32) a x).toNat < S192x8.size a)
theorem k0_idx54_inb : ∀ (i : grid0.Coords) (v656 : IVec S16 32) (v669 : IVec S16 32) (k0_hw54 : k0_chk54 i v656 v669), ∀ (k0_h1 : k0_cond1 i = 1#1), ∀ a x, ((![v656, v669] : Fin 2 → IVec S16 32) a x).toNat < S192x8.size a := fun i v656 v669 k0_hw54 k0_h1 => k0_hw54 k0_h1

def k0_chk55 (i : grid0.Coords) (v656 : IVec S16 32) (v673 : IVec S16 32) : Prop :=
  (∀ (k0_h1 : k0_cond1 i = 1#1), ∀ a x, ((![v656, v673] : Fin 2 → IVec S16 32) a x).toNat < S192x8.size a)
theorem k0_idx55_inb : ∀ (i : grid0.Coords) (v656 : IVec S16 32) (v673 : IVec S16 32) (k0_hw55 : k0_chk55 i v656 v673), ∀ (k0_h1 : k0_cond1 i = 1#1), ∀ a x, ((![v656, v673] : Fin 2 → IVec S16 32) a x).toNat < S192x8.size a := fun i v656 v673 k0_hw55 k0_h1 => k0_hw55 k0_h1

def k0_chk56 (i : grid0.Coords) (v656 : IVec S16 32) (v677 : IVec S16 32) : Prop :=
  (∀ (k0_h1 : k0_cond1 i = 1#1), ∀ a x, ((![v656, v677] : Fin 2 → IVec S16 32) a x).toNat < S192x8.size a)
theorem k0_idx56_inb : ∀ (i : grid0.Coords) (v656 : IVec S16 32) (v677 : IVec S16 32) (k0_hw56 : k0_chk56 i v656 v677), ∀ (k0_h1 : k0_cond1 i = 1#1), ∀ a x, ((![v656, v677] : Fin 2 → IVec S16 32) a x).toNat < S192x8.size a := fun i v656 v677 k0_hw56 k0_h1 => k0_hw56 k0_h1

def k0_chk57 (i : grid0.Coords) (v656 : IVec S16 32) (v681 : IVec S16 32) : Prop :=
  (∀ (k0_h1 : k0_cond1 i = 1#1), ∀ a x, ((![v656, v681] : Fin 2 → IVec S16 32) a x).toNat < S192x8.size a)
theorem k0_idx57_inb : ∀ (i : grid0.Coords) (v656 : IVec S16 32) (v681 : IVec S16 32) (k0_hw57 : k0_chk57 i v656 v681), ∀ (k0_h1 : k0_cond1 i = 1#1), ∀ a x, ((![v656, v681] : Fin 2 → IVec S16 32) a x).toNat < S192x8.size a := fun i v656 v681 k0_hw57 k0_h1 => k0_hw57 k0_h1

def k0_chk58 (i : grid0.Coords) (v656 : IVec S16 32) (v685 : IVec S16 32) : Prop :=
  (∀ (k0_h1 : k0_cond1 i = 1#1), ∀ a x, ((![v656, v685] : Fin 2 → IVec S16 32) a x).toNat < S192x8.size a)
theorem k0_idx58_inb : ∀ (i : grid0.Coords) (v656 : IVec S16 32) (v685 : IVec S16 32) (k0_hw58 : k0_chk58 i v656 v685), ∀ (k0_h1 : k0_cond1 i = 1#1), ∀ a x, ((![v656, v685] : Fin 2 → IVec S16 32) a x).toNat < S192x8.size a := fun i v656 v685 k0_hw58 k0_h1 => k0_hw58 k0_h1

def k0_chk59 (i : grid0.Coords) (v656 : IVec S16 32) (v689 : IVec S16 32) : Prop :=
  (∀ (k0_h1 : k0_cond1 i = 1#1), ∀ a x, ((![v656, v689] : Fin 2 → IVec S16 32) a x).toNat < S192x8.size a)
theorem k0_idx59_inb : ∀ (i : grid0.Coords) (v656 : IVec S16 32) (v689 : IVec S16 32) (k0_hw59 : k0_chk59 i v656 v689), ∀ (k0_h1 : k0_cond1 i = 1#1), ∀ a x, ((![v656, v689] : Fin 2 → IVec S16 32) a x).toNat < S192x8.size a := fun i v656 v689 k0_hw59 k0_h1 => k0_hw59 k0_h1

def k0_chk60 (i : grid0.Coords) (v656 : IVec S16 32) (v693 : IVec S16 32) : Prop :=
  (∀ (k0_h1 : k0_cond1 i = 1#1), ∀ a x, ((![v656, v693] : Fin 2 → IVec S16 32) a x).toNat < S192x8.size a)
theorem k0_idx60_inb : ∀ (i : grid0.Coords) (v656 : IVec S16 32) (v693 : IVec S16 32) (k0_hw60 : k0_chk60 i v656 v693), ∀ (k0_h1 : k0_cond1 i = 1#1), ∀ a x, ((![v656, v693] : Fin 2 → IVec S16 32) a x).toNat < S192x8.size a := fun i v656 v693 k0_hw60 k0_h1 => k0_hw60 k0_h1

def k0_chk61 (i : grid0.Coords) (v755 : IVec S16 32) (v764 : IVec S16 32) : Prop :=
  (∀ (k0_h1 : k0_cond1 i = 1#1), ∀ a x, ((![v755, v764] : Fin 2 → IVec S16 32) a x).toNat < S192x8.size a)
theorem k0_idx61_inb : ∀ (i : grid0.Coords) (v755 : IVec S16 32) (v764 : IVec S16 32) (k0_hw61 : k0_chk61 i v755 v764), ∀ (k0_h1 : k0_cond1 i = 1#1), ∀ a x, ((![v755, v764] : Fin 2 → IVec S16 32) a x).toNat < S192x8.size a := fun i v755 v764 k0_hw61 k0_h1 => k0_hw61 k0_h1

def k0_chk62 (i : grid0.Coords) (v755 : IVec S16 32) (v768 : IVec S16 32) : Prop :=
  (∀ (k0_h1 : k0_cond1 i = 1#1), ∀ a x, ((![v755, v768] : Fin 2 → IVec S16 32) a x).toNat < S192x8.size a)
theorem k0_idx62_inb : ∀ (i : grid0.Coords) (v755 : IVec S16 32) (v768 : IVec S16 32) (k0_hw62 : k0_chk62 i v755 v768), ∀ (k0_h1 : k0_cond1 i = 1#1), ∀ a x, ((![v755, v768] : Fin 2 → IVec S16 32) a x).toNat < S192x8.size a := fun i v755 v768 k0_hw62 k0_h1 => k0_hw62 k0_h1

def k0_chk63 (i : grid0.Coords) (v755 : IVec S16 32) (v772 : IVec S16 32) : Prop :=
  (∀ (k0_h1 : k0_cond1 i = 1#1), ∀ a x, ((![v755, v772] : Fin 2 → IVec S16 32) a x).toNat < S192x8.size a)
theorem k0_idx63_inb : ∀ (i : grid0.Coords) (v755 : IVec S16 32) (v772 : IVec S16 32) (k0_hw63 : k0_chk63 i v755 v772), ∀ (k0_h1 : k0_cond1 i = 1#1), ∀ a x, ((![v755, v772] : Fin 2 → IVec S16 32) a x).toNat < S192x8.size a := fun i v755 v772 k0_hw63 k0_h1 => k0_hw63 k0_h1

def k0_chk64 (i : grid0.Coords) (v755 : IVec S16 32) (v776 : IVec S16 32) : Prop :=
  (∀ (k0_h1 : k0_cond1 i = 1#1), ∀ a x, ((![v755, v776] : Fin 2 → IVec S16 32) a x).toNat < S192x8.size a)
theorem k0_idx64_inb : ∀ (i : grid0.Coords) (v755 : IVec S16 32) (v776 : IVec S16 32) (k0_hw64 : k0_chk64 i v755 v776), ∀ (k0_h1 : k0_cond1 i = 1#1), ∀ a x, ((![v755, v776] : Fin 2 → IVec S16 32) a x).toNat < S192x8.size a := fun i v755 v776 k0_hw64 k0_h1 => k0_hw64 k0_h1

def k0_chk65 (i : grid0.Coords) (v755 : IVec S16 32) (v780 : IVec S16 32) : Prop :=
  (∀ (k0_h1 : k0_cond1 i = 1#1), ∀ a x, ((![v755, v780] : Fin 2 → IVec S16 32) a x).toNat < S192x8.size a)
theorem k0_idx65_inb : ∀ (i : grid0.Coords) (v755 : IVec S16 32) (v780 : IVec S16 32) (k0_hw65 : k0_chk65 i v755 v780), ∀ (k0_h1 : k0_cond1 i = 1#1), ∀ a x, ((![v755, v780] : Fin 2 → IVec S16 32) a x).toNat < S192x8.size a := fun i v755 v780 k0_hw65 k0_h1 => k0_hw65 k0_h1

def k0_chk66 (i : grid0.Coords) (v755 : IVec S16 32) (v784 : IVec S16 32) : Prop :=
  (∀ (k0_h1 : k0_cond1 i = 1#1), ∀ a x, ((![v755, v784] : Fin 2 → IVec S16 32) a x).toNat < S192x8.size a)
theorem k0_idx66_inb : ∀ (i : grid0.Coords) (v755 : IVec S16 32) (v784 : IVec S16 32) (k0_hw66 : k0_chk66 i v755 v784), ∀ (k0_h1 : k0_cond1 i = 1#1), ∀ a x, ((![v755, v784] : Fin 2 → IVec S16 32) a x).toNat < S192x8.size a := fun i v755 v784 k0_hw66 k0_h1 => k0_hw66 k0_h1

def k0_chk67 (i : grid0.Coords) (v755 : IVec S16 32) (v788 : IVec S16 32) : Prop :=
  (∀ (k0_h1 : k0_cond1 i = 1#1), ∀ a x, ((![v755, v788] : Fin 2 → IVec S16 32) a x).toNat < S192x8.size a)
theorem k0_idx67_inb : ∀ (i : grid0.Coords) (v755 : IVec S16 32) (v788 : IVec S16 32) (k0_hw67 : k0_chk67 i v755 v788), ∀ (k0_h1 : k0_cond1 i = 1#1), ∀ a x, ((![v755, v788] : Fin 2 → IVec S16 32) a x).toNat < S192x8.size a := fun i v755 v788 k0_hw67 k0_h1 => k0_hw67 k0_h1

def k0_chk68 (i : grid0.Coords) (v755 : IVec S16 32) (v792 : IVec S16 32) : Prop :=
  (∀ (k0_h1 : k0_cond1 i = 1#1), ∀ a x, ((![v755, v792] : Fin 2 → IVec S16 32) a x).toNat < S192x8.size a)
theorem k0_idx68_inb : ∀ (i : grid0.Coords) (v755 : IVec S16 32) (v792 : IVec S16 32) (k0_hw68 : k0_chk68 i v755 v792), ∀ (k0_h1 : k0_cond1 i = 1#1), ∀ a x, ((![v755, v792] : Fin 2 → IVec S16 32) a x).toNat < S192x8.size a := fun i v755 v792 k0_hw68 k0_h1 => k0_hw68 k0_h1

def k0_chk69 (i : grid0.Coords) (v854 : IVec S16 32) (v863 : IVec S16 32) : Prop :=
  (∀ (k0_h1 : k0_cond1 i = 1#1), ∀ a x, ((![v854, v863] : Fin 2 → IVec S16 32) a x).toNat < S192x8.size a)
theorem k0_idx69_inb : ∀ (i : grid0.Coords) (v854 : IVec S16 32) (v863 : IVec S16 32) (k0_hw69 : k0_chk69 i v854 v863), ∀ (k0_h1 : k0_cond1 i = 1#1), ∀ a x, ((![v854, v863] : Fin 2 → IVec S16 32) a x).toNat < S192x8.size a := fun i v854 v863 k0_hw69 k0_h1 => k0_hw69 k0_h1

def k0_chk70 (i : grid0.Coords) (v854 : IVec S16 32) (v867 : IVec S16 32) : Prop :=
  (∀ (k0_h1 : k0_cond1 i = 1#1), ∀ a x, ((![v854, v867] : Fin 2 → IVec S16 32) a x).toNat < S192x8.size a)
theorem k0_idx70_inb : ∀ (i : grid0.Coords) (v854 : IVec S16 32) (v867 : IVec S16 32) (k0_hw70 : k0_chk70 i v854 v867), ∀ (k0_h1 : k0_cond1 i = 1#1), ∀ a x, ((![v854, v867] : Fin 2 → IVec S16 32) a x).toNat < S192x8.size a := fun i v854 v867 k0_hw70 k0_h1 => k0_hw70 k0_h1

def k0_chk71 (i : grid0.Coords) (v854 : IVec S16 32) (v871 : IVec S16 32) : Prop :=
  (∀ (k0_h1 : k0_cond1 i = 1#1), ∀ a x, ((![v854, v871] : Fin 2 → IVec S16 32) a x).toNat < S192x8.size a)
theorem k0_idx71_inb : ∀ (i : grid0.Coords) (v854 : IVec S16 32) (v871 : IVec S16 32) (k0_hw71 : k0_chk71 i v854 v871), ∀ (k0_h1 : k0_cond1 i = 1#1), ∀ a x, ((![v854, v871] : Fin 2 → IVec S16 32) a x).toNat < S192x8.size a := fun i v854 v871 k0_hw71 k0_h1 => k0_hw71 k0_h1

def k0_chk72 (i : grid0.Coords) (v854 : IVec S16 32) (v875 : IVec S16 32) : Prop :=
  (∀ (k0_h1 : k0_cond1 i = 1#1), ∀ a x, ((![v854, v875] : Fin 2 → IVec S16 32) a x).toNat < S192x8.size a)
theorem k0_idx72_inb : ∀ (i : grid0.Coords) (v854 : IVec S16 32) (v875 : IVec S16 32) (k0_hw72 : k0_chk72 i v854 v875), ∀ (k0_h1 : k0_cond1 i = 1#1), ∀ a x, ((![v854, v875] : Fin 2 → IVec S16 32) a x).toNat < S192x8.size a := fun i v854 v875 k0_hw72 k0_h1 => k0_hw72 k0_h1

def k0_chk73 (i : grid0.Coords) (v854 : IVec S16 32) (v879 : IVec S16 32) : Prop :=
  (∀ (k0_h1 : k0_cond1 i = 1#1), ∀ a x, ((![v854, v879] : Fin 2 → IVec S16 32) a x).toNat < S192x8.size a)
theorem k0_idx73_inb : ∀ (i : grid0.Coords) (v854 : IVec S16 32) (v879 : IVec S16 32) (k0_hw73 : k0_chk73 i v854 v879), ∀ (k0_h1 : k0_cond1 i = 1#1), ∀ a x, ((![v854, v879] : Fin 2 → IVec S16 32) a x).toNat < S192x8.size a := fun i v854 v879 k0_hw73 k0_h1 => k0_hw73 k0_h1

def k0_chk74 (i : grid0.Coords) (v854 : IVec S16 32) (v883 : IVec S16 32) : Prop :=
  (∀ (k0_h1 : k0_cond1 i = 1#1), ∀ a x, ((![v854, v883] : Fin 2 → IVec S16 32) a x).toNat < S192x8.size a)
theorem k0_idx74_inb : ∀ (i : grid0.Coords) (v854 : IVec S16 32) (v883 : IVec S16 32) (k0_hw74 : k0_chk74 i v854 v883), ∀ (k0_h1 : k0_cond1 i = 1#1), ∀ a x, ((![v854, v883] : Fin 2 → IVec S16 32) a x).toNat < S192x8.size a := fun i v854 v883 k0_hw74 k0_h1 => k0_hw74 k0_h1

def k0_chk75 (i : grid0.Coords) (v854 : IVec S16 32) (v887 : IVec S16 32) : Prop :=
  (∀ (k0_h1 : k0_cond1 i = 1#1), ∀ a x, ((![v854, v887] : Fin 2 → IVec S16 32) a x).toNat < S192x8.size a)
theorem k0_idx75_inb : ∀ (i : grid0.Coords) (v854 : IVec S16 32) (v887 : IVec S16 32) (k0_hw75 : k0_chk75 i v854 v887), ∀ (k0_h1 : k0_cond1 i = 1#1), ∀ a x, ((![v854, v887] : Fin 2 → IVec S16 32) a x).toNat < S192x8.size a := fun i v854 v887 k0_hw75 k0_h1 => k0_hw75 k0_h1

def k0_chk76 (i : grid0.Coords) (v854 : IVec S16 32) (v891 : IVec S16 32) : Prop :=
  (∀ (k0_h1 : k0_cond1 i = 1#1), ∀ a x, ((![v854, v891] : Fin 2 → IVec S16 32) a x).toNat < S192x8.size a)
theorem k0_idx76_inb : ∀ (i : grid0.Coords) (v854 : IVec S16 32) (v891 : IVec S16 32) (k0_hw76 : k0_chk76 i v854 v891), ∀ (k0_h1 : k0_cond1 i = 1#1), ∀ a x, ((![v854, v891] : Fin 2 → IVec S16 32) a x).toNat < S192x8.size a := fun i v854 v891 k0_hw76 k0_h1 => k0_hw76 k0_h1

def k0_chk77 (i : grid0.Coords) (v953 : IVec S16 32) (v962 : IVec S16 32) : Prop :=
  (∀ (k0_h1 : k0_cond1 i = 1#1), ∀ a x, ((![v953, v962] : Fin 2 → IVec S16 32) a x).toNat < S192x8.size a)
theorem k0_idx77_inb : ∀ (i : grid0.Coords) (v953 : IVec S16 32) (v962 : IVec S16 32) (k0_hw77 : k0_chk77 i v953 v962), ∀ (k0_h1 : k0_cond1 i = 1#1), ∀ a x, ((![v953, v962] : Fin 2 → IVec S16 32) a x).toNat < S192x8.size a := fun i v953 v962 k0_hw77 k0_h1 => k0_hw77 k0_h1

def k0_chk78 (i : grid0.Coords) (v953 : IVec S16 32) (v966 : IVec S16 32) : Prop :=
  (∀ (k0_h1 : k0_cond1 i = 1#1), ∀ a x, ((![v953, v966] : Fin 2 → IVec S16 32) a x).toNat < S192x8.size a)
theorem k0_idx78_inb : ∀ (i : grid0.Coords) (v953 : IVec S16 32) (v966 : IVec S16 32) (k0_hw78 : k0_chk78 i v953 v966), ∀ (k0_h1 : k0_cond1 i = 1#1), ∀ a x, ((![v953, v966] : Fin 2 → IVec S16 32) a x).toNat < S192x8.size a := fun i v953 v966 k0_hw78 k0_h1 => k0_hw78 k0_h1

def k0_chk79 (i : grid0.Coords) (v953 : IVec S16 32) (v970 : IVec S16 32) : Prop :=
  (∀ (k0_h1 : k0_cond1 i = 1#1), ∀ a x, ((![v953, v970] : Fin 2 → IVec S16 32) a x).toNat < S192x8.size a)
theorem k0_idx79_inb : ∀ (i : grid0.Coords) (v953 : IVec S16 32) (v970 : IVec S16 32) (k0_hw79 : k0_chk79 i v953 v970), ∀ (k0_h1 : k0_cond1 i = 1#1), ∀ a x, ((![v953, v970] : Fin 2 → IVec S16 32) a x).toNat < S192x8.size a := fun i v953 v970 k0_hw79 k0_h1 => k0_hw79 k0_h1

def k0_chk80 (i : grid0.Coords) (v953 : IVec S16 32) (v974 : IVec S16 32) : Prop :=
  (∀ (k0_h1 : k0_cond1 i = 1#1), ∀ a x, ((![v953, v974] : Fin 2 → IVec S16 32) a x).toNat < S192x8.size a)
theorem k0_idx80_inb : ∀ (i : grid0.Coords) (v953 : IVec S16 32) (v974 : IVec S16 32) (k0_hw80 : k0_chk80 i v953 v974), ∀ (k0_h1 : k0_cond1 i = 1#1), ∀ a x, ((![v953, v974] : Fin 2 → IVec S16 32) a x).toNat < S192x8.size a := fun i v953 v974 k0_hw80 k0_h1 => k0_hw80 k0_h1

def k0_chk81 (i : grid0.Coords) (v953 : IVec S16 32) (v978 : IVec S16 32) : Prop :=
  (∀ (k0_h1 : k0_cond1 i = 1#1), ∀ a x, ((![v953, v978] : Fin 2 → IVec S16 32) a x).toNat < S192x8.size a)
theorem k0_idx81_inb : ∀ (i : grid0.Coords) (v953 : IVec S16 32) (v978 : IVec S16 32) (k0_hw81 : k0_chk81 i v953 v978), ∀ (k0_h1 : k0_cond1 i = 1#1), ∀ a x, ((![v953, v978] : Fin 2 → IVec S16 32) a x).toNat < S192x8.size a := fun i v953 v978 k0_hw81 k0_h1 => k0_hw81 k0_h1

def k0_chk82 (i : grid0.Coords) (v953 : IVec S16 32) (v982 : IVec S16 32) : Prop :=
  (∀ (k0_h1 : k0_cond1 i = 1#1), ∀ a x, ((![v953, v982] : Fin 2 → IVec S16 32) a x).toNat < S192x8.size a)
theorem k0_idx82_inb : ∀ (i : grid0.Coords) (v953 : IVec S16 32) (v982 : IVec S16 32) (k0_hw82 : k0_chk82 i v953 v982), ∀ (k0_h1 : k0_cond1 i = 1#1), ∀ a x, ((![v953, v982] : Fin 2 → IVec S16 32) a x).toNat < S192x8.size a := fun i v953 v982 k0_hw82 k0_h1 => k0_hw82 k0_h1

def k0_chk83 (i : grid0.Coords) (v953 : IVec S16 32) (v986 : IVec S16 32) : Prop :=
  (∀ (k0_h1 : k0_cond1 i = 1#1), ∀ a x, ((![v953, v986] : Fin 2 → IVec S16 32) a x).toNat < S192x8.size a)
theorem k0_idx83_inb : ∀ (i : grid0.Coords) (v953 : IVec S16 32) (v986 : IVec S16 32) (k0_hw83 : k0_chk83 i v953 v986), ∀ (k0_h1 : k0_cond1 i = 1#1), ∀ a x, ((![v953, v986] : Fin 2 → IVec S16 32) a x).toNat < S192x8.size a := fun i v953 v986 k0_hw83 k0_h1 => k0_hw83 k0_h1

def k0_chk84 (i : grid0.Coords) (v953 : IVec S16 32) (v990 : IVec S16 32) : Prop :=
  (∀ (k0_h1 : k0_cond1 i = 1#1), ∀ a x, ((![v953, v990] : Fin 2 → IVec S16 32) a x).toNat < S192x8.size a)
theorem k0_idx84_inb : ∀ (i : grid0.Coords) (v953 : IVec S16 32) (v990 : IVec S16 32) (k0_hw84 : k0_chk84 i v953 v990), ∀ (k0_h1 : k0_cond1 i = 1#1), ∀ a x, ((![v953, v990] : Fin 2 → IVec S16 32) a x).toNat < S192x8.size a := fun i v953 v990 k0_hw84 k0_h1 => k0_hw84 k0_h1

def k0_chk85 (i : grid0.Coords) (v1052 : IVec S16 32) (v1061 : IVec S16 32) : Prop :=
  (∀ (k0_h1 : k0_cond1 i = 1#1), ∀ a x, ((![v1052, v1061] : Fin 2 → IVec S16 32) a x).toNat < S192x8.size a)
theorem k0_idx85_inb : ∀ (i : grid0.Coords) (v1052 : IVec S16 32) (v1061 : IVec S16 32) (k0_hw85 : k0_chk85 i v1052 v1061), ∀ (k0_h1 : k0_cond1 i = 1#1), ∀ a x, ((![v1052, v1061] : Fin 2 → IVec S16 32) a x).toNat < S192x8.size a := fun i v1052 v1061 k0_hw85 k0_h1 => k0_hw85 k0_h1

def k0_chk86 (i : grid0.Coords) (v1052 : IVec S16 32) (v1065 : IVec S16 32) : Prop :=
  (∀ (k0_h1 : k0_cond1 i = 1#1), ∀ a x, ((![v1052, v1065] : Fin 2 → IVec S16 32) a x).toNat < S192x8.size a)
theorem k0_idx86_inb : ∀ (i : grid0.Coords) (v1052 : IVec S16 32) (v1065 : IVec S16 32) (k0_hw86 : k0_chk86 i v1052 v1065), ∀ (k0_h1 : k0_cond1 i = 1#1), ∀ a x, ((![v1052, v1065] : Fin 2 → IVec S16 32) a x).toNat < S192x8.size a := fun i v1052 v1065 k0_hw86 k0_h1 => k0_hw86 k0_h1

def k0_chk87 (i : grid0.Coords) (v1052 : IVec S16 32) (v1069 : IVec S16 32) : Prop :=
  (∀ (k0_h1 : k0_cond1 i = 1#1), ∀ a x, ((![v1052, v1069] : Fin 2 → IVec S16 32) a x).toNat < S192x8.size a)
theorem k0_idx87_inb : ∀ (i : grid0.Coords) (v1052 : IVec S16 32) (v1069 : IVec S16 32) (k0_hw87 : k0_chk87 i v1052 v1069), ∀ (k0_h1 : k0_cond1 i = 1#1), ∀ a x, ((![v1052, v1069] : Fin 2 → IVec S16 32) a x).toNat < S192x8.size a := fun i v1052 v1069 k0_hw87 k0_h1 => k0_hw87 k0_h1

def k0_chk88 (i : grid0.Coords) (v1052 : IVec S16 32) (v1073 : IVec S16 32) : Prop :=
  (∀ (k0_h1 : k0_cond1 i = 1#1), ∀ a x, ((![v1052, v1073] : Fin 2 → IVec S16 32) a x).toNat < S192x8.size a)
theorem k0_idx88_inb : ∀ (i : grid0.Coords) (v1052 : IVec S16 32) (v1073 : IVec S16 32) (k0_hw88 : k0_chk88 i v1052 v1073), ∀ (k0_h1 : k0_cond1 i = 1#1), ∀ a x, ((![v1052, v1073] : Fin 2 → IVec S16 32) a x).toNat < S192x8.size a := fun i v1052 v1073 k0_hw88 k0_h1 => k0_hw88 k0_h1

def k0_chk89 (i : grid0.Coords) (v1052 : IVec S16 32) (v1077 : IVec S16 32) : Prop :=
  (∀ (k0_h1 : k0_cond1 i = 1#1), ∀ a x, ((![v1052, v1077] : Fin 2 → IVec S16 32) a x).toNat < S192x8.size a)
theorem k0_idx89_inb : ∀ (i : grid0.Coords) (v1052 : IVec S16 32) (v1077 : IVec S16 32) (k0_hw89 : k0_chk89 i v1052 v1077), ∀ (k0_h1 : k0_cond1 i = 1#1), ∀ a x, ((![v1052, v1077] : Fin 2 → IVec S16 32) a x).toNat < S192x8.size a := fun i v1052 v1077 k0_hw89 k0_h1 => k0_hw89 k0_h1

def k0_chk90 (i : grid0.Coords) (v1052 : IVec S16 32) (v1081 : IVec S16 32) : Prop :=
  (∀ (k0_h1 : k0_cond1 i = 1#1), ∀ a x, ((![v1052, v1081] : Fin 2 → IVec S16 32) a x).toNat < S192x8.size a)
theorem k0_idx90_inb : ∀ (i : grid0.Coords) (v1052 : IVec S16 32) (v1081 : IVec S16 32) (k0_hw90 : k0_chk90 i v1052 v1081), ∀ (k0_h1 : k0_cond1 i = 1#1), ∀ a x, ((![v1052, v1081] : Fin 2 → IVec S16 32) a x).toNat < S192x8.size a := fun i v1052 v1081 k0_hw90 k0_h1 => k0_hw90 k0_h1

def k0_chk91 (i : grid0.Coords) (v1052 : IVec S16 32) (v1085 : IVec S16 32) : Prop :=
  (∀ (k0_h1 : k0_cond1 i = 1#1), ∀ a x, ((![v1052, v1085] : Fin 2 → IVec S16 32) a x).toNat < S192x8.size a)
theorem k0_idx91_inb : ∀ (i : grid0.Coords) (v1052 : IVec S16 32) (v1085 : IVec S16 32) (k0_hw91 : k0_chk91 i v1052 v1085), ∀ (k0_h1 : k0_cond1 i = 1#1), ∀ a x, ((![v1052, v1085] : Fin 2 → IVec S16 32) a x).toNat < S192x8.size a := fun i v1052 v1085 k0_hw91 k0_h1 => k0_hw91 k0_h1

def k0_chk92 (i : grid0.Coords) (v1052 : IVec S16 32) (v1089 : IVec S16 32) : Prop :=
  (∀ (k0_h1 : k0_cond1 i = 1#1), ∀ a x, ((![v1052, v1089] : Fin 2 → IVec S16 32) a x).toNat < S192x8.size a)
theorem k0_idx92_inb : ∀ (i : grid0.Coords) (v1052 : IVec S16 32) (v1089 : IVec S16 32) (k0_hw92 : k0_chk92 i v1052 v1089), ∀ (k0_h1 : k0_cond1 i = 1#1), ∀ a x, ((![v1052, v1089] : Fin 2 → IVec S16 32) a x).toNat < S192x8.size a := fun i v1052 v1089 k0_hw92 k0_h1 => k0_hw92 k0_h1

def k0_chk93 (i : grid0.Coords) (v1151 : IVec S16 32) (v1160 : IVec S16 32) : Prop :=
  (∀ (k0_h1 : k0_cond1 i = 1#1), ∀ a x, ((![v1151, v1160] : Fin 2 → IVec S16 32) a x).toNat < S192x8.size a)
theorem k0_idx93_inb : ∀ (i : grid0.Coords) (v1151 : IVec S16 32) (v1160 : IVec S16 32) (k0_hw93 : k0_chk93 i v1151 v1160), ∀ (k0_h1 : k0_cond1 i = 1#1), ∀ a x, ((![v1151, v1160] : Fin 2 → IVec S16 32) a x).toNat < S192x8.size a := fun i v1151 v1160 k0_hw93 k0_h1 => k0_hw93 k0_h1

def k0_chk94 (i : grid0.Coords) (v1151 : IVec S16 32) (v1164 : IVec S16 32) : Prop :=
  (∀ (k0_h1 : k0_cond1 i = 1#1), ∀ a x, ((![v1151, v1164] : Fin 2 → IVec S16 32) a x).toNat < S192x8.size a)
theorem k0_idx94_inb : ∀ (i : grid0.Coords) (v1151 : IVec S16 32) (v1164 : IVec S16 32) (k0_hw94 : k0_chk94 i v1151 v1164), ∀ (k0_h1 : k0_cond1 i = 1#1), ∀ a x, ((![v1151, v1164] : Fin 2 → IVec S16 32) a x).toNat < S192x8.size a := fun i v1151 v1164 k0_hw94 k0_h1 => k0_hw94 k0_h1

def k0_chk95 (i : grid0.Coords) (v1151 : IVec S16 32) (v1168 : IVec S16 32) : Prop :=
  (∀ (k0_h1 : k0_cond1 i = 1#1), ∀ a x, ((![v1151, v1168] : Fin 2 → IVec S16 32) a x).toNat < S192x8.size a)
theorem k0_idx95_inb : ∀ (i : grid0.Coords) (v1151 : IVec S16 32) (v1168 : IVec S16 32) (k0_hw95 : k0_chk95 i v1151 v1168), ∀ (k0_h1 : k0_cond1 i = 1#1), ∀ a x, ((![v1151, v1168] : Fin 2 → IVec S16 32) a x).toNat < S192x8.size a := fun i v1151 v1168 k0_hw95 k0_h1 => k0_hw95 k0_h1

def k0_chk96 (i : grid0.Coords) (v1151 : IVec S16 32) (v1172 : IVec S16 32) : Prop :=
  (∀ (k0_h1 : k0_cond1 i = 1#1), ∀ a x, ((![v1151, v1172] : Fin 2 → IVec S16 32) a x).toNat < S192x8.size a)
theorem k0_idx96_inb : ∀ (i : grid0.Coords) (v1151 : IVec S16 32) (v1172 : IVec S16 32) (k0_hw96 : k0_chk96 i v1151 v1172), ∀ (k0_h1 : k0_cond1 i = 1#1), ∀ a x, ((![v1151, v1172] : Fin 2 → IVec S16 32) a x).toNat < S192x8.size a := fun i v1151 v1172 k0_hw96 k0_h1 => k0_hw96 k0_h1

def k0_chk97 (i : grid0.Coords) (v1151 : IVec S16 32) (v1176 : IVec S16 32) : Prop :=
  (∀ (k0_h1 : k0_cond1 i = 1#1), ∀ a x, ((![v1151, v1176] : Fin 2 → IVec S16 32) a x).toNat < S192x8.size a)
theorem k0_idx97_inb : ∀ (i : grid0.Coords) (v1151 : IVec S16 32) (v1176 : IVec S16 32) (k0_hw97 : k0_chk97 i v1151 v1176), ∀ (k0_h1 : k0_cond1 i = 1#1), ∀ a x, ((![v1151, v1176] : Fin 2 → IVec S16 32) a x).toNat < S192x8.size a := fun i v1151 v1176 k0_hw97 k0_h1 => k0_hw97 k0_h1

def k0_chk98 (i : grid0.Coords) (v1151 : IVec S16 32) (v1180 : IVec S16 32) : Prop :=
  (∀ (k0_h1 : k0_cond1 i = 1#1), ∀ a x, ((![v1151, v1180] : Fin 2 → IVec S16 32) a x).toNat < S192x8.size a)
theorem k0_idx98_inb : ∀ (i : grid0.Coords) (v1151 : IVec S16 32) (v1180 : IVec S16 32) (k0_hw98 : k0_chk98 i v1151 v1180), ∀ (k0_h1 : k0_cond1 i = 1#1), ∀ a x, ((![v1151, v1180] : Fin 2 → IVec S16 32) a x).toNat < S192x8.size a := fun i v1151 v1180 k0_hw98 k0_h1 => k0_hw98 k0_h1

def k0_chk99 (i : grid0.Coords) (v1151 : IVec S16 32) (v1184 : IVec S16 32) : Prop :=
  (∀ (k0_h1 : k0_cond1 i = 1#1), ∀ a x, ((![v1151, v1184] : Fin 2 → IVec S16 32) a x).toNat < S192x8.size a)
theorem k0_idx99_inb : ∀ (i : grid0.Coords) (v1151 : IVec S16 32) (v1184 : IVec S16 32) (k0_hw99 : k0_chk99 i v1151 v1184), ∀ (k0_h1 : k0_cond1 i = 1#1), ∀ a x, ((![v1151, v1184] : Fin 2 → IVec S16 32) a x).toNat < S192x8.size a := fun i v1151 v1184 k0_hw99 k0_h1 => k0_hw99 k0_h1

def k0_chk100 (i : grid0.Coords) (v1151 : IVec S16 32) (v1188 : IVec S16 32) : Prop :=
  (∀ (k0_h1 : k0_cond1 i = 1#1), ∀ a x, ((![v1151, v1188] : Fin 2 → IVec S16 32) a x).toNat < S192x8.size a)
theorem k0_idx100_inb : ∀ (i : grid0.Coords) (v1151 : IVec S16 32) (v1188 : IVec S16 32) (k0_hw100 : k0_chk100 i v1151 v1188), ∀ (k0_h1 : k0_cond1 i = 1#1), ∀ a x, ((![v1151, v1188] : Fin 2 → IVec S16 32) a x).toNat < S192x8.size a := fun i v1151 v1188 k0_hw100 k0_h1 => k0_hw100 k0_h1

def k0_chk101 (i : grid0.Coords) (v1250 : IVec S16 32) (v1259 : IVec S16 32) : Prop :=
  (∀ (k0_h1 : k0_cond1 i = 1#1), ∀ a x, ((![v1250, v1259] : Fin 2 → IVec S16 32) a x).toNat < S192x8.size a)
theorem k0_idx101_inb : ∀ (i : grid0.Coords) (v1250 : IVec S16 32) (v1259 : IVec S16 32) (k0_hw101 : k0_chk101 i v1250 v1259), ∀ (k0_h1 : k0_cond1 i = 1#1), ∀ a x, ((![v1250, v1259] : Fin 2 → IVec S16 32) a x).toNat < S192x8.size a := fun i v1250 v1259 k0_hw101 k0_h1 => k0_hw101 k0_h1

def k0_chk102 (i : grid0.Coords) (v1250 : IVec S16 32) (v1263 : IVec S16 32) : Prop :=
  (∀ (k0_h1 : k0_cond1 i = 1#1), ∀ a x, ((![v1250, v1263] : Fin 2 → IVec S16 32) a x).toNat < S192x8.size a)
theorem k0_idx102_inb : ∀ (i : grid0.Coords) (v1250 : IVec S16 32) (v1263 : IVec S16 32) (k0_hw102 : k0_chk102 i v1250 v1263), ∀ (k0_h1 : k0_cond1 i = 1#1), ∀ a x, ((![v1250, v1263] : Fin 2 → IVec S16 32) a x).toNat < S192x8.size a := fun i v1250 v1263 k0_hw102 k0_h1 => k0_hw102 k0_h1

def k0_chk103 (i : grid0.Coords) (v1250 : IVec S16 32) (v1267 : IVec S16 32) : Prop :=
  (∀ (k0_h1 : k0_cond1 i = 1#1), ∀ a x, ((![v1250, v1267] : Fin 2 → IVec S16 32) a x).toNat < S192x8.size a)
theorem k0_idx103_inb : ∀ (i : grid0.Coords) (v1250 : IVec S16 32) (v1267 : IVec S16 32) (k0_hw103 : k0_chk103 i v1250 v1267), ∀ (k0_h1 : k0_cond1 i = 1#1), ∀ a x, ((![v1250, v1267] : Fin 2 → IVec S16 32) a x).toNat < S192x8.size a := fun i v1250 v1267 k0_hw103 k0_h1 => k0_hw103 k0_h1

def k0_chk104 (i : grid0.Coords) (v1250 : IVec S16 32) (v1271 : IVec S16 32) : Prop :=
  (∀ (k0_h1 : k0_cond1 i = 1#1), ∀ a x, ((![v1250, v1271] : Fin 2 → IVec S16 32) a x).toNat < S192x8.size a)
theorem k0_idx104_inb : ∀ (i : grid0.Coords) (v1250 : IVec S16 32) (v1271 : IVec S16 32) (k0_hw104 : k0_chk104 i v1250 v1271), ∀ (k0_h1 : k0_cond1 i = 1#1), ∀ a x, ((![v1250, v1271] : Fin 2 → IVec S16 32) a x).toNat < S192x8.size a := fun i v1250 v1271 k0_hw104 k0_h1 => k0_hw104 k0_h1

def k0_chk105 (i : grid0.Coords) (v1250 : IVec S16 32) (v1275 : IVec S16 32) : Prop :=
  (∀ (k0_h1 : k0_cond1 i = 1#1), ∀ a x, ((![v1250, v1275] : Fin 2 → IVec S16 32) a x).toNat < S192x8.size a)
theorem k0_idx105_inb : ∀ (i : grid0.Coords) (v1250 : IVec S16 32) (v1275 : IVec S16 32) (k0_hw105 : k0_chk105 i v1250 v1275), ∀ (k0_h1 : k0_cond1 i = 1#1), ∀ a x, ((![v1250, v1275] : Fin 2 → IVec S16 32) a x).toNat < S192x8.size a := fun i v1250 v1275 k0_hw105 k0_h1 => k0_hw105 k0_h1

def k0_chk106 (i : grid0.Coords) (v1250 : IVec S16 32) (v1279 : IVec S16 32) : Prop :=
  (∀ (k0_h1 : k0_cond1 i = 1#1), ∀ a x, ((![v1250, v1279] : Fin 2 → IVec S16 32) a x).toNat < S192x8.size a)
theorem k0_idx106_inb : ∀ (i : grid0.Coords) (v1250 : IVec S16 32) (v1279 : IVec S16 32) (k0_hw106 : k0_chk106 i v1250 v1279), ∀ (k0_h1 : k0_cond1 i = 1#1), ∀ a x, ((![v1250, v1279] : Fin 2 → IVec S16 32) a x).toNat < S192x8.size a := fun i v1250 v1279 k0_hw106 k0_h1 => k0_hw106 k0_h1

def k0_chk107 (i : grid0.Coords) (v1250 : IVec S16 32) (v1283 : IVec S16 32) : Prop :=
  (∀ (k0_h1 : k0_cond1 i = 1#1), ∀ a x, ((![v1250, v1283] : Fin 2 → IVec S16 32) a x).toNat < S192x8.size a)
theorem k0_idx107_inb : ∀ (i : grid0.Coords) (v1250 : IVec S16 32) (v1283 : IVec S16 32) (k0_hw107 : k0_chk107 i v1250 v1283), ∀ (k0_h1 : k0_cond1 i = 1#1), ∀ a x, ((![v1250, v1283] : Fin 2 → IVec S16 32) a x).toNat < S192x8.size a := fun i v1250 v1283 k0_hw107 k0_h1 => k0_hw107 k0_h1

def k0_chk108 (i : grid0.Coords) (v1250 : IVec S16 32) (v1287 : IVec S16 32) : Prop :=
  (∀ (k0_h1 : k0_cond1 i = 1#1), ∀ a x, ((![v1250, v1287] : Fin 2 → IVec S16 32) a x).toNat < S192x8.size a)
theorem k0_idx108_inb : ∀ (i : grid0.Coords) (v1250 : IVec S16 32) (v1287 : IVec S16 32) (k0_hw108 : k0_chk108 i v1250 v1287), ∀ (k0_h1 : k0_cond1 i = 1#1), ∀ a x, ((![v1250, v1287] : Fin 2 → IVec S16 32) a x).toNat < S192x8.size a := fun i v1250 v1287 k0_hw108 k0_h1 => k0_hw108 k0_h1
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c48_i32_817 : BitVec 32 := 48#32
  let v1291 : BitVec 32 := Scalar.muli v21 c48_i32_817
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v1292 : BitVec 32 := Scalar.addi v1291 v32
  let c3_i32_818 : BitVec 32 := 3#32
  let v1293 : BitVec 32 := Scalar.addi v1292 c3_i32_818
  let c3_i32_819 : BitVec 32 := 3#32
  let v1294 : BitVec 32 := Scalar.subi v1293 c3_i32_819
  let c48_i32_820 : BitVec 32 := 48#32
  let v1295 : BitVec 32 := Scalar.muli v1294 c48_i32_820
  let c0_i32_823 : BitVec 32 := 0#32
  ![v1295.toNat, 0]

def k0_chk109 (i : grid0.Coords) (v1358 : IVec S16 32) (v1367 : IVec S16 32) : Prop :=
  (∀ (k0_h1 : k0_cond1 i = 1#1), ∀ a x, ((![v1358, v1367] : Fin 2 → IVec S16 32) a x).toNat < S192x8.size a)
theorem k0_idx109_inb : ∀ (i : grid0.Coords) (v1358 : IVec S16 32) (v1367 : IVec S16 32) (k0_hw109 : k0_chk109 i v1358 v1367), ∀ (k0_h1 : k0_cond1 i = 1#1), ∀ a x, ((![v1358, v1367] : Fin 2 → IVec S16 32) a x).toNat < S192x8.size a := fun i v1358 v1367 k0_hw109 k0_h1 => k0_hw109 k0_h1

def k0_chk110 (i : grid0.Coords) (v1358 : IVec S16 32) (v1371 : IVec S16 32) : Prop :=
  (∀ (k0_h1 : k0_cond1 i = 1#1), ∀ a x, ((![v1358, v1371] : Fin 2 → IVec S16 32) a x).toNat < S192x8.size a)
theorem k0_idx110_inb : ∀ (i : grid0.Coords) (v1358 : IVec S16 32) (v1371 : IVec S16 32) (k0_hw110 : k0_chk110 i v1358 v1371), ∀ (k0_h1 : k0_cond1 i = 1#1), ∀ a x, ((![v1358, v1371] : Fin 2 → IVec S16 32) a x).toNat < S192x8.size a := fun i v1358 v1371 k0_hw110 k0_h1 => k0_hw110 k0_h1

def k0_chk111 (i : grid0.Coords) (v1358 : IVec S16 32) (v1375 : IVec S16 32) : Prop :=
  (∀ (k0_h1 : k0_cond1 i = 1#1), ∀ a x, ((![v1358, v1375] : Fin 2 → IVec S16 32) a x).toNat < S192x8.size a)
theorem k0_idx111_inb : ∀ (i : grid0.Coords) (v1358 : IVec S16 32) (v1375 : IVec S16 32) (k0_hw111 : k0_chk111 i v1358 v1375), ∀ (k0_h1 : k0_cond1 i = 1#1), ∀ a x, ((![v1358, v1375] : Fin 2 → IVec S16 32) a x).toNat < S192x8.size a := fun i v1358 v1375 k0_hw111 k0_h1 => k0_hw111 k0_h1

def k0_chk112 (i : grid0.Coords) (v1358 : IVec S16 32) (v1379 : IVec S16 32) : Prop :=
  (∀ (k0_h1 : k0_cond1 i = 1#1), ∀ a x, ((![v1358, v1379] : Fin 2 → IVec S16 32) a x).toNat < S192x8.size a)
theorem k0_idx112_inb : ∀ (i : grid0.Coords) (v1358 : IVec S16 32) (v1379 : IVec S16 32) (k0_hw112 : k0_chk112 i v1358 v1379), ∀ (k0_h1 : k0_cond1 i = 1#1), ∀ a x, ((![v1358, v1379] : Fin 2 → IVec S16 32) a x).toNat < S192x8.size a := fun i v1358 v1379 k0_hw112 k0_h1 => k0_hw112 k0_h1

def k0_chk113 (i : grid0.Coords) (v1358 : IVec S16 32) (v1383 : IVec S16 32) : Prop :=
  (∀ (k0_h1 : k0_cond1 i = 1#1), ∀ a x, ((![v1358, v1383] : Fin 2 → IVec S16 32) a x).toNat < S192x8.size a)
theorem k0_idx113_inb : ∀ (i : grid0.Coords) (v1358 : IVec S16 32) (v1383 : IVec S16 32) (k0_hw113 : k0_chk113 i v1358 v1383), ∀ (k0_h1 : k0_cond1 i = 1#1), ∀ a x, ((![v1358, v1383] : Fin 2 → IVec S16 32) a x).toNat < S192x8.size a := fun i v1358 v1383 k0_hw113 k0_h1 => k0_hw113 k0_h1

def k0_chk114 (i : grid0.Coords) (v1358 : IVec S16 32) (v1387 : IVec S16 32) : Prop :=
  (∀ (k0_h1 : k0_cond1 i = 1#1), ∀ a x, ((![v1358, v1387] : Fin 2 → IVec S16 32) a x).toNat < S192x8.size a)
theorem k0_idx114_inb : ∀ (i : grid0.Coords) (v1358 : IVec S16 32) (v1387 : IVec S16 32) (k0_hw114 : k0_chk114 i v1358 v1387), ∀ (k0_h1 : k0_cond1 i = 1#1), ∀ a x, ((![v1358, v1387] : Fin 2 → IVec S16 32) a x).toNat < S192x8.size a := fun i v1358 v1387 k0_hw114 k0_h1 => k0_hw114 k0_h1

def k0_chk115 (i : grid0.Coords) (v1358 : IVec S16 32) (v1391 : IVec S16 32) : Prop :=
  (∀ (k0_h1 : k0_cond1 i = 1#1), ∀ a x, ((![v1358, v1391] : Fin 2 → IVec S16 32) a x).toNat < S192x8.size a)
theorem k0_idx115_inb : ∀ (i : grid0.Coords) (v1358 : IVec S16 32) (v1391 : IVec S16 32) (k0_hw115 : k0_chk115 i v1358 v1391), ∀ (k0_h1 : k0_cond1 i = 1#1), ∀ a x, ((![v1358, v1391] : Fin 2 → IVec S16 32) a x).toNat < S192x8.size a := fun i v1358 v1391 k0_hw115 k0_h1 => k0_hw115 k0_h1

def k0_chk116 (i : grid0.Coords) (v1358 : IVec S16 32) (v1395 : IVec S16 32) : Prop :=
  (∀ (k0_h1 : k0_cond1 i = 1#1), ∀ a x, ((![v1358, v1395] : Fin 2 → IVec S16 32) a x).toNat < S192x8.size a)
theorem k0_idx116_inb : ∀ (i : grid0.Coords) (v1358 : IVec S16 32) (v1395 : IVec S16 32) (k0_hw116 : k0_chk116 i v1358 v1395), ∀ (k0_h1 : k0_cond1 i = 1#1), ∀ a x, ((![v1358, v1395] : Fin 2 → IVec S16 32) a x).toNat < S192x8.size a := fun i v1358 v1395 k0_hw116 k0_h1 => k0_hw116 k0_h1

def k0_chk117 (i : grid0.Coords) (v1457 : IVec S16 32) (v1466 : IVec S16 32) : Prop :=
  (∀ (k0_h1 : k0_cond1 i = 1#1), ∀ a x, ((![v1457, v1466] : Fin 2 → IVec S16 32) a x).toNat < S192x8.size a)
theorem k0_idx117_inb : ∀ (i : grid0.Coords) (v1457 : IVec S16 32) (v1466 : IVec S16 32) (k0_hw117 : k0_chk117 i v1457 v1466), ∀ (k0_h1 : k0_cond1 i = 1#1), ∀ a x, ((![v1457, v1466] : Fin 2 → IVec S16 32) a x).toNat < S192x8.size a := fun i v1457 v1466 k0_hw117 k0_h1 => k0_hw117 k0_h1

def k0_chk118 (i : grid0.Coords) (v1457 : IVec S16 32) (v1470 : IVec S16 32) : Prop :=
  (∀ (k0_h1 : k0_cond1 i = 1#1), ∀ a x, ((![v1457, v1470] : Fin 2 → IVec S16 32) a x).toNat < S192x8.size a)
theorem k0_idx118_inb : ∀ (i : grid0.Coords) (v1457 : IVec S16 32) (v1470 : IVec S16 32) (k0_hw118 : k0_chk118 i v1457 v1470), ∀ (k0_h1 : k0_cond1 i = 1#1), ∀ a x, ((![v1457, v1470] : Fin 2 → IVec S16 32) a x).toNat < S192x8.size a := fun i v1457 v1470 k0_hw118 k0_h1 => k0_hw118 k0_h1

def k0_chk119 (i : grid0.Coords) (v1457 : IVec S16 32) (v1474 : IVec S16 32) : Prop :=
  (∀ (k0_h1 : k0_cond1 i = 1#1), ∀ a x, ((![v1457, v1474] : Fin 2 → IVec S16 32) a x).toNat < S192x8.size a)
theorem k0_idx119_inb : ∀ (i : grid0.Coords) (v1457 : IVec S16 32) (v1474 : IVec S16 32) (k0_hw119 : k0_chk119 i v1457 v1474), ∀ (k0_h1 : k0_cond1 i = 1#1), ∀ a x, ((![v1457, v1474] : Fin 2 → IVec S16 32) a x).toNat < S192x8.size a := fun i v1457 v1474 k0_hw119 k0_h1 => k0_hw119 k0_h1

def k0_chk120 (i : grid0.Coords) (v1457 : IVec S16 32) (v1478 : IVec S16 32) : Prop :=
  (∀ (k0_h1 : k0_cond1 i = 1#1), ∀ a x, ((![v1457, v1478] : Fin 2 → IVec S16 32) a x).toNat < S192x8.size a)
theorem k0_idx120_inb : ∀ (i : grid0.Coords) (v1457 : IVec S16 32) (v1478 : IVec S16 32) (k0_hw120 : k0_chk120 i v1457 v1478), ∀ (k0_h1 : k0_cond1 i = 1#1), ∀ a x, ((![v1457, v1478] : Fin 2 → IVec S16 32) a x).toNat < S192x8.size a := fun i v1457 v1478 k0_hw120 k0_h1 => k0_hw120 k0_h1

def k0_chk121 (i : grid0.Coords) (v1457 : IVec S16 32) (v1482 : IVec S16 32) : Prop :=
  (∀ (k0_h1 : k0_cond1 i = 1#1), ∀ a x, ((![v1457, v1482] : Fin 2 → IVec S16 32) a x).toNat < S192x8.size a)
theorem k0_idx121_inb : ∀ (i : grid0.Coords) (v1457 : IVec S16 32) (v1482 : IVec S16 32) (k0_hw121 : k0_chk121 i v1457 v1482), ∀ (k0_h1 : k0_cond1 i = 1#1), ∀ a x, ((![v1457, v1482] : Fin 2 → IVec S16 32) a x).toNat < S192x8.size a := fun i v1457 v1482 k0_hw121 k0_h1 => k0_hw121 k0_h1

def k0_chk122 (i : grid0.Coords) (v1457 : IVec S16 32) (v1486 : IVec S16 32) : Prop :=
  (∀ (k0_h1 : k0_cond1 i = 1#1), ∀ a x, ((![v1457, v1486] : Fin 2 → IVec S16 32) a x).toNat < S192x8.size a)
theorem k0_idx122_inb : ∀ (i : grid0.Coords) (v1457 : IVec S16 32) (v1486 : IVec S16 32) (k0_hw122 : k0_chk122 i v1457 v1486), ∀ (k0_h1 : k0_cond1 i = 1#1), ∀ a x, ((![v1457, v1486] : Fin 2 → IVec S16 32) a x).toNat < S192x8.size a := fun i v1457 v1486 k0_hw122 k0_h1 => k0_hw122 k0_h1

def k0_chk123 (i : grid0.Coords) (v1457 : IVec S16 32) (v1490 : IVec S16 32) : Prop :=
  (∀ (k0_h1 : k0_cond1 i = 1#1), ∀ a x, ((![v1457, v1490] : Fin 2 → IVec S16 32) a x).toNat < S192x8.size a)
theorem k0_idx123_inb : ∀ (i : grid0.Coords) (v1457 : IVec S16 32) (v1490 : IVec S16 32) (k0_hw123 : k0_chk123 i v1457 v1490), ∀ (k0_h1 : k0_cond1 i = 1#1), ∀ a x, ((![v1457, v1490] : Fin 2 → IVec S16 32) a x).toNat < S192x8.size a := fun i v1457 v1490 k0_hw123 k0_h1 => k0_hw123 k0_h1

def k0_chk124 (i : grid0.Coords) (v1457 : IVec S16 32) (v1494 : IVec S16 32) : Prop :=
  (∀ (k0_h1 : k0_cond1 i = 1#1), ∀ a x, ((![v1457, v1494] : Fin 2 → IVec S16 32) a x).toNat < S192x8.size a)
theorem k0_idx124_inb : ∀ (i : grid0.Coords) (v1457 : IVec S16 32) (v1494 : IVec S16 32) (k0_hw124 : k0_chk124 i v1457 v1494), ∀ (k0_h1 : k0_cond1 i = 1#1), ∀ a x, ((![v1457, v1494] : Fin 2 → IVec S16 32) a x).toNat < S192x8.size a := fun i v1457 v1494 k0_hw124 k0_h1 => k0_hw124 k0_h1

def k0_chk125 (i : grid0.Coords) (v1556 : IVec S16 32) (v1565 : IVec S16 32) : Prop :=
  (∀ (k0_h1 : k0_cond1 i = 1#1), ∀ a x, ((![v1556, v1565] : Fin 2 → IVec S16 32) a x).toNat < S192x8.size a)
theorem k0_idx125_inb : ∀ (i : grid0.Coords) (v1556 : IVec S16 32) (v1565 : IVec S16 32) (k0_hw125 : k0_chk125 i v1556 v1565), ∀ (k0_h1 : k0_cond1 i = 1#1), ∀ a x, ((![v1556, v1565] : Fin 2 → IVec S16 32) a x).toNat < S192x8.size a := fun i v1556 v1565 k0_hw125 k0_h1 => k0_hw125 k0_h1

def k0_chk126 (i : grid0.Coords) (v1556 : IVec S16 32) (v1569 : IVec S16 32) : Prop :=
  (∀ (k0_h1 : k0_cond1 i = 1#1), ∀ a x, ((![v1556, v1569] : Fin 2 → IVec S16 32) a x).toNat < S192x8.size a)
theorem k0_idx126_inb : ∀ (i : grid0.Coords) (v1556 : IVec S16 32) (v1569 : IVec S16 32) (k0_hw126 : k0_chk126 i v1556 v1569), ∀ (k0_h1 : k0_cond1 i = 1#1), ∀ a x, ((![v1556, v1569] : Fin 2 → IVec S16 32) a x).toNat < S192x8.size a := fun i v1556 v1569 k0_hw126 k0_h1 => k0_hw126 k0_h1

def k0_chk127 (i : grid0.Coords) (v1556 : IVec S16 32) (v1573 : IVec S16 32) : Prop :=
  (∀ (k0_h1 : k0_cond1 i = 1#1), ∀ a x, ((![v1556, v1573] : Fin 2 → IVec S16 32) a x).toNat < S192x8.size a)
theorem k0_idx127_inb : ∀ (i : grid0.Coords) (v1556 : IVec S16 32) (v1573 : IVec S16 32) (k0_hw127 : k0_chk127 i v1556 v1573), ∀ (k0_h1 : k0_cond1 i = 1#1), ∀ a x, ((![v1556, v1573] : Fin 2 → IVec S16 32) a x).toNat < S192x8.size a := fun i v1556 v1573 k0_hw127 k0_h1 => k0_hw127 k0_h1

def k0_chk128 (i : grid0.Coords) (v1556 : IVec S16 32) (v1577 : IVec S16 32) : Prop :=
  (∀ (k0_h1 : k0_cond1 i = 1#1), ∀ a x, ((![v1556, v1577] : Fin 2 → IVec S16 32) a x).toNat < S192x8.size a)
theorem k0_idx128_inb : ∀ (i : grid0.Coords) (v1556 : IVec S16 32) (v1577 : IVec S16 32) (k0_hw128 : k0_chk128 i v1556 v1577), ∀ (k0_h1 : k0_cond1 i = 1#1), ∀ a x, ((![v1556, v1577] : Fin 2 → IVec S16 32) a x).toNat < S192x8.size a := fun i v1556 v1577 k0_hw128 k0_h1 => k0_hw128 k0_h1

def k0_chk129 (i : grid0.Coords) (v1556 : IVec S16 32) (v1581 : IVec S16 32) : Prop :=
  (∀ (k0_h1 : k0_cond1 i = 1#1), ∀ a x, ((![v1556, v1581] : Fin 2 → IVec S16 32) a x).toNat < S192x8.size a)
theorem k0_idx129_inb : ∀ (i : grid0.Coords) (v1556 : IVec S16 32) (v1581 : IVec S16 32) (k0_hw129 : k0_chk129 i v1556 v1581), ∀ (k0_h1 : k0_cond1 i = 1#1), ∀ a x, ((![v1556, v1581] : Fin 2 → IVec S16 32) a x).toNat < S192x8.size a := fun i v1556 v1581 k0_hw129 k0_h1 => k0_hw129 k0_h1

def k0_chk130 (i : grid0.Coords) (v1556 : IVec S16 32) (v1585 : IVec S16 32) : Prop :=
  (∀ (k0_h1 : k0_cond1 i = 1#1), ∀ a x, ((![v1556, v1585] : Fin 2 → IVec S16 32) a x).toNat < S192x8.size a)
theorem k0_idx130_inb : ∀ (i : grid0.Coords) (v1556 : IVec S16 32) (v1585 : IVec S16 32) (k0_hw130 : k0_chk130 i v1556 v1585), ∀ (k0_h1 : k0_cond1 i = 1#1), ∀ a x, ((![v1556, v1585] : Fin 2 → IVec S16 32) a x).toNat < S192x8.size a := fun i v1556 v1585 k0_hw130 k0_h1 => k0_hw130 k0_h1

def k0_chk131 (i : grid0.Coords) (v1556 : IVec S16 32) (v1589 : IVec S16 32) : Prop :=
  (∀ (k0_h1 : k0_cond1 i = 1#1), ∀ a x, ((![v1556, v1589] : Fin 2 → IVec S16 32) a x).toNat < S192x8.size a)
theorem k0_idx131_inb : ∀ (i : grid0.Coords) (v1556 : IVec S16 32) (v1589 : IVec S16 32) (k0_hw131 : k0_chk131 i v1556 v1589), ∀ (k0_h1 : k0_cond1 i = 1#1), ∀ a x, ((![v1556, v1589] : Fin 2 → IVec S16 32) a x).toNat < S192x8.size a := fun i v1556 v1589 k0_hw131 k0_h1 => k0_hw131 k0_h1

def k0_chk132 (i : grid0.Coords) (v1556 : IVec S16 32) (v1593 : IVec S16 32) : Prop :=
  (∀ (k0_h1 : k0_cond1 i = 1#1), ∀ a x, ((![v1556, v1593] : Fin 2 → IVec S16 32) a x).toNat < S192x8.size a)
theorem k0_idx132_inb : ∀ (i : grid0.Coords) (v1556 : IVec S16 32) (v1593 : IVec S16 32) (k0_hw132 : k0_chk132 i v1556 v1593), ∀ (k0_h1 : k0_cond1 i = 1#1), ∀ a x, ((![v1556, v1593] : Fin 2 → IVec S16 32) a x).toNat < S192x8.size a := fun i v1556 v1593 k0_hw132 k0_h1 => k0_hw132 k0_h1

def k0_chk133 (i : grid0.Coords) (v1655 : IVec S16 32) (v1664 : IVec S16 32) : Prop :=
  (∀ (k0_h1 : k0_cond1 i = 1#1), ∀ a x, ((![v1655, v1664] : Fin 2 → IVec S16 32) a x).toNat < S192x8.size a)
theorem k0_idx133_inb : ∀ (i : grid0.Coords) (v1655 : IVec S16 32) (v1664 : IVec S16 32) (k0_hw133 : k0_chk133 i v1655 v1664), ∀ (k0_h1 : k0_cond1 i = 1#1), ∀ a x, ((![v1655, v1664] : Fin 2 → IVec S16 32) a x).toNat < S192x8.size a := fun i v1655 v1664 k0_hw133 k0_h1 => k0_hw133 k0_h1

def k0_chk134 (i : grid0.Coords) (v1655 : IVec S16 32) (v1668 : IVec S16 32) : Prop :=
  (∀ (k0_h1 : k0_cond1 i = 1#1), ∀ a x, ((![v1655, v1668] : Fin 2 → IVec S16 32) a x).toNat < S192x8.size a)
theorem k0_idx134_inb : ∀ (i : grid0.Coords) (v1655 : IVec S16 32) (v1668 : IVec S16 32) (k0_hw134 : k0_chk134 i v1655 v1668), ∀ (k0_h1 : k0_cond1 i = 1#1), ∀ a x, ((![v1655, v1668] : Fin 2 → IVec S16 32) a x).toNat < S192x8.size a := fun i v1655 v1668 k0_hw134 k0_h1 => k0_hw134 k0_h1

def k0_chk135 (i : grid0.Coords) (v1655 : IVec S16 32) (v1672 : IVec S16 32) : Prop :=
  (∀ (k0_h1 : k0_cond1 i = 1#1), ∀ a x, ((![v1655, v1672] : Fin 2 → IVec S16 32) a x).toNat < S192x8.size a)
theorem k0_idx135_inb : ∀ (i : grid0.Coords) (v1655 : IVec S16 32) (v1672 : IVec S16 32) (k0_hw135 : k0_chk135 i v1655 v1672), ∀ (k0_h1 : k0_cond1 i = 1#1), ∀ a x, ((![v1655, v1672] : Fin 2 → IVec S16 32) a x).toNat < S192x8.size a := fun i v1655 v1672 k0_hw135 k0_h1 => k0_hw135 k0_h1

def k0_chk136 (i : grid0.Coords) (v1655 : IVec S16 32) (v1676 : IVec S16 32) : Prop :=
  (∀ (k0_h1 : k0_cond1 i = 1#1), ∀ a x, ((![v1655, v1676] : Fin 2 → IVec S16 32) a x).toNat < S192x8.size a)
theorem k0_idx136_inb : ∀ (i : grid0.Coords) (v1655 : IVec S16 32) (v1676 : IVec S16 32) (k0_hw136 : k0_chk136 i v1655 v1676), ∀ (k0_h1 : k0_cond1 i = 1#1), ∀ a x, ((![v1655, v1676] : Fin 2 → IVec S16 32) a x).toNat < S192x8.size a := fun i v1655 v1676 k0_hw136 k0_h1 => k0_hw136 k0_h1

def k0_chk137 (i : grid0.Coords) (v1655 : IVec S16 32) (v1680 : IVec S16 32) : Prop :=
  (∀ (k0_h1 : k0_cond1 i = 1#1), ∀ a x, ((![v1655, v1680] : Fin 2 → IVec S16 32) a x).toNat < S192x8.size a)
theorem k0_idx137_inb : ∀ (i : grid0.Coords) (v1655 : IVec S16 32) (v1680 : IVec S16 32) (k0_hw137 : k0_chk137 i v1655 v1680), ∀ (k0_h1 : k0_cond1 i = 1#1), ∀ a x, ((![v1655, v1680] : Fin 2 → IVec S16 32) a x).toNat < S192x8.size a := fun i v1655 v1680 k0_hw137 k0_h1 => k0_hw137 k0_h1

def k0_chk138 (i : grid0.Coords) (v1655 : IVec S16 32) (v1684 : IVec S16 32) : Prop :=
  (∀ (k0_h1 : k0_cond1 i = 1#1), ∀ a x, ((![v1655, v1684] : Fin 2 → IVec S16 32) a x).toNat < S192x8.size a)
theorem k0_idx138_inb : ∀ (i : grid0.Coords) (v1655 : IVec S16 32) (v1684 : IVec S16 32) (k0_hw138 : k0_chk138 i v1655 v1684), ∀ (k0_h1 : k0_cond1 i = 1#1), ∀ a x, ((![v1655, v1684] : Fin 2 → IVec S16 32) a x).toNat < S192x8.size a := fun i v1655 v1684 k0_hw138 k0_h1 => k0_hw138 k0_h1

def k0_chk139 (i : grid0.Coords) (v1655 : IVec S16 32) (v1688 : IVec S16 32) : Prop :=
  (∀ (k0_h1 : k0_cond1 i = 1#1), ∀ a x, ((![v1655, v1688] : Fin 2 → IVec S16 32) a x).toNat < S192x8.size a)
theorem k0_idx139_inb : ∀ (i : grid0.Coords) (v1655 : IVec S16 32) (v1688 : IVec S16 32) (k0_hw139 : k0_chk139 i v1655 v1688), ∀ (k0_h1 : k0_cond1 i = 1#1), ∀ a x, ((![v1655, v1688] : Fin 2 → IVec S16 32) a x).toNat < S192x8.size a := fun i v1655 v1688 k0_hw139 k0_h1 => k0_hw139 k0_h1

def k0_chk140 (i : grid0.Coords) (v1655 : IVec S16 32) (v1692 : IVec S16 32) : Prop :=
  (∀ (k0_h1 : k0_cond1 i = 1#1), ∀ a x, ((![v1655, v1692] : Fin 2 → IVec S16 32) a x).toNat < S192x8.size a)
theorem k0_idx140_inb : ∀ (i : grid0.Coords) (v1655 : IVec S16 32) (v1692 : IVec S16 32) (k0_hw140 : k0_chk140 i v1655 v1692), ∀ (k0_h1 : k0_cond1 i = 1#1), ∀ a x, ((![v1655, v1692] : Fin 2 → IVec S16 32) a x).toNat < S192x8.size a := fun i v1655 v1692 k0_hw140 k0_h1 => k0_hw140 k0_h1

def k0_chk141 (i : grid0.Coords) (v1754 : IVec S16 32) (v1763 : IVec S16 32) : Prop :=
  (∀ (k0_h1 : k0_cond1 i = 1#1), ∀ a x, ((![v1754, v1763] : Fin 2 → IVec S16 32) a x).toNat < S192x8.size a)
theorem k0_idx141_inb : ∀ (i : grid0.Coords) (v1754 : IVec S16 32) (v1763 : IVec S16 32) (k0_hw141 : k0_chk141 i v1754 v1763), ∀ (k0_h1 : k0_cond1 i = 1#1), ∀ a x, ((![v1754, v1763] : Fin 2 → IVec S16 32) a x).toNat < S192x8.size a := fun i v1754 v1763 k0_hw141 k0_h1 => k0_hw141 k0_h1

def k0_chk142 (i : grid0.Coords) (v1754 : IVec S16 32) (v1767 : IVec S16 32) : Prop :=
  (∀ (k0_h1 : k0_cond1 i = 1#1), ∀ a x, ((![v1754, v1767] : Fin 2 → IVec S16 32) a x).toNat < S192x8.size a)
theorem k0_idx142_inb : ∀ (i : grid0.Coords) (v1754 : IVec S16 32) (v1767 : IVec S16 32) (k0_hw142 : k0_chk142 i v1754 v1767), ∀ (k0_h1 : k0_cond1 i = 1#1), ∀ a x, ((![v1754, v1767] : Fin 2 → IVec S16 32) a x).toNat < S192x8.size a := fun i v1754 v1767 k0_hw142 k0_h1 => k0_hw142 k0_h1

def k0_chk143 (i : grid0.Coords) (v1754 : IVec S16 32) (v1771 : IVec S16 32) : Prop :=
  (∀ (k0_h1 : k0_cond1 i = 1#1), ∀ a x, ((![v1754, v1771] : Fin 2 → IVec S16 32) a x).toNat < S192x8.size a)
theorem k0_idx143_inb : ∀ (i : grid0.Coords) (v1754 : IVec S16 32) (v1771 : IVec S16 32) (k0_hw143 : k0_chk143 i v1754 v1771), ∀ (k0_h1 : k0_cond1 i = 1#1), ∀ a x, ((![v1754, v1771] : Fin 2 → IVec S16 32) a x).toNat < S192x8.size a := fun i v1754 v1771 k0_hw143 k0_h1 => k0_hw143 k0_h1

def k0_chk144 (i : grid0.Coords) (v1754 : IVec S16 32) (v1775 : IVec S16 32) : Prop :=
  (∀ (k0_h1 : k0_cond1 i = 1#1), ∀ a x, ((![v1754, v1775] : Fin 2 → IVec S16 32) a x).toNat < S192x8.size a)
theorem k0_idx144_inb : ∀ (i : grid0.Coords) (v1754 : IVec S16 32) (v1775 : IVec S16 32) (k0_hw144 : k0_chk144 i v1754 v1775), ∀ (k0_h1 : k0_cond1 i = 1#1), ∀ a x, ((![v1754, v1775] : Fin 2 → IVec S16 32) a x).toNat < S192x8.size a := fun i v1754 v1775 k0_hw144 k0_h1 => k0_hw144 k0_h1

def k0_chk145 (i : grid0.Coords) (v1754 : IVec S16 32) (v1779 : IVec S16 32) : Prop :=
  (∀ (k0_h1 : k0_cond1 i = 1#1), ∀ a x, ((![v1754, v1779] : Fin 2 → IVec S16 32) a x).toNat < S192x8.size a)
theorem k0_idx145_inb : ∀ (i : grid0.Coords) (v1754 : IVec S16 32) (v1779 : IVec S16 32) (k0_hw145 : k0_chk145 i v1754 v1779), ∀ (k0_h1 : k0_cond1 i = 1#1), ∀ a x, ((![v1754, v1779] : Fin 2 → IVec S16 32) a x).toNat < S192x8.size a := fun i v1754 v1779 k0_hw145 k0_h1 => k0_hw145 k0_h1

def k0_chk146 (i : grid0.Coords) (v1754 : IVec S16 32) (v1783 : IVec S16 32) : Prop :=
  (∀ (k0_h1 : k0_cond1 i = 1#1), ∀ a x, ((![v1754, v1783] : Fin 2 → IVec S16 32) a x).toNat < S192x8.size a)
theorem k0_idx146_inb : ∀ (i : grid0.Coords) (v1754 : IVec S16 32) (v1783 : IVec S16 32) (k0_hw146 : k0_chk146 i v1754 v1783), ∀ (k0_h1 : k0_cond1 i = 1#1), ∀ a x, ((![v1754, v1783] : Fin 2 → IVec S16 32) a x).toNat < S192x8.size a := fun i v1754 v1783 k0_hw146 k0_h1 => k0_hw146 k0_h1

def k0_chk147 (i : grid0.Coords) (v1754 : IVec S16 32) (v1787 : IVec S16 32) : Prop :=
  (∀ (k0_h1 : k0_cond1 i = 1#1), ∀ a x, ((![v1754, v1787] : Fin 2 → IVec S16 32) a x).toNat < S192x8.size a)
theorem k0_idx147_inb : ∀ (i : grid0.Coords) (v1754 : IVec S16 32) (v1787 : IVec S16 32) (k0_hw147 : k0_chk147 i v1754 v1787), ∀ (k0_h1 : k0_cond1 i = 1#1), ∀ a x, ((![v1754, v1787] : Fin 2 → IVec S16 32) a x).toNat < S192x8.size a := fun i v1754 v1787 k0_hw147 k0_h1 => k0_hw147 k0_h1

def k0_chk148 (i : grid0.Coords) (v1754 : IVec S16 32) (v1791 : IVec S16 32) : Prop :=
  (∀ (k0_h1 : k0_cond1 i = 1#1), ∀ a x, ((![v1754, v1791] : Fin 2 → IVec S16 32) a x).toNat < S192x8.size a)
theorem k0_idx148_inb : ∀ (i : grid0.Coords) (v1754 : IVec S16 32) (v1791 : IVec S16 32) (k0_hw148 : k0_chk148 i v1754 v1791), ∀ (k0_h1 : k0_cond1 i = 1#1), ∀ a x, ((![v1754, v1791] : Fin 2 → IVec S16 32) a x).toNat < S192x8.size a := fun i v1754 v1791 k0_hw148 k0_h1 => k0_hw148 k0_h1

def k0_chk149 (i : grid0.Coords) (v1853 : IVec S16 32) (v1862 : IVec S16 32) : Prop :=
  (∀ (k0_h1 : k0_cond1 i = 1#1), ∀ a x, ((![v1853, v1862] : Fin 2 → IVec S16 32) a x).toNat < S192x8.size a)
theorem k0_idx149_inb : ∀ (i : grid0.Coords) (v1853 : IVec S16 32) (v1862 : IVec S16 32) (k0_hw149 : k0_chk149 i v1853 v1862), ∀ (k0_h1 : k0_cond1 i = 1#1), ∀ a x, ((![v1853, v1862] : Fin 2 → IVec S16 32) a x).toNat < S192x8.size a := fun i v1853 v1862 k0_hw149 k0_h1 => k0_hw149 k0_h1

def k0_chk150 (i : grid0.Coords) (v1853 : IVec S16 32) (v1866 : IVec S16 32) : Prop :=
  (∀ (k0_h1 : k0_cond1 i = 1#1), ∀ a x, ((![v1853, v1866] : Fin 2 → IVec S16 32) a x).toNat < S192x8.size a)
theorem k0_idx150_inb : ∀ (i : grid0.Coords) (v1853 : IVec S16 32) (v1866 : IVec S16 32) (k0_hw150 : k0_chk150 i v1853 v1866), ∀ (k0_h1 : k0_cond1 i = 1#1), ∀ a x, ((![v1853, v1866] : Fin 2 → IVec S16 32) a x).toNat < S192x8.size a := fun i v1853 v1866 k0_hw150 k0_h1 => k0_hw150 k0_h1

def k0_chk151 (i : grid0.Coords) (v1853 : IVec S16 32) (v1870 : IVec S16 32) : Prop :=
  (∀ (k0_h1 : k0_cond1 i = 1#1), ∀ a x, ((![v1853, v1870] : Fin 2 → IVec S16 32) a x).toNat < S192x8.size a)
theorem k0_idx151_inb : ∀ (i : grid0.Coords) (v1853 : IVec S16 32) (v1870 : IVec S16 32) (k0_hw151 : k0_chk151 i v1853 v1870), ∀ (k0_h1 : k0_cond1 i = 1#1), ∀ a x, ((![v1853, v1870] : Fin 2 → IVec S16 32) a x).toNat < S192x8.size a := fun i v1853 v1870 k0_hw151 k0_h1 => k0_hw151 k0_h1

def k0_chk152 (i : grid0.Coords) (v1853 : IVec S16 32) (v1874 : IVec S16 32) : Prop :=
  (∀ (k0_h1 : k0_cond1 i = 1#1), ∀ a x, ((![v1853, v1874] : Fin 2 → IVec S16 32) a x).toNat < S192x8.size a)
theorem k0_idx152_inb : ∀ (i : grid0.Coords) (v1853 : IVec S16 32) (v1874 : IVec S16 32) (k0_hw152 : k0_chk152 i v1853 v1874), ∀ (k0_h1 : k0_cond1 i = 1#1), ∀ a x, ((![v1853, v1874] : Fin 2 → IVec S16 32) a x).toNat < S192x8.size a := fun i v1853 v1874 k0_hw152 k0_h1 => k0_hw152 k0_h1

def k0_chk153 (i : grid0.Coords) (v1853 : IVec S16 32) (v1878 : IVec S16 32) : Prop :=
  (∀ (k0_h1 : k0_cond1 i = 1#1), ∀ a x, ((![v1853, v1878] : Fin 2 → IVec S16 32) a x).toNat < S192x8.size a)
theorem k0_idx153_inb : ∀ (i : grid0.Coords) (v1853 : IVec S16 32) (v1878 : IVec S16 32) (k0_hw153 : k0_chk153 i v1853 v1878), ∀ (k0_h1 : k0_cond1 i = 1#1), ∀ a x, ((![v1853, v1878] : Fin 2 → IVec S16 32) a x).toNat < S192x8.size a := fun i v1853 v1878 k0_hw153 k0_h1 => k0_hw153 k0_h1

def k0_chk154 (i : grid0.Coords) (v1853 : IVec S16 32) (v1882 : IVec S16 32) : Prop :=
  (∀ (k0_h1 : k0_cond1 i = 1#1), ∀ a x, ((![v1853, v1882] : Fin 2 → IVec S16 32) a x).toNat < S192x8.size a)
theorem k0_idx154_inb : ∀ (i : grid0.Coords) (v1853 : IVec S16 32) (v1882 : IVec S16 32) (k0_hw154 : k0_chk154 i v1853 v1882), ∀ (k0_h1 : k0_cond1 i = 1#1), ∀ a x, ((![v1853, v1882] : Fin 2 → IVec S16 32) a x).toNat < S192x8.size a := fun i v1853 v1882 k0_hw154 k0_h1 => k0_hw154 k0_h1

def k0_chk155 (i : grid0.Coords) (v1853 : IVec S16 32) (v1886 : IVec S16 32) : Prop :=
  (∀ (k0_h1 : k0_cond1 i = 1#1), ∀ a x, ((![v1853, v1886] : Fin 2 → IVec S16 32) a x).toNat < S192x8.size a)
theorem k0_idx155_inb : ∀ (i : grid0.Coords) (v1853 : IVec S16 32) (v1886 : IVec S16 32) (k0_hw155 : k0_chk155 i v1853 v1886), ∀ (k0_h1 : k0_cond1 i = 1#1), ∀ a x, ((![v1853, v1886] : Fin 2 → IVec S16 32) a x).toNat < S192x8.size a := fun i v1853 v1886 k0_hw155 k0_h1 => k0_hw155 k0_h1

def k0_chk156 (i : grid0.Coords) (v1853 : IVec S16 32) (v1890 : IVec S16 32) : Prop :=
  (∀ (k0_h1 : k0_cond1 i = 1#1), ∀ a x, ((![v1853, v1890] : Fin 2 → IVec S16 32) a x).toNat < S192x8.size a)
theorem k0_idx156_inb : ∀ (i : grid0.Coords) (v1853 : IVec S16 32) (v1890 : IVec S16 32) (k0_hw156 : k0_chk156 i v1853 v1890), ∀ (k0_h1 : k0_cond1 i = 1#1), ∀ a x, ((![v1853, v1890] : Fin 2 → IVec S16 32) a x).toNat < S192x8.size a := fun i v1853 v1890 k0_hw156 k0_h1 => k0_hw156 k0_h1

def k0_chk157 (i : grid0.Coords) (v1952 : IVec S16 32) (v1961 : IVec S16 32) : Prop :=
  (∀ (k0_h1 : k0_cond1 i = 1#1), ∀ a x, ((![v1952, v1961] : Fin 2 → IVec S16 32) a x).toNat < S192x8.size a)
theorem k0_idx157_inb : ∀ (i : grid0.Coords) (v1952 : IVec S16 32) (v1961 : IVec S16 32) (k0_hw157 : k0_chk157 i v1952 v1961), ∀ (k0_h1 : k0_cond1 i = 1#1), ∀ a x, ((![v1952, v1961] : Fin 2 → IVec S16 32) a x).toNat < S192x8.size a := fun i v1952 v1961 k0_hw157 k0_h1 => k0_hw157 k0_h1

def k0_chk158 (i : grid0.Coords) (v1952 : IVec S16 32) (v1965 : IVec S16 32) : Prop :=
  (∀ (k0_h1 : k0_cond1 i = 1#1), ∀ a x, ((![v1952, v1965] : Fin 2 → IVec S16 32) a x).toNat < S192x8.size a)
theorem k0_idx158_inb : ∀ (i : grid0.Coords) (v1952 : IVec S16 32) (v1965 : IVec S16 32) (k0_hw158 : k0_chk158 i v1952 v1965), ∀ (k0_h1 : k0_cond1 i = 1#1), ∀ a x, ((![v1952, v1965] : Fin 2 → IVec S16 32) a x).toNat < S192x8.size a := fun i v1952 v1965 k0_hw158 k0_h1 => k0_hw158 k0_h1

def k0_chk159 (i : grid0.Coords) (v1952 : IVec S16 32) (v1969 : IVec S16 32) : Prop :=
  (∀ (k0_h1 : k0_cond1 i = 1#1), ∀ a x, ((![v1952, v1969] : Fin 2 → IVec S16 32) a x).toNat < S192x8.size a)
theorem k0_idx159_inb : ∀ (i : grid0.Coords) (v1952 : IVec S16 32) (v1969 : IVec S16 32) (k0_hw159 : k0_chk159 i v1952 v1969), ∀ (k0_h1 : k0_cond1 i = 1#1), ∀ a x, ((![v1952, v1969] : Fin 2 → IVec S16 32) a x).toNat < S192x8.size a := fun i v1952 v1969 k0_hw159 k0_h1 => k0_hw159 k0_h1

def k0_chk160 (i : grid0.Coords) (v1952 : IVec S16 32) (v1973 : IVec S16 32) : Prop :=
  (∀ (k0_h1 : k0_cond1 i = 1#1), ∀ a x, ((![v1952, v1973] : Fin 2 → IVec S16 32) a x).toNat < S192x8.size a)
theorem k0_idx160_inb : ∀ (i : grid0.Coords) (v1952 : IVec S16 32) (v1973 : IVec S16 32) (k0_hw160 : k0_chk160 i v1952 v1973), ∀ (k0_h1 : k0_cond1 i = 1#1), ∀ a x, ((![v1952, v1973] : Fin 2 → IVec S16 32) a x).toNat < S192x8.size a := fun i v1952 v1973 k0_hw160 k0_h1 => k0_hw160 k0_h1

def k0_chk161 (i : grid0.Coords) (v1952 : IVec S16 32) (v1977 : IVec S16 32) : Prop :=
  (∀ (k0_h1 : k0_cond1 i = 1#1), ∀ a x, ((![v1952, v1977] : Fin 2 → IVec S16 32) a x).toNat < S192x8.size a)
theorem k0_idx161_inb : ∀ (i : grid0.Coords) (v1952 : IVec S16 32) (v1977 : IVec S16 32) (k0_hw161 : k0_chk161 i v1952 v1977), ∀ (k0_h1 : k0_cond1 i = 1#1), ∀ a x, ((![v1952, v1977] : Fin 2 → IVec S16 32) a x).toNat < S192x8.size a := fun i v1952 v1977 k0_hw161 k0_h1 => k0_hw161 k0_h1

def k0_chk162 (i : grid0.Coords) (v1952 : IVec S16 32) (v1981 : IVec S16 32) : Prop :=
  (∀ (k0_h1 : k0_cond1 i = 1#1), ∀ a x, ((![v1952, v1981] : Fin 2 → IVec S16 32) a x).toNat < S192x8.size a)
theorem k0_idx162_inb : ∀ (i : grid0.Coords) (v1952 : IVec S16 32) (v1981 : IVec S16 32) (k0_hw162 : k0_chk162 i v1952 v1981), ∀ (k0_h1 : k0_cond1 i = 1#1), ∀ a x, ((![v1952, v1981] : Fin 2 → IVec S16 32) a x).toNat < S192x8.size a := fun i v1952 v1981 k0_hw162 k0_h1 => k0_hw162 k0_h1

def k0_chk163 (i : grid0.Coords) (v1952 : IVec S16 32) (v1985 : IVec S16 32) : Prop :=
  (∀ (k0_h1 : k0_cond1 i = 1#1), ∀ a x, ((![v1952, v1985] : Fin 2 → IVec S16 32) a x).toNat < S192x8.size a)
theorem k0_idx163_inb : ∀ (i : grid0.Coords) (v1952 : IVec S16 32) (v1985 : IVec S16 32) (k0_hw163 : k0_chk163 i v1952 v1985), ∀ (k0_h1 : k0_cond1 i = 1#1), ∀ a x, ((![v1952, v1985] : Fin 2 → IVec S16 32) a x).toNat < S192x8.size a := fun i v1952 v1985 k0_hw163 k0_h1 => k0_hw163 k0_h1

def k0_chk164 (i : grid0.Coords) (v1952 : IVec S16 32) (v1989 : IVec S16 32) : Prop :=
  (∀ (k0_h1 : k0_cond1 i = 1#1), ∀ a x, ((![v1952, v1989] : Fin 2 → IVec S16 32) a x).toNat < S192x8.size a)
theorem k0_idx164_inb : ∀ (i : grid0.Coords) (v1952 : IVec S16 32) (v1989 : IVec S16 32) (k0_hw164 : k0_chk164 i v1952 v1989), ∀ (k0_h1 : k0_cond1 i = 1#1), ∀ a x, ((![v1952, v1989] : Fin 2 → IVec S16 32) a x).toNat < S192x8.size a := fun i v1952 v1989 k0_hw164 k0_h1 => k0_hw164 k0_h1

def k0_chk165 (i : grid0.Coords) (v2051 : IVec S16 32) (v2060 : IVec S16 32) : Prop :=
  (∀ (k0_h1 : k0_cond1 i = 1#1), ∀ a x, ((![v2051, v2060] : Fin 2 → IVec S16 32) a x).toNat < S192x8.size a)
theorem k0_idx165_inb : ∀ (i : grid0.Coords) (v2051 : IVec S16 32) (v2060 : IVec S16 32) (k0_hw165 : k0_chk165 i v2051 v2060), ∀ (k0_h1 : k0_cond1 i = 1#1), ∀ a x, ((![v2051, v2060] : Fin 2 → IVec S16 32) a x).toNat < S192x8.size a := fun i v2051 v2060 k0_hw165 k0_h1 => k0_hw165 k0_h1

def k0_chk166 (i : grid0.Coords) (v2051 : IVec S16 32) (v2064 : IVec S16 32) : Prop :=
  (∀ (k0_h1 : k0_cond1 i = 1#1), ∀ a x, ((![v2051, v2064] : Fin 2 → IVec S16 32) a x).toNat < S192x8.size a)
theorem k0_idx166_inb : ∀ (i : grid0.Coords) (v2051 : IVec S16 32) (v2064 : IVec S16 32) (k0_hw166 : k0_chk166 i v2051 v2064), ∀ (k0_h1 : k0_cond1 i = 1#1), ∀ a x, ((![v2051, v2064] : Fin 2 → IVec S16 32) a x).toNat < S192x8.size a := fun i v2051 v2064 k0_hw166 k0_h1 => k0_hw166 k0_h1

def k0_chk167 (i : grid0.Coords) (v2051 : IVec S16 32) (v2068 : IVec S16 32) : Prop :=
  (∀ (k0_h1 : k0_cond1 i = 1#1), ∀ a x, ((![v2051, v2068] : Fin 2 → IVec S16 32) a x).toNat < S192x8.size a)
theorem k0_idx167_inb : ∀ (i : grid0.Coords) (v2051 : IVec S16 32) (v2068 : IVec S16 32) (k0_hw167 : k0_chk167 i v2051 v2068), ∀ (k0_h1 : k0_cond1 i = 1#1), ∀ a x, ((![v2051, v2068] : Fin 2 → IVec S16 32) a x).toNat < S192x8.size a := fun i v2051 v2068 k0_hw167 k0_h1 => k0_hw167 k0_h1

def k0_chk168 (i : grid0.Coords) (v2051 : IVec S16 32) (v2072 : IVec S16 32) : Prop :=
  (∀ (k0_h1 : k0_cond1 i = 1#1), ∀ a x, ((![v2051, v2072] : Fin 2 → IVec S16 32) a x).toNat < S192x8.size a)
theorem k0_idx168_inb : ∀ (i : grid0.Coords) (v2051 : IVec S16 32) (v2072 : IVec S16 32) (k0_hw168 : k0_chk168 i v2051 v2072), ∀ (k0_h1 : k0_cond1 i = 1#1), ∀ a x, ((![v2051, v2072] : Fin 2 → IVec S16 32) a x).toNat < S192x8.size a := fun i v2051 v2072 k0_hw168 k0_h1 => k0_hw168 k0_h1

def k0_chk169 (i : grid0.Coords) (v2051 : IVec S16 32) (v2076 : IVec S16 32) : Prop :=
  (∀ (k0_h1 : k0_cond1 i = 1#1), ∀ a x, ((![v2051, v2076] : Fin 2 → IVec S16 32) a x).toNat < S192x8.size a)
theorem k0_idx169_inb : ∀ (i : grid0.Coords) (v2051 : IVec S16 32) (v2076 : IVec S16 32) (k0_hw169 : k0_chk169 i v2051 v2076), ∀ (k0_h1 : k0_cond1 i = 1#1), ∀ a x, ((![v2051, v2076] : Fin 2 → IVec S16 32) a x).toNat < S192x8.size a := fun i v2051 v2076 k0_hw169 k0_h1 => k0_hw169 k0_h1

def k0_chk170 (i : grid0.Coords) (v2051 : IVec S16 32) (v2080 : IVec S16 32) : Prop :=
  (∀ (k0_h1 : k0_cond1 i = 1#1), ∀ a x, ((![v2051, v2080] : Fin 2 → IVec S16 32) a x).toNat < S192x8.size a)
theorem k0_idx170_inb : ∀ (i : grid0.Coords) (v2051 : IVec S16 32) (v2080 : IVec S16 32) (k0_hw170 : k0_chk170 i v2051 v2080), ∀ (k0_h1 : k0_cond1 i = 1#1), ∀ a x, ((![v2051, v2080] : Fin 2 → IVec S16 32) a x).toNat < S192x8.size a := fun i v2051 v2080 k0_hw170 k0_h1 => k0_hw170 k0_h1

def k0_chk171 (i : grid0.Coords) (v2051 : IVec S16 32) (v2084 : IVec S16 32) : Prop :=
  (∀ (k0_h1 : k0_cond1 i = 1#1), ∀ a x, ((![v2051, v2084] : Fin 2 → IVec S16 32) a x).toNat < S192x8.size a)
theorem k0_idx171_inb : ∀ (i : grid0.Coords) (v2051 : IVec S16 32) (v2084 : IVec S16 32) (k0_hw171 : k0_chk171 i v2051 v2084), ∀ (k0_h1 : k0_cond1 i = 1#1), ∀ a x, ((![v2051, v2084] : Fin 2 → IVec S16 32) a x).toNat < S192x8.size a := fun i v2051 v2084 k0_hw171 k0_h1 => k0_hw171 k0_h1

def k0_chk172 (i : grid0.Coords) (v2051 : IVec S16 32) (v2088 : IVec S16 32) : Prop :=
  (∀ (k0_h1 : k0_cond1 i = 1#1), ∀ a x, ((![v2051, v2088] : Fin 2 → IVec S16 32) a x).toNat < S192x8.size a)
theorem k0_idx172_inb : ∀ (i : grid0.Coords) (v2051 : IVec S16 32) (v2088 : IVec S16 32) (k0_hw172 : k0_chk172 i v2051 v2088), ∀ (k0_h1 : k0_cond1 i = 1#1), ∀ a x, ((![v2051, v2088] : Fin 2 → IVec S16 32) a x).toNat < S192x8.size a := fun i v2051 v2088 k0_hw172 k0_h1 => k0_hw172 k0_h1

def k0_chk173 (i : grid0.Coords) (v2150 : IVec S16 32) (v2159 : IVec S16 32) : Prop :=
  (∀ (k0_h1 : k0_cond1 i = 1#1), ∀ a x, ((![v2150, v2159] : Fin 2 → IVec S16 32) a x).toNat < S192x8.size a)
theorem k0_idx173_inb : ∀ (i : grid0.Coords) (v2150 : IVec S16 32) (v2159 : IVec S16 32) (k0_hw173 : k0_chk173 i v2150 v2159), ∀ (k0_h1 : k0_cond1 i = 1#1), ∀ a x, ((![v2150, v2159] : Fin 2 → IVec S16 32) a x).toNat < S192x8.size a := fun i v2150 v2159 k0_hw173 k0_h1 => k0_hw173 k0_h1

def k0_chk174 (i : grid0.Coords) (v2150 : IVec S16 32) (v2163 : IVec S16 32) : Prop :=
  (∀ (k0_h1 : k0_cond1 i = 1#1), ∀ a x, ((![v2150, v2163] : Fin 2 → IVec S16 32) a x).toNat < S192x8.size a)
theorem k0_idx174_inb : ∀ (i : grid0.Coords) (v2150 : IVec S16 32) (v2163 : IVec S16 32) (k0_hw174 : k0_chk174 i v2150 v2163), ∀ (k0_h1 : k0_cond1 i = 1#1), ∀ a x, ((![v2150, v2163] : Fin 2 → IVec S16 32) a x).toNat < S192x8.size a := fun i v2150 v2163 k0_hw174 k0_h1 => k0_hw174 k0_h1

def k0_chk175 (i : grid0.Coords) (v2150 : IVec S16 32) (v2167 : IVec S16 32) : Prop :=
  (∀ (k0_h1 : k0_cond1 i = 1#1), ∀ a x, ((![v2150, v2167] : Fin 2 → IVec S16 32) a x).toNat < S192x8.size a)
theorem k0_idx175_inb : ∀ (i : grid0.Coords) (v2150 : IVec S16 32) (v2167 : IVec S16 32) (k0_hw175 : k0_chk175 i v2150 v2167), ∀ (k0_h1 : k0_cond1 i = 1#1), ∀ a x, ((![v2150, v2167] : Fin 2 → IVec S16 32) a x).toNat < S192x8.size a := fun i v2150 v2167 k0_hw175 k0_h1 => k0_hw175 k0_h1

def k0_chk176 (i : grid0.Coords) (v2150 : IVec S16 32) (v2171 : IVec S16 32) : Prop :=
  (∀ (k0_h1 : k0_cond1 i = 1#1), ∀ a x, ((![v2150, v2171] : Fin 2 → IVec S16 32) a x).toNat < S192x8.size a)
theorem k0_idx176_inb : ∀ (i : grid0.Coords) (v2150 : IVec S16 32) (v2171 : IVec S16 32) (k0_hw176 : k0_chk176 i v2150 v2171), ∀ (k0_h1 : k0_cond1 i = 1#1), ∀ a x, ((![v2150, v2171] : Fin 2 → IVec S16 32) a x).toNat < S192x8.size a := fun i v2150 v2171 k0_hw176 k0_h1 => k0_hw176 k0_h1

def k0_chk177 (i : grid0.Coords) (v2150 : IVec S16 32) (v2175 : IVec S16 32) : Prop :=
  (∀ (k0_h1 : k0_cond1 i = 1#1), ∀ a x, ((![v2150, v2175] : Fin 2 → IVec S16 32) a x).toNat < S192x8.size a)
theorem k0_idx177_inb : ∀ (i : grid0.Coords) (v2150 : IVec S16 32) (v2175 : IVec S16 32) (k0_hw177 : k0_chk177 i v2150 v2175), ∀ (k0_h1 : k0_cond1 i = 1#1), ∀ a x, ((![v2150, v2175] : Fin 2 → IVec S16 32) a x).toNat < S192x8.size a := fun i v2150 v2175 k0_hw177 k0_h1 => k0_hw177 k0_h1

def k0_chk178 (i : grid0.Coords) (v2150 : IVec S16 32) (v2179 : IVec S16 32) : Prop :=
  (∀ (k0_h1 : k0_cond1 i = 1#1), ∀ a x, ((![v2150, v2179] : Fin 2 → IVec S16 32) a x).toNat < S192x8.size a)
theorem k0_idx178_inb : ∀ (i : grid0.Coords) (v2150 : IVec S16 32) (v2179 : IVec S16 32) (k0_hw178 : k0_chk178 i v2150 v2179), ∀ (k0_h1 : k0_cond1 i = 1#1), ∀ a x, ((![v2150, v2179] : Fin 2 → IVec S16 32) a x).toNat < S192x8.size a := fun i v2150 v2179 k0_hw178 k0_h1 => k0_hw178 k0_h1

def k0_chk179 (i : grid0.Coords) (v2150 : IVec S16 32) (v2183 : IVec S16 32) : Prop :=
  (∀ (k0_h1 : k0_cond1 i = 1#1), ∀ a x, ((![v2150, v2183] : Fin 2 → IVec S16 32) a x).toNat < S192x8.size a)
theorem k0_idx179_inb : ∀ (i : grid0.Coords) (v2150 : IVec S16 32) (v2183 : IVec S16 32) (k0_hw179 : k0_chk179 i v2150 v2183), ∀ (k0_h1 : k0_cond1 i = 1#1), ∀ a x, ((![v2150, v2183] : Fin 2 → IVec S16 32) a x).toNat < S192x8.size a := fun i v2150 v2183 k0_hw179 k0_h1 => k0_hw179 k0_h1

def k0_chk180 (i : grid0.Coords) (v2150 : IVec S16 32) (v2187 : IVec S16 32) : Prop :=
  (∀ (k0_h1 : k0_cond1 i = 1#1), ∀ a x, ((![v2150, v2187] : Fin 2 → IVec S16 32) a x).toNat < S192x8.size a)
theorem k0_idx180_inb : ∀ (i : grid0.Coords) (v2150 : IVec S16 32) (v2187 : IVec S16 32) (k0_hw180 : k0_chk180 i v2150 v2187), ∀ (k0_h1 : k0_cond1 i = 1#1), ∀ a x, ((![v2150, v2187] : Fin 2 → IVec S16 32) a x).toNat < S192x8.size a := fun i v2150 v2187 k0_hw180 k0_h1 => k0_hw180 k0_h1

def k0_chk181 (i : grid0.Coords) (v2249 : IVec S16 32) (v2258 : IVec S16 32) : Prop :=
  (∀ (k0_h1 : k0_cond1 i = 1#1), ∀ a x, ((![v2249, v2258] : Fin 2 → IVec S16 32) a x).toNat < S192x8.size a)
theorem k0_idx181_inb : ∀ (i : grid0.Coords) (v2249 : IVec S16 32) (v2258 : IVec S16 32) (k0_hw181 : k0_chk181 i v2249 v2258), ∀ (k0_h1 : k0_cond1 i = 1#1), ∀ a x, ((![v2249, v2258] : Fin 2 → IVec S16 32) a x).toNat < S192x8.size a := fun i v2249 v2258 k0_hw181 k0_h1 => k0_hw181 k0_h1

def k0_chk182 (i : grid0.Coords) (v2249 : IVec S16 32) (v2262 : IVec S16 32) : Prop :=
  (∀ (k0_h1 : k0_cond1 i = 1#1), ∀ a x, ((![v2249, v2262] : Fin 2 → IVec S16 32) a x).toNat < S192x8.size a)
theorem k0_idx182_inb : ∀ (i : grid0.Coords) (v2249 : IVec S16 32) (v2262 : IVec S16 32) (k0_hw182 : k0_chk182 i v2249 v2262), ∀ (k0_h1 : k0_cond1 i = 1#1), ∀ a x, ((![v2249, v2262] : Fin 2 → IVec S16 32) a x).toNat < S192x8.size a := fun i v2249 v2262 k0_hw182 k0_h1 => k0_hw182 k0_h1

def k0_chk183 (i : grid0.Coords) (v2249 : IVec S16 32) (v2266 : IVec S16 32) : Prop :=
  (∀ (k0_h1 : k0_cond1 i = 1#1), ∀ a x, ((![v2249, v2266] : Fin 2 → IVec S16 32) a x).toNat < S192x8.size a)
theorem k0_idx183_inb : ∀ (i : grid0.Coords) (v2249 : IVec S16 32) (v2266 : IVec S16 32) (k0_hw183 : k0_chk183 i v2249 v2266), ∀ (k0_h1 : k0_cond1 i = 1#1), ∀ a x, ((![v2249, v2266] : Fin 2 → IVec S16 32) a x).toNat < S192x8.size a := fun i v2249 v2266 k0_hw183 k0_h1 => k0_hw183 k0_h1

def k0_chk184 (i : grid0.Coords) (v2249 : IVec S16 32) (v2270 : IVec S16 32) : Prop :=
  (∀ (k0_h1 : k0_cond1 i = 1#1), ∀ a x, ((![v2249, v2270] : Fin 2 → IVec S16 32) a x).toNat < S192x8.size a)
theorem k0_idx184_inb : ∀ (i : grid0.Coords) (v2249 : IVec S16 32) (v2270 : IVec S16 32) (k0_hw184 : k0_chk184 i v2249 v2270), ∀ (k0_h1 : k0_cond1 i = 1#1), ∀ a x, ((![v2249, v2270] : Fin 2 → IVec S16 32) a x).toNat < S192x8.size a := fun i v2249 v2270 k0_hw184 k0_h1 => k0_hw184 k0_h1

def k0_chk185 (i : grid0.Coords) (v2249 : IVec S16 32) (v2274 : IVec S16 32) : Prop :=
  (∀ (k0_h1 : k0_cond1 i = 1#1), ∀ a x, ((![v2249, v2274] : Fin 2 → IVec S16 32) a x).toNat < S192x8.size a)
theorem k0_idx185_inb : ∀ (i : grid0.Coords) (v2249 : IVec S16 32) (v2274 : IVec S16 32) (k0_hw185 : k0_chk185 i v2249 v2274), ∀ (k0_h1 : k0_cond1 i = 1#1), ∀ a x, ((![v2249, v2274] : Fin 2 → IVec S16 32) a x).toNat < S192x8.size a := fun i v2249 v2274 k0_hw185 k0_h1 => k0_hw185 k0_h1

def k0_chk186 (i : grid0.Coords) (v2249 : IVec S16 32) (v2278 : IVec S16 32) : Prop :=
  (∀ (k0_h1 : k0_cond1 i = 1#1), ∀ a x, ((![v2249, v2278] : Fin 2 → IVec S16 32) a x).toNat < S192x8.size a)
theorem k0_idx186_inb : ∀ (i : grid0.Coords) (v2249 : IVec S16 32) (v2278 : IVec S16 32) (k0_hw186 : k0_chk186 i v2249 v2278), ∀ (k0_h1 : k0_cond1 i = 1#1), ∀ a x, ((![v2249, v2278] : Fin 2 → IVec S16 32) a x).toNat < S192x8.size a := fun i v2249 v2278 k0_hw186 k0_h1 => k0_hw186 k0_h1

def k0_chk187 (i : grid0.Coords) (v2249 : IVec S16 32) (v2282 : IVec S16 32) : Prop :=
  (∀ (k0_h1 : k0_cond1 i = 1#1), ∀ a x, ((![v2249, v2282] : Fin 2 → IVec S16 32) a x).toNat < S192x8.size a)
theorem k0_idx187_inb : ∀ (i : grid0.Coords) (v2249 : IVec S16 32) (v2282 : IVec S16 32) (k0_hw187 : k0_chk187 i v2249 v2282), ∀ (k0_h1 : k0_cond1 i = 1#1), ∀ a x, ((![v2249, v2282] : Fin 2 → IVec S16 32) a x).toNat < S192x8.size a := fun i v2249 v2282 k0_hw187 k0_h1 => k0_hw187 k0_h1

def k0_chk188 (i : grid0.Coords) (v2249 : IVec S16 32) (v2286 : IVec S16 32) : Prop :=
  (∀ (k0_h1 : k0_cond1 i = 1#1), ∀ a x, ((![v2249, v2286] : Fin 2 → IVec S16 32) a x).toNat < S192x8.size a)
theorem k0_idx188_inb : ∀ (i : grid0.Coords) (v2249 : IVec S16 32) (v2286 : IVec S16 32) (k0_hw188 : k0_chk188 i v2249 v2286), ∀ (k0_h1 : k0_cond1 i = 1#1), ∀ a x, ((![v2249, v2286] : Fin 2 → IVec S16 32) a x).toNat < S192x8.size a := fun i v2249 v2286 k0_hw188 k0_h1 => k0_hw188 k0_h1

def k0_chk189 (i : grid0.Coords) (v2348 : IVec S16 32) (v2357 : IVec S16 32) : Prop :=
  (∀ (k0_h1 : k0_cond1 i = 1#1), ∀ a x, ((![v2348, v2357] : Fin 2 → IVec S16 32) a x).toNat < S192x8.size a)
theorem k0_idx189_inb : ∀ (i : grid0.Coords) (v2348 : IVec S16 32) (v2357 : IVec S16 32) (k0_hw189 : k0_chk189 i v2348 v2357), ∀ (k0_h1 : k0_cond1 i = 1#1), ∀ a x, ((![v2348, v2357] : Fin 2 → IVec S16 32) a x).toNat < S192x8.size a := fun i v2348 v2357 k0_hw189 k0_h1 => k0_hw189 k0_h1

def k0_chk190 (i : grid0.Coords) (v2348 : IVec S16 32) (v2361 : IVec S16 32) : Prop :=
  (∀ (k0_h1 : k0_cond1 i = 1#1), ∀ a x, ((![v2348, v2361] : Fin 2 → IVec S16 32) a x).toNat < S192x8.size a)
theorem k0_idx190_inb : ∀ (i : grid0.Coords) (v2348 : IVec S16 32) (v2361 : IVec S16 32) (k0_hw190 : k0_chk190 i v2348 v2361), ∀ (k0_h1 : k0_cond1 i = 1#1), ∀ a x, ((![v2348, v2361] : Fin 2 → IVec S16 32) a x).toNat < S192x8.size a := fun i v2348 v2361 k0_hw190 k0_h1 => k0_hw190 k0_h1

def k0_chk191 (i : grid0.Coords) (v2348 : IVec S16 32) (v2365 : IVec S16 32) : Prop :=
  (∀ (k0_h1 : k0_cond1 i = 1#1), ∀ a x, ((![v2348, v2365] : Fin 2 → IVec S16 32) a x).toNat < S192x8.size a)
theorem k0_idx191_inb : ∀ (i : grid0.Coords) (v2348 : IVec S16 32) (v2365 : IVec S16 32) (k0_hw191 : k0_chk191 i v2348 v2365), ∀ (k0_h1 : k0_cond1 i = 1#1), ∀ a x, ((![v2348, v2365] : Fin 2 → IVec S16 32) a x).toNat < S192x8.size a := fun i v2348 v2365 k0_hw191 k0_h1 => k0_hw191 k0_h1

def k0_chk192 (i : grid0.Coords) (v2348 : IVec S16 32) (v2369 : IVec S16 32) : Prop :=
  (∀ (k0_h1 : k0_cond1 i = 1#1), ∀ a x, ((![v2348, v2369] : Fin 2 → IVec S16 32) a x).toNat < S192x8.size a)
theorem k0_idx192_inb : ∀ (i : grid0.Coords) (v2348 : IVec S16 32) (v2369 : IVec S16 32) (k0_hw192 : k0_chk192 i v2348 v2369), ∀ (k0_h1 : k0_cond1 i = 1#1), ∀ a x, ((![v2348, v2369] : Fin 2 → IVec S16 32) a x).toNat < S192x8.size a := fun i v2348 v2369 k0_hw192 k0_h1 => k0_hw192 k0_h1

def k0_chk193 (i : grid0.Coords) (v2348 : IVec S16 32) (v2373 : IVec S16 32) : Prop :=
  (∀ (k0_h1 : k0_cond1 i = 1#1), ∀ a x, ((![v2348, v2373] : Fin 2 → IVec S16 32) a x).toNat < S192x8.size a)
theorem k0_idx193_inb : ∀ (i : grid0.Coords) (v2348 : IVec S16 32) (v2373 : IVec S16 32) (k0_hw193 : k0_chk193 i v2348 v2373), ∀ (k0_h1 : k0_cond1 i = 1#1), ∀ a x, ((![v2348, v2373] : Fin 2 → IVec S16 32) a x).toNat < S192x8.size a := fun i v2348 v2373 k0_hw193 k0_h1 => k0_hw193 k0_h1

def k0_chk194 (i : grid0.Coords) (v2348 : IVec S16 32) (v2377 : IVec S16 32) : Prop :=
  (∀ (k0_h1 : k0_cond1 i = 1#1), ∀ a x, ((![v2348, v2377] : Fin 2 → IVec S16 32) a x).toNat < S192x8.size a)
theorem k0_idx194_inb : ∀ (i : grid0.Coords) (v2348 : IVec S16 32) (v2377 : IVec S16 32) (k0_hw194 : k0_chk194 i v2348 v2377), ∀ (k0_h1 : k0_cond1 i = 1#1), ∀ a x, ((![v2348, v2377] : Fin 2 → IVec S16 32) a x).toNat < S192x8.size a := fun i v2348 v2377 k0_hw194 k0_h1 => k0_hw194 k0_h1

def k0_chk195 (i : grid0.Coords) (v2348 : IVec S16 32) (v2381 : IVec S16 32) : Prop :=
  (∀ (k0_h1 : k0_cond1 i = 1#1), ∀ a x, ((![v2348, v2381] : Fin 2 → IVec S16 32) a x).toNat < S192x8.size a)
theorem k0_idx195_inb : ∀ (i : grid0.Coords) (v2348 : IVec S16 32) (v2381 : IVec S16 32) (k0_hw195 : k0_chk195 i v2348 v2381), ∀ (k0_h1 : k0_cond1 i = 1#1), ∀ a x, ((![v2348, v2381] : Fin 2 → IVec S16 32) a x).toNat < S192x8.size a := fun i v2348 v2381 k0_hw195 k0_h1 => k0_hw195 k0_h1

def k0_chk196 (i : grid0.Coords) (v2348 : IVec S16 32) (v2385 : IVec S16 32) : Prop :=
  (∀ (k0_h1 : k0_cond1 i = 1#1), ∀ a x, ((![v2348, v2385] : Fin 2 → IVec S16 32) a x).toNat < S192x8.size a)
theorem k0_idx196_inb : ∀ (i : grid0.Coords) (v2348 : IVec S16 32) (v2385 : IVec S16 32) (k0_hw196 : k0_chk196 i v2348 v2385), ∀ (k0_h1 : k0_cond1 i = 1#1), ∀ a x, ((![v2348, v2385] : Fin 2 → IVec S16 32) a x).toNat < S192x8.size a := fun i v2348 v2385 k0_hw196 k0_h1 => k0_hw196 k0_h1

def k0_chk197 (i : grid0.Coords) (v2447 : IVec S16 32) (v2456 : IVec S16 32) : Prop :=
  (∀ (k0_h1 : k0_cond1 i = 1#1), ∀ a x, ((![v2447, v2456] : Fin 2 → IVec S16 32) a x).toNat < S192x8.size a)
theorem k0_idx197_inb : ∀ (i : grid0.Coords) (v2447 : IVec S16 32) (v2456 : IVec S16 32) (k0_hw197 : k0_chk197 i v2447 v2456), ∀ (k0_h1 : k0_cond1 i = 1#1), ∀ a x, ((![v2447, v2456] : Fin 2 → IVec S16 32) a x).toNat < S192x8.size a := fun i v2447 v2456 k0_hw197 k0_h1 => k0_hw197 k0_h1

def k0_chk198 (i : grid0.Coords) (v2447 : IVec S16 32) (v2460 : IVec S16 32) : Prop :=
  (∀ (k0_h1 : k0_cond1 i = 1#1), ∀ a x, ((![v2447, v2460] : Fin 2 → IVec S16 32) a x).toNat < S192x8.size a)
theorem k0_idx198_inb : ∀ (i : grid0.Coords) (v2447 : IVec S16 32) (v2460 : IVec S16 32) (k0_hw198 : k0_chk198 i v2447 v2460), ∀ (k0_h1 : k0_cond1 i = 1#1), ∀ a x, ((![v2447, v2460] : Fin 2 → IVec S16 32) a x).toNat < S192x8.size a := fun i v2447 v2460 k0_hw198 k0_h1 => k0_hw198 k0_h1

def k0_chk199 (i : grid0.Coords) (v2447 : IVec S16 32) (v2464 : IVec S16 32) : Prop :=
  (∀ (k0_h1 : k0_cond1 i = 1#1), ∀ a x, ((![v2447, v2464] : Fin 2 → IVec S16 32) a x).toNat < S192x8.size a)
theorem k0_idx199_inb : ∀ (i : grid0.Coords) (v2447 : IVec S16 32) (v2464 : IVec S16 32) (k0_hw199 : k0_chk199 i v2447 v2464), ∀ (k0_h1 : k0_cond1 i = 1#1), ∀ a x, ((![v2447, v2464] : Fin 2 → IVec S16 32) a x).toNat < S192x8.size a := fun i v2447 v2464 k0_hw199 k0_h1 => k0_hw199 k0_h1

def k0_chk200 (i : grid0.Coords) (v2447 : IVec S16 32) (v2468 : IVec S16 32) : Prop :=
  (∀ (k0_h1 : k0_cond1 i = 1#1), ∀ a x, ((![v2447, v2468] : Fin 2 → IVec S16 32) a x).toNat < S192x8.size a)
theorem k0_idx200_inb : ∀ (i : grid0.Coords) (v2447 : IVec S16 32) (v2468 : IVec S16 32) (k0_hw200 : k0_chk200 i v2447 v2468), ∀ (k0_h1 : k0_cond1 i = 1#1), ∀ a x, ((![v2447, v2468] : Fin 2 → IVec S16 32) a x).toNat < S192x8.size a := fun i v2447 v2468 k0_hw200 k0_h1 => k0_hw200 k0_h1

def k0_chk201 (i : grid0.Coords) (v2447 : IVec S16 32) (v2472 : IVec S16 32) : Prop :=
  (∀ (k0_h1 : k0_cond1 i = 1#1), ∀ a x, ((![v2447, v2472] : Fin 2 → IVec S16 32) a x).toNat < S192x8.size a)
theorem k0_idx201_inb : ∀ (i : grid0.Coords) (v2447 : IVec S16 32) (v2472 : IVec S16 32) (k0_hw201 : k0_chk201 i v2447 v2472), ∀ (k0_h1 : k0_cond1 i = 1#1), ∀ a x, ((![v2447, v2472] : Fin 2 → IVec S16 32) a x).toNat < S192x8.size a := fun i v2447 v2472 k0_hw201 k0_h1 => k0_hw201 k0_h1

def k0_chk202 (i : grid0.Coords) (v2447 : IVec S16 32) (v2476 : IVec S16 32) : Prop :=
  (∀ (k0_h1 : k0_cond1 i = 1#1), ∀ a x, ((![v2447, v2476] : Fin 2 → IVec S16 32) a x).toNat < S192x8.size a)
theorem k0_idx202_inb : ∀ (i : grid0.Coords) (v2447 : IVec S16 32) (v2476 : IVec S16 32) (k0_hw202 : k0_chk202 i v2447 v2476), ∀ (k0_h1 : k0_cond1 i = 1#1), ∀ a x, ((![v2447, v2476] : Fin 2 → IVec S16 32) a x).toNat < S192x8.size a := fun i v2447 v2476 k0_hw202 k0_h1 => k0_hw202 k0_h1

def k0_chk203 (i : grid0.Coords) (v2447 : IVec S16 32) (v2480 : IVec S16 32) : Prop :=
  (∀ (k0_h1 : k0_cond1 i = 1#1), ∀ a x, ((![v2447, v2480] : Fin 2 → IVec S16 32) a x).toNat < S192x8.size a)
theorem k0_idx203_inb : ∀ (i : grid0.Coords) (v2447 : IVec S16 32) (v2480 : IVec S16 32) (k0_hw203 : k0_chk203 i v2447 v2480), ∀ (k0_h1 : k0_cond1 i = 1#1), ∀ a x, ((![v2447, v2480] : Fin 2 → IVec S16 32) a x).toNat < S192x8.size a := fun i v2447 v2480 k0_hw203 k0_h1 => k0_hw203 k0_h1

def k0_chk204 (i : grid0.Coords) (v2447 : IVec S16 32) (v2484 : IVec S16 32) : Prop :=
  (∀ (k0_h1 : k0_cond1 i = 1#1), ∀ a x, ((![v2447, v2484] : Fin 2 → IVec S16 32) a x).toNat < S192x8.size a)
theorem k0_idx204_inb : ∀ (i : grid0.Coords) (v2447 : IVec S16 32) (v2484 : IVec S16 32) (k0_hw204 : k0_chk204 i v2447 v2484), ∀ (k0_h1 : k0_cond1 i = 1#1), ∀ a x, ((![v2447, v2484] : Fin 2 → IVec S16 32) a x).toNat < S192x8.size a := fun i v2447 v2484 k0_hw204 k0_h1 => k0_hw204 k0_h1
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c48_i32_1618 : BitVec 32 := 48#32
  let v2488 : BitVec 32 := Scalar.muli v21 c48_i32_1618
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v2489 : BitVec 32 := Scalar.addi v2488 v32
  let c7_i32_1619 : BitVec 32 := 7#32
  let v2490 : BitVec 32 := Scalar.addi v2489 c7_i32_1619
  let c3_i32_1620 : BitVec 32 := 3#32
  let v2491 : BitVec 32 := Scalar.subi v2490 c3_i32_1620
  let c48_i32_1621 : BitVec 32 := 48#32
  let v2492 : BitVec 32 := Scalar.muli v2491 c48_i32_1621
  let c0_i32_1624 : BitVec 32 := 0#32
  ![v2492.toNat, 0]

def k0_chk205 (i : grid0.Coords) (v2555 : IVec S16 32) (v2564 : IVec S16 32) : Prop :=
  (∀ (k0_h1 : k0_cond1 i = 1#1), ∀ a x, ((![v2555, v2564] : Fin 2 → IVec S16 32) a x).toNat < S192x8.size a)
theorem k0_idx205_inb : ∀ (i : grid0.Coords) (v2555 : IVec S16 32) (v2564 : IVec S16 32) (k0_hw205 : k0_chk205 i v2555 v2564), ∀ (k0_h1 : k0_cond1 i = 1#1), ∀ a x, ((![v2555, v2564] : Fin 2 → IVec S16 32) a x).toNat < S192x8.size a := fun i v2555 v2564 k0_hw205 k0_h1 => k0_hw205 k0_h1

def k0_chk206 (i : grid0.Coords) (v2555 : IVec S16 32) (v2568 : IVec S16 32) : Prop :=
  (∀ (k0_h1 : k0_cond1 i = 1#1), ∀ a x, ((![v2555, v2568] : Fin 2 → IVec S16 32) a x).toNat < S192x8.size a)
theorem k0_idx206_inb : ∀ (i : grid0.Coords) (v2555 : IVec S16 32) (v2568 : IVec S16 32) (k0_hw206 : k0_chk206 i v2555 v2568), ∀ (k0_h1 : k0_cond1 i = 1#1), ∀ a x, ((![v2555, v2568] : Fin 2 → IVec S16 32) a x).toNat < S192x8.size a := fun i v2555 v2568 k0_hw206 k0_h1 => k0_hw206 k0_h1

def k0_chk207 (i : grid0.Coords) (v2555 : IVec S16 32) (v2572 : IVec S16 32) : Prop :=
  (∀ (k0_h1 : k0_cond1 i = 1#1), ∀ a x, ((![v2555, v2572] : Fin 2 → IVec S16 32) a x).toNat < S192x8.size a)
theorem k0_idx207_inb : ∀ (i : grid0.Coords) (v2555 : IVec S16 32) (v2572 : IVec S16 32) (k0_hw207 : k0_chk207 i v2555 v2572), ∀ (k0_h1 : k0_cond1 i = 1#1), ∀ a x, ((![v2555, v2572] : Fin 2 → IVec S16 32) a x).toNat < S192x8.size a := fun i v2555 v2572 k0_hw207 k0_h1 => k0_hw207 k0_h1

def k0_chk208 (i : grid0.Coords) (v2555 : IVec S16 32) (v2576 : IVec S16 32) : Prop :=
  (∀ (k0_h1 : k0_cond1 i = 1#1), ∀ a x, ((![v2555, v2576] : Fin 2 → IVec S16 32) a x).toNat < S192x8.size a)
theorem k0_idx208_inb : ∀ (i : grid0.Coords) (v2555 : IVec S16 32) (v2576 : IVec S16 32) (k0_hw208 : k0_chk208 i v2555 v2576), ∀ (k0_h1 : k0_cond1 i = 1#1), ∀ a x, ((![v2555, v2576] : Fin 2 → IVec S16 32) a x).toNat < S192x8.size a := fun i v2555 v2576 k0_hw208 k0_h1 => k0_hw208 k0_h1

def k0_chk209 (i : grid0.Coords) (v2555 : IVec S16 32) (v2580 : IVec S16 32) : Prop :=
  (∀ (k0_h1 : k0_cond1 i = 1#1), ∀ a x, ((![v2555, v2580] : Fin 2 → IVec S16 32) a x).toNat < S192x8.size a)
theorem k0_idx209_inb : ∀ (i : grid0.Coords) (v2555 : IVec S16 32) (v2580 : IVec S16 32) (k0_hw209 : k0_chk209 i v2555 v2580), ∀ (k0_h1 : k0_cond1 i = 1#1), ∀ a x, ((![v2555, v2580] : Fin 2 → IVec S16 32) a x).toNat < S192x8.size a := fun i v2555 v2580 k0_hw209 k0_h1 => k0_hw209 k0_h1

def k0_chk210 (i : grid0.Coords) (v2555 : IVec S16 32) (v2584 : IVec S16 32) : Prop :=
  (∀ (k0_h1 : k0_cond1 i = 1#1), ∀ a x, ((![v2555, v2584] : Fin 2 → IVec S16 32) a x).toNat < S192x8.size a)
theorem k0_idx210_inb : ∀ (i : grid0.Coords) (v2555 : IVec S16 32) (v2584 : IVec S16 32) (k0_hw210 : k0_chk210 i v2555 v2584), ∀ (k0_h1 : k0_cond1 i = 1#1), ∀ a x, ((![v2555, v2584] : Fin 2 → IVec S16 32) a x).toNat < S192x8.size a := fun i v2555 v2584 k0_hw210 k0_h1 => k0_hw210 k0_h1

def k0_chk211 (i : grid0.Coords) (v2555 : IVec S16 32) (v2588 : IVec S16 32) : Prop :=
  (∀ (k0_h1 : k0_cond1 i = 1#1), ∀ a x, ((![v2555, v2588] : Fin 2 → IVec S16 32) a x).toNat < S192x8.size a)
theorem k0_idx211_inb : ∀ (i : grid0.Coords) (v2555 : IVec S16 32) (v2588 : IVec S16 32) (k0_hw211 : k0_chk211 i v2555 v2588), ∀ (k0_h1 : k0_cond1 i = 1#1), ∀ a x, ((![v2555, v2588] : Fin 2 → IVec S16 32) a x).toNat < S192x8.size a := fun i v2555 v2588 k0_hw211 k0_h1 => k0_hw211 k0_h1

def k0_chk212 (i : grid0.Coords) (v2555 : IVec S16 32) (v2592 : IVec S16 32) : Prop :=
  (∀ (k0_h1 : k0_cond1 i = 1#1), ∀ a x, ((![v2555, v2592] : Fin 2 → IVec S16 32) a x).toNat < S192x8.size a)
theorem k0_idx212_inb : ∀ (i : grid0.Coords) (v2555 : IVec S16 32) (v2592 : IVec S16 32) (k0_hw212 : k0_chk212 i v2555 v2592), ∀ (k0_h1 : k0_cond1 i = 1#1), ∀ a x, ((![v2555, v2592] : Fin 2 → IVec S16 32) a x).toNat < S192x8.size a := fun i v2555 v2592 k0_hw212 k0_h1 => k0_hw212 k0_h1

def k0_chk213 (i : grid0.Coords) (v2654 : IVec S16 32) (v2663 : IVec S16 32) : Prop :=
  (∀ (k0_h1 : k0_cond1 i = 1#1), ∀ a x, ((![v2654, v2663] : Fin 2 → IVec S16 32) a x).toNat < S192x8.size a)
theorem k0_idx213_inb : ∀ (i : grid0.Coords) (v2654 : IVec S16 32) (v2663 : IVec S16 32) (k0_hw213 : k0_chk213 i v2654 v2663), ∀ (k0_h1 : k0_cond1 i = 1#1), ∀ a x, ((![v2654, v2663] : Fin 2 → IVec S16 32) a x).toNat < S192x8.size a := fun i v2654 v2663 k0_hw213 k0_h1 => k0_hw213 k0_h1

def k0_chk214 (i : grid0.Coords) (v2654 : IVec S16 32) (v2667 : IVec S16 32) : Prop :=
  (∀ (k0_h1 : k0_cond1 i = 1#1), ∀ a x, ((![v2654, v2667] : Fin 2 → IVec S16 32) a x).toNat < S192x8.size a)
theorem k0_idx214_inb : ∀ (i : grid0.Coords) (v2654 : IVec S16 32) (v2667 : IVec S16 32) (k0_hw214 : k0_chk214 i v2654 v2667), ∀ (k0_h1 : k0_cond1 i = 1#1), ∀ a x, ((![v2654, v2667] : Fin 2 → IVec S16 32) a x).toNat < S192x8.size a := fun i v2654 v2667 k0_hw214 k0_h1 => k0_hw214 k0_h1

def k0_chk215 (i : grid0.Coords) (v2654 : IVec S16 32) (v2671 : IVec S16 32) : Prop :=
  (∀ (k0_h1 : k0_cond1 i = 1#1), ∀ a x, ((![v2654, v2671] : Fin 2 → IVec S16 32) a x).toNat < S192x8.size a)
theorem k0_idx215_inb : ∀ (i : grid0.Coords) (v2654 : IVec S16 32) (v2671 : IVec S16 32) (k0_hw215 : k0_chk215 i v2654 v2671), ∀ (k0_h1 : k0_cond1 i = 1#1), ∀ a x, ((![v2654, v2671] : Fin 2 → IVec S16 32) a x).toNat < S192x8.size a := fun i v2654 v2671 k0_hw215 k0_h1 => k0_hw215 k0_h1

def k0_chk216 (i : grid0.Coords) (v2654 : IVec S16 32) (v2675 : IVec S16 32) : Prop :=
  (∀ (k0_h1 : k0_cond1 i = 1#1), ∀ a x, ((![v2654, v2675] : Fin 2 → IVec S16 32) a x).toNat < S192x8.size a)
theorem k0_idx216_inb : ∀ (i : grid0.Coords) (v2654 : IVec S16 32) (v2675 : IVec S16 32) (k0_hw216 : k0_chk216 i v2654 v2675), ∀ (k0_h1 : k0_cond1 i = 1#1), ∀ a x, ((![v2654, v2675] : Fin 2 → IVec S16 32) a x).toNat < S192x8.size a := fun i v2654 v2675 k0_hw216 k0_h1 => k0_hw216 k0_h1

def k0_chk217 (i : grid0.Coords) (v2654 : IVec S16 32) (v2679 : IVec S16 32) : Prop :=
  (∀ (k0_h1 : k0_cond1 i = 1#1), ∀ a x, ((![v2654, v2679] : Fin 2 → IVec S16 32) a x).toNat < S192x8.size a)
theorem k0_idx217_inb : ∀ (i : grid0.Coords) (v2654 : IVec S16 32) (v2679 : IVec S16 32) (k0_hw217 : k0_chk217 i v2654 v2679), ∀ (k0_h1 : k0_cond1 i = 1#1), ∀ a x, ((![v2654, v2679] : Fin 2 → IVec S16 32) a x).toNat < S192x8.size a := fun i v2654 v2679 k0_hw217 k0_h1 => k0_hw217 k0_h1

def k0_chk218 (i : grid0.Coords) (v2654 : IVec S16 32) (v2683 : IVec S16 32) : Prop :=
  (∀ (k0_h1 : k0_cond1 i = 1#1), ∀ a x, ((![v2654, v2683] : Fin 2 → IVec S16 32) a x).toNat < S192x8.size a)
theorem k0_idx218_inb : ∀ (i : grid0.Coords) (v2654 : IVec S16 32) (v2683 : IVec S16 32) (k0_hw218 : k0_chk218 i v2654 v2683), ∀ (k0_h1 : k0_cond1 i = 1#1), ∀ a x, ((![v2654, v2683] : Fin 2 → IVec S16 32) a x).toNat < S192x8.size a := fun i v2654 v2683 k0_hw218 k0_h1 => k0_hw218 k0_h1

def k0_chk219 (i : grid0.Coords) (v2654 : IVec S16 32) (v2687 : IVec S16 32) : Prop :=
  (∀ (k0_h1 : k0_cond1 i = 1#1), ∀ a x, ((![v2654, v2687] : Fin 2 → IVec S16 32) a x).toNat < S192x8.size a)
theorem k0_idx219_inb : ∀ (i : grid0.Coords) (v2654 : IVec S16 32) (v2687 : IVec S16 32) (k0_hw219 : k0_chk219 i v2654 v2687), ∀ (k0_h1 : k0_cond1 i = 1#1), ∀ a x, ((![v2654, v2687] : Fin 2 → IVec S16 32) a x).toNat < S192x8.size a := fun i v2654 v2687 k0_hw219 k0_h1 => k0_hw219 k0_h1

def k0_chk220 (i : grid0.Coords) (v2654 : IVec S16 32) (v2691 : IVec S16 32) : Prop :=
  (∀ (k0_h1 : k0_cond1 i = 1#1), ∀ a x, ((![v2654, v2691] : Fin 2 → IVec S16 32) a x).toNat < S192x8.size a)
theorem k0_idx220_inb : ∀ (i : grid0.Coords) (v2654 : IVec S16 32) (v2691 : IVec S16 32) (k0_hw220 : k0_chk220 i v2654 v2691), ∀ (k0_h1 : k0_cond1 i = 1#1), ∀ a x, ((![v2654, v2691] : Fin 2 → IVec S16 32) a x).toNat < S192x8.size a := fun i v2654 v2691 k0_hw220 k0_h1 => k0_hw220 k0_h1

def k0_chk221 (i : grid0.Coords) (v2753 : IVec S16 32) (v2762 : IVec S16 32) : Prop :=
  (∀ (k0_h1 : k0_cond1 i = 1#1), ∀ a x, ((![v2753, v2762] : Fin 2 → IVec S16 32) a x).toNat < S192x8.size a)
theorem k0_idx221_inb : ∀ (i : grid0.Coords) (v2753 : IVec S16 32) (v2762 : IVec S16 32) (k0_hw221 : k0_chk221 i v2753 v2762), ∀ (k0_h1 : k0_cond1 i = 1#1), ∀ a x, ((![v2753, v2762] : Fin 2 → IVec S16 32) a x).toNat < S192x8.size a := fun i v2753 v2762 k0_hw221 k0_h1 => k0_hw221 k0_h1

def k0_chk222 (i : grid0.Coords) (v2753 : IVec S16 32) (v2766 : IVec S16 32) : Prop :=
  (∀ (k0_h1 : k0_cond1 i = 1#1), ∀ a x, ((![v2753, v2766] : Fin 2 → IVec S16 32) a x).toNat < S192x8.size a)
theorem k0_idx222_inb : ∀ (i : grid0.Coords) (v2753 : IVec S16 32) (v2766 : IVec S16 32) (k0_hw222 : k0_chk222 i v2753 v2766), ∀ (k0_h1 : k0_cond1 i = 1#1), ∀ a x, ((![v2753, v2766] : Fin 2 → IVec S16 32) a x).toNat < S192x8.size a := fun i v2753 v2766 k0_hw222 k0_h1 => k0_hw222 k0_h1

def k0_chk223 (i : grid0.Coords) (v2753 : IVec S16 32) (v2770 : IVec S16 32) : Prop :=
  (∀ (k0_h1 : k0_cond1 i = 1#1), ∀ a x, ((![v2753, v2770] : Fin 2 → IVec S16 32) a x).toNat < S192x8.size a)
theorem k0_idx223_inb : ∀ (i : grid0.Coords) (v2753 : IVec S16 32) (v2770 : IVec S16 32) (k0_hw223 : k0_chk223 i v2753 v2770), ∀ (k0_h1 : k0_cond1 i = 1#1), ∀ a x, ((![v2753, v2770] : Fin 2 → IVec S16 32) a x).toNat < S192x8.size a := fun i v2753 v2770 k0_hw223 k0_h1 => k0_hw223 k0_h1

def k0_chk224 (i : grid0.Coords) (v2753 : IVec S16 32) (v2774 : IVec S16 32) : Prop :=
  (∀ (k0_h1 : k0_cond1 i = 1#1), ∀ a x, ((![v2753, v2774] : Fin 2 → IVec S16 32) a x).toNat < S192x8.size a)
theorem k0_idx224_inb : ∀ (i : grid0.Coords) (v2753 : IVec S16 32) (v2774 : IVec S16 32) (k0_hw224 : k0_chk224 i v2753 v2774), ∀ (k0_h1 : k0_cond1 i = 1#1), ∀ a x, ((![v2753, v2774] : Fin 2 → IVec S16 32) a x).toNat < S192x8.size a := fun i v2753 v2774 k0_hw224 k0_h1 => k0_hw224 k0_h1

def k0_chk225 (i : grid0.Coords) (v2753 : IVec S16 32) (v2778 : IVec S16 32) : Prop :=
  (∀ (k0_h1 : k0_cond1 i = 1#1), ∀ a x, ((![v2753, v2778] : Fin 2 → IVec S16 32) a x).toNat < S192x8.size a)
theorem k0_idx225_inb : ∀ (i : grid0.Coords) (v2753 : IVec S16 32) (v2778 : IVec S16 32) (k0_hw225 : k0_chk225 i v2753 v2778), ∀ (k0_h1 : k0_cond1 i = 1#1), ∀ a x, ((![v2753, v2778] : Fin 2 → IVec S16 32) a x).toNat < S192x8.size a := fun i v2753 v2778 k0_hw225 k0_h1 => k0_hw225 k0_h1

def k0_chk226 (i : grid0.Coords) (v2753 : IVec S16 32) (v2782 : IVec S16 32) : Prop :=
  (∀ (k0_h1 : k0_cond1 i = 1#1), ∀ a x, ((![v2753, v2782] : Fin 2 → IVec S16 32) a x).toNat < S192x8.size a)
theorem k0_idx226_inb : ∀ (i : grid0.Coords) (v2753 : IVec S16 32) (v2782 : IVec S16 32) (k0_hw226 : k0_chk226 i v2753 v2782), ∀ (k0_h1 : k0_cond1 i = 1#1), ∀ a x, ((![v2753, v2782] : Fin 2 → IVec S16 32) a x).toNat < S192x8.size a := fun i v2753 v2782 k0_hw226 k0_h1 => k0_hw226 k0_h1

def k0_chk227 (i : grid0.Coords) (v2753 : IVec S16 32) (v2786 : IVec S16 32) : Prop :=
  (∀ (k0_h1 : k0_cond1 i = 1#1), ∀ a x, ((![v2753, v2786] : Fin 2 → IVec S16 32) a x).toNat < S192x8.size a)
theorem k0_idx227_inb : ∀ (i : grid0.Coords) (v2753 : IVec S16 32) (v2786 : IVec S16 32) (k0_hw227 : k0_chk227 i v2753 v2786), ∀ (k0_h1 : k0_cond1 i = 1#1), ∀ a x, ((![v2753, v2786] : Fin 2 → IVec S16 32) a x).toNat < S192x8.size a := fun i v2753 v2786 k0_hw227 k0_h1 => k0_hw227 k0_h1

def k0_chk228 (i : grid0.Coords) (v2753 : IVec S16 32) (v2790 : IVec S16 32) : Prop :=
  (∀ (k0_h1 : k0_cond1 i = 1#1), ∀ a x, ((![v2753, v2790] : Fin 2 → IVec S16 32) a x).toNat < S192x8.size a)
theorem k0_idx228_inb : ∀ (i : grid0.Coords) (v2753 : IVec S16 32) (v2790 : IVec S16 32) (k0_hw228 : k0_chk228 i v2753 v2790), ∀ (k0_h1 : k0_cond1 i = 1#1), ∀ a x, ((![v2753, v2790] : Fin 2 → IVec S16 32) a x).toNat < S192x8.size a := fun i v2753 v2790 k0_hw228 k0_h1 => k0_hw228 k0_h1

def k0_chk229 (i : grid0.Coords) (v2852 : IVec S16 32) (v2861 : IVec S16 32) : Prop :=
  (∀ (k0_h1 : k0_cond1 i = 1#1), ∀ a x, ((![v2852, v2861] : Fin 2 → IVec S16 32) a x).toNat < S192x8.size a)
theorem k0_idx229_inb : ∀ (i : grid0.Coords) (v2852 : IVec S16 32) (v2861 : IVec S16 32) (k0_hw229 : k0_chk229 i v2852 v2861), ∀ (k0_h1 : k0_cond1 i = 1#1), ∀ a x, ((![v2852, v2861] : Fin 2 → IVec S16 32) a x).toNat < S192x8.size a := fun i v2852 v2861 k0_hw229 k0_h1 => k0_hw229 k0_h1

def k0_chk230 (i : grid0.Coords) (v2852 : IVec S16 32) (v2865 : IVec S16 32) : Prop :=
  (∀ (k0_h1 : k0_cond1 i = 1#1), ∀ a x, ((![v2852, v2865] : Fin 2 → IVec S16 32) a x).toNat < S192x8.size a)
theorem k0_idx230_inb : ∀ (i : grid0.Coords) (v2852 : IVec S16 32) (v2865 : IVec S16 32) (k0_hw230 : k0_chk230 i v2852 v2865), ∀ (k0_h1 : k0_cond1 i = 1#1), ∀ a x, ((![v2852, v2865] : Fin 2 → IVec S16 32) a x).toNat < S192x8.size a := fun i v2852 v2865 k0_hw230 k0_h1 => k0_hw230 k0_h1

def k0_chk231 (i : grid0.Coords) (v2852 : IVec S16 32) (v2869 : IVec S16 32) : Prop :=
  (∀ (k0_h1 : k0_cond1 i = 1#1), ∀ a x, ((![v2852, v2869] : Fin 2 → IVec S16 32) a x).toNat < S192x8.size a)
theorem k0_idx231_inb : ∀ (i : grid0.Coords) (v2852 : IVec S16 32) (v2869 : IVec S16 32) (k0_hw231 : k0_chk231 i v2852 v2869), ∀ (k0_h1 : k0_cond1 i = 1#1), ∀ a x, ((![v2852, v2869] : Fin 2 → IVec S16 32) a x).toNat < S192x8.size a := fun i v2852 v2869 k0_hw231 k0_h1 => k0_hw231 k0_h1

def k0_chk232 (i : grid0.Coords) (v2852 : IVec S16 32) (v2873 : IVec S16 32) : Prop :=
  (∀ (k0_h1 : k0_cond1 i = 1#1), ∀ a x, ((![v2852, v2873] : Fin 2 → IVec S16 32) a x).toNat < S192x8.size a)
theorem k0_idx232_inb : ∀ (i : grid0.Coords) (v2852 : IVec S16 32) (v2873 : IVec S16 32) (k0_hw232 : k0_chk232 i v2852 v2873), ∀ (k0_h1 : k0_cond1 i = 1#1), ∀ a x, ((![v2852, v2873] : Fin 2 → IVec S16 32) a x).toNat < S192x8.size a := fun i v2852 v2873 k0_hw232 k0_h1 => k0_hw232 k0_h1

def k0_chk233 (i : grid0.Coords) (v2852 : IVec S16 32) (v2877 : IVec S16 32) : Prop :=
  (∀ (k0_h1 : k0_cond1 i = 1#1), ∀ a x, ((![v2852, v2877] : Fin 2 → IVec S16 32) a x).toNat < S192x8.size a)
theorem k0_idx233_inb : ∀ (i : grid0.Coords) (v2852 : IVec S16 32) (v2877 : IVec S16 32) (k0_hw233 : k0_chk233 i v2852 v2877), ∀ (k0_h1 : k0_cond1 i = 1#1), ∀ a x, ((![v2852, v2877] : Fin 2 → IVec S16 32) a x).toNat < S192x8.size a := fun i v2852 v2877 k0_hw233 k0_h1 => k0_hw233 k0_h1

def k0_chk234 (i : grid0.Coords) (v2852 : IVec S16 32) (v2881 : IVec S16 32) : Prop :=
  (∀ (k0_h1 : k0_cond1 i = 1#1), ∀ a x, ((![v2852, v2881] : Fin 2 → IVec S16 32) a x).toNat < S192x8.size a)
theorem k0_idx234_inb : ∀ (i : grid0.Coords) (v2852 : IVec S16 32) (v2881 : IVec S16 32) (k0_hw234 : k0_chk234 i v2852 v2881), ∀ (k0_h1 : k0_cond1 i = 1#1), ∀ a x, ((![v2852, v2881] : Fin 2 → IVec S16 32) a x).toNat < S192x8.size a := fun i v2852 v2881 k0_hw234 k0_h1 => k0_hw234 k0_h1

def k0_chk235 (i : grid0.Coords) (v2852 : IVec S16 32) (v2885 : IVec S16 32) : Prop :=
  (∀ (k0_h1 : k0_cond1 i = 1#1), ∀ a x, ((![v2852, v2885] : Fin 2 → IVec S16 32) a x).toNat < S192x8.size a)
theorem k0_idx235_inb : ∀ (i : grid0.Coords) (v2852 : IVec S16 32) (v2885 : IVec S16 32) (k0_hw235 : k0_chk235 i v2852 v2885), ∀ (k0_h1 : k0_cond1 i = 1#1), ∀ a x, ((![v2852, v2885] : Fin 2 → IVec S16 32) a x).toNat < S192x8.size a := fun i v2852 v2885 k0_hw235 k0_h1 => k0_hw235 k0_h1

def k0_chk236 (i : grid0.Coords) (v2852 : IVec S16 32) (v2889 : IVec S16 32) : Prop :=
  (∀ (k0_h1 : k0_cond1 i = 1#1), ∀ a x, ((![v2852, v2889] : Fin 2 → IVec S16 32) a x).toNat < S192x8.size a)
theorem k0_idx236_inb : ∀ (i : grid0.Coords) (v2852 : IVec S16 32) (v2889 : IVec S16 32) (k0_hw236 : k0_chk236 i v2852 v2889), ∀ (k0_h1 : k0_cond1 i = 1#1), ∀ a x, ((![v2852, v2889] : Fin 2 → IVec S16 32) a x).toNat < S192x8.size a := fun i v2852 v2889 k0_hw236 k0_h1 => k0_hw236 k0_h1

def k0_chk237 (i : grid0.Coords) (v2951 : IVec S16 32) (v2960 : IVec S16 32) : Prop :=
  (∀ (k0_h1 : k0_cond1 i = 1#1), ∀ a x, ((![v2951, v2960] : Fin 2 → IVec S16 32) a x).toNat < S192x8.size a)
theorem k0_idx237_inb : ∀ (i : grid0.Coords) (v2951 : IVec S16 32) (v2960 : IVec S16 32) (k0_hw237 : k0_chk237 i v2951 v2960), ∀ (k0_h1 : k0_cond1 i = 1#1), ∀ a x, ((![v2951, v2960] : Fin 2 → IVec S16 32) a x).toNat < S192x8.size a := fun i v2951 v2960 k0_hw237 k0_h1 => k0_hw237 k0_h1

def k0_chk238 (i : grid0.Coords) (v2951 : IVec S16 32) (v2964 : IVec S16 32) : Prop :=
  (∀ (k0_h1 : k0_cond1 i = 1#1), ∀ a x, ((![v2951, v2964] : Fin 2 → IVec S16 32) a x).toNat < S192x8.size a)
theorem k0_idx238_inb : ∀ (i : grid0.Coords) (v2951 : IVec S16 32) (v2964 : IVec S16 32) (k0_hw238 : k0_chk238 i v2951 v2964), ∀ (k0_h1 : k0_cond1 i = 1#1), ∀ a x, ((![v2951, v2964] : Fin 2 → IVec S16 32) a x).toNat < S192x8.size a := fun i v2951 v2964 k0_hw238 k0_h1 => k0_hw238 k0_h1

def k0_chk239 (i : grid0.Coords) (v2951 : IVec S16 32) (v2968 : IVec S16 32) : Prop :=
  (∀ (k0_h1 : k0_cond1 i = 1#1), ∀ a x, ((![v2951, v2968] : Fin 2 → IVec S16 32) a x).toNat < S192x8.size a)
theorem k0_idx239_inb : ∀ (i : grid0.Coords) (v2951 : IVec S16 32) (v2968 : IVec S16 32) (k0_hw239 : k0_chk239 i v2951 v2968), ∀ (k0_h1 : k0_cond1 i = 1#1), ∀ a x, ((![v2951, v2968] : Fin 2 → IVec S16 32) a x).toNat < S192x8.size a := fun i v2951 v2968 k0_hw239 k0_h1 => k0_hw239 k0_h1

def k0_chk240 (i : grid0.Coords) (v2951 : IVec S16 32) (v2972 : IVec S16 32) : Prop :=
  (∀ (k0_h1 : k0_cond1 i = 1#1), ∀ a x, ((![v2951, v2972] : Fin 2 → IVec S16 32) a x).toNat < S192x8.size a)
theorem k0_idx240_inb : ∀ (i : grid0.Coords) (v2951 : IVec S16 32) (v2972 : IVec S16 32) (k0_hw240 : k0_chk240 i v2951 v2972), ∀ (k0_h1 : k0_cond1 i = 1#1), ∀ a x, ((![v2951, v2972] : Fin 2 → IVec S16 32) a x).toNat < S192x8.size a := fun i v2951 v2972 k0_hw240 k0_h1 => k0_hw240 k0_h1

def k0_chk241 (i : grid0.Coords) (v2951 : IVec S16 32) (v2976 : IVec S16 32) : Prop :=
  (∀ (k0_h1 : k0_cond1 i = 1#1), ∀ a x, ((![v2951, v2976] : Fin 2 → IVec S16 32) a x).toNat < S192x8.size a)
theorem k0_idx241_inb : ∀ (i : grid0.Coords) (v2951 : IVec S16 32) (v2976 : IVec S16 32) (k0_hw241 : k0_chk241 i v2951 v2976), ∀ (k0_h1 : k0_cond1 i = 1#1), ∀ a x, ((![v2951, v2976] : Fin 2 → IVec S16 32) a x).toNat < S192x8.size a := fun i v2951 v2976 k0_hw241 k0_h1 => k0_hw241 k0_h1

def k0_chk242 (i : grid0.Coords) (v2951 : IVec S16 32) (v2980 : IVec S16 32) : Prop :=
  (∀ (k0_h1 : k0_cond1 i = 1#1), ∀ a x, ((![v2951, v2980] : Fin 2 → IVec S16 32) a x).toNat < S192x8.size a)
theorem k0_idx242_inb : ∀ (i : grid0.Coords) (v2951 : IVec S16 32) (v2980 : IVec S16 32) (k0_hw242 : k0_chk242 i v2951 v2980), ∀ (k0_h1 : k0_cond1 i = 1#1), ∀ a x, ((![v2951, v2980] : Fin 2 → IVec S16 32) a x).toNat < S192x8.size a := fun i v2951 v2980 k0_hw242 k0_h1 => k0_hw242 k0_h1

def k0_chk243 (i : grid0.Coords) (v2951 : IVec S16 32) (v2984 : IVec S16 32) : Prop :=
  (∀ (k0_h1 : k0_cond1 i = 1#1), ∀ a x, ((![v2951, v2984] : Fin 2 → IVec S16 32) a x).toNat < S192x8.size a)
theorem k0_idx243_inb : ∀ (i : grid0.Coords) (v2951 : IVec S16 32) (v2984 : IVec S16 32) (k0_hw243 : k0_chk243 i v2951 v2984), ∀ (k0_h1 : k0_cond1 i = 1#1), ∀ a x, ((![v2951, v2984] : Fin 2 → IVec S16 32) a x).toNat < S192x8.size a := fun i v2951 v2984 k0_hw243 k0_h1 => k0_hw243 k0_h1

def k0_chk244 (i : grid0.Coords) (v2951 : IVec S16 32) (v2988 : IVec S16 32) : Prop :=
  (∀ (k0_h1 : k0_cond1 i = 1#1), ∀ a x, ((![v2951, v2988] : Fin 2 → IVec S16 32) a x).toNat < S192x8.size a)
theorem k0_idx244_inb : ∀ (i : grid0.Coords) (v2951 : IVec S16 32) (v2988 : IVec S16 32) (k0_hw244 : k0_chk244 i v2951 v2988), ∀ (k0_h1 : k0_cond1 i = 1#1), ∀ a x, ((![v2951, v2988] : Fin 2 → IVec S16 32) a x).toNat < S192x8.size a := fun i v2951 v2988 k0_hw244 k0_h1 => k0_hw244 k0_h1

def k0_chk245 (i : grid0.Coords) (v3050 : IVec S16 32) (v3059 : IVec S16 32) : Prop :=
  (∀ (k0_h1 : k0_cond1 i = 1#1), ∀ a x, ((![v3050, v3059] : Fin 2 → IVec S16 32) a x).toNat < S192x8.size a)
theorem k0_idx245_inb : ∀ (i : grid0.Coords) (v3050 : IVec S16 32) (v3059 : IVec S16 32) (k0_hw245 : k0_chk245 i v3050 v3059), ∀ (k0_h1 : k0_cond1 i = 1#1), ∀ a x, ((![v3050, v3059] : Fin 2 → IVec S16 32) a x).toNat < S192x8.size a := fun i v3050 v3059 k0_hw245 k0_h1 => k0_hw245 k0_h1

def k0_chk246 (i : grid0.Coords) (v3050 : IVec S16 32) (v3063 : IVec S16 32) : Prop :=
  (∀ (k0_h1 : k0_cond1 i = 1#1), ∀ a x, ((![v3050, v3063] : Fin 2 → IVec S16 32) a x).toNat < S192x8.size a)
theorem k0_idx246_inb : ∀ (i : grid0.Coords) (v3050 : IVec S16 32) (v3063 : IVec S16 32) (k0_hw246 : k0_chk246 i v3050 v3063), ∀ (k0_h1 : k0_cond1 i = 1#1), ∀ a x, ((![v3050, v3063] : Fin 2 → IVec S16 32) a x).toNat < S192x8.size a := fun i v3050 v3063 k0_hw246 k0_h1 => k0_hw246 k0_h1

def k0_chk247 (i : grid0.Coords) (v3050 : IVec S16 32) (v3067 : IVec S16 32) : Prop :=
  (∀ (k0_h1 : k0_cond1 i = 1#1), ∀ a x, ((![v3050, v3067] : Fin 2 → IVec S16 32) a x).toNat < S192x8.size a)
theorem k0_idx247_inb : ∀ (i : grid0.Coords) (v3050 : IVec S16 32) (v3067 : IVec S16 32) (k0_hw247 : k0_chk247 i v3050 v3067), ∀ (k0_h1 : k0_cond1 i = 1#1), ∀ a x, ((![v3050, v3067] : Fin 2 → IVec S16 32) a x).toNat < S192x8.size a := fun i v3050 v3067 k0_hw247 k0_h1 => k0_hw247 k0_h1

def k0_chk248 (i : grid0.Coords) (v3050 : IVec S16 32) (v3071 : IVec S16 32) : Prop :=
  (∀ (k0_h1 : k0_cond1 i = 1#1), ∀ a x, ((![v3050, v3071] : Fin 2 → IVec S16 32) a x).toNat < S192x8.size a)
theorem k0_idx248_inb : ∀ (i : grid0.Coords) (v3050 : IVec S16 32) (v3071 : IVec S16 32) (k0_hw248 : k0_chk248 i v3050 v3071), ∀ (k0_h1 : k0_cond1 i = 1#1), ∀ a x, ((![v3050, v3071] : Fin 2 → IVec S16 32) a x).toNat < S192x8.size a := fun i v3050 v3071 k0_hw248 k0_h1 => k0_hw248 k0_h1

def k0_chk249 (i : grid0.Coords) (v3050 : IVec S16 32) (v3075 : IVec S16 32) : Prop :=
  (∀ (k0_h1 : k0_cond1 i = 1#1), ∀ a x, ((![v3050, v3075] : Fin 2 → IVec S16 32) a x).toNat < S192x8.size a)
theorem k0_idx249_inb : ∀ (i : grid0.Coords) (v3050 : IVec S16 32) (v3075 : IVec S16 32) (k0_hw249 : k0_chk249 i v3050 v3075), ∀ (k0_h1 : k0_cond1 i = 1#1), ∀ a x, ((![v3050, v3075] : Fin 2 → IVec S16 32) a x).toNat < S192x8.size a := fun i v3050 v3075 k0_hw249 k0_h1 => k0_hw249 k0_h1

def k0_chk250 (i : grid0.Coords) (v3050 : IVec S16 32) (v3079 : IVec S16 32) : Prop :=
  (∀ (k0_h1 : k0_cond1 i = 1#1), ∀ a x, ((![v3050, v3079] : Fin 2 → IVec S16 32) a x).toNat < S192x8.size a)
theorem k0_idx250_inb : ∀ (i : grid0.Coords) (v3050 : IVec S16 32) (v3079 : IVec S16 32) (k0_hw250 : k0_chk250 i v3050 v3079), ∀ (k0_h1 : k0_cond1 i = 1#1), ∀ a x, ((![v3050, v3079] : Fin 2 → IVec S16 32) a x).toNat < S192x8.size a := fun i v3050 v3079 k0_hw250 k0_h1 => k0_hw250 k0_h1

def k0_chk251 (i : grid0.Coords) (v3050 : IVec S16 32) (v3083 : IVec S16 32) : Prop :=
  (∀ (k0_h1 : k0_cond1 i = 1#1), ∀ a x, ((![v3050, v3083] : Fin 2 → IVec S16 32) a x).toNat < S192x8.size a)
theorem k0_idx251_inb : ∀ (i : grid0.Coords) (v3050 : IVec S16 32) (v3083 : IVec S16 32) (k0_hw251 : k0_chk251 i v3050 v3083), ∀ (k0_h1 : k0_cond1 i = 1#1), ∀ a x, ((![v3050, v3083] : Fin 2 → IVec S16 32) a x).toNat < S192x8.size a := fun i v3050 v3083 k0_hw251 k0_h1 => k0_hw251 k0_h1

def k0_chk252 (i : grid0.Coords) (v3050 : IVec S16 32) (v3087 : IVec S16 32) : Prop :=
  (∀ (k0_h1 : k0_cond1 i = 1#1), ∀ a x, ((![v3050, v3087] : Fin 2 → IVec S16 32) a x).toNat < S192x8.size a)
theorem k0_idx252_inb : ∀ (i : grid0.Coords) (v3050 : IVec S16 32) (v3087 : IVec S16 32) (k0_hw252 : k0_chk252 i v3050 v3087), ∀ (k0_h1 : k0_cond1 i = 1#1), ∀ a x, ((![v3050, v3087] : Fin 2 → IVec S16 32) a x).toNat < S192x8.size a := fun i v3050 v3087 k0_hw252 k0_h1 => k0_hw252 k0_h1

def k0_chk253 (i : grid0.Coords) (v3149 : IVec S16 32) (v3158 : IVec S16 32) : Prop :=
  (∀ (k0_h1 : k0_cond1 i = 1#1), ∀ a x, ((![v3149, v3158] : Fin 2 → IVec S16 32) a x).toNat < S192x8.size a)
theorem k0_idx253_inb : ∀ (i : grid0.Coords) (v3149 : IVec S16 32) (v3158 : IVec S16 32) (k0_hw253 : k0_chk253 i v3149 v3158), ∀ (k0_h1 : k0_cond1 i = 1#1), ∀ a x, ((![v3149, v3158] : Fin 2 → IVec S16 32) a x).toNat < S192x8.size a := fun i v3149 v3158 k0_hw253 k0_h1 => k0_hw253 k0_h1

def k0_chk254 (i : grid0.Coords) (v3149 : IVec S16 32) (v3162 : IVec S16 32) : Prop :=
  (∀ (k0_h1 : k0_cond1 i = 1#1), ∀ a x, ((![v3149, v3162] : Fin 2 → IVec S16 32) a x).toNat < S192x8.size a)
theorem k0_idx254_inb : ∀ (i : grid0.Coords) (v3149 : IVec S16 32) (v3162 : IVec S16 32) (k0_hw254 : k0_chk254 i v3149 v3162), ∀ (k0_h1 : k0_cond1 i = 1#1), ∀ a x, ((![v3149, v3162] : Fin 2 → IVec S16 32) a x).toNat < S192x8.size a := fun i v3149 v3162 k0_hw254 k0_h1 => k0_hw254 k0_h1

def k0_chk255 (i : grid0.Coords) (v3149 : IVec S16 32) (v3166 : IVec S16 32) : Prop :=
  (∀ (k0_h1 : k0_cond1 i = 1#1), ∀ a x, ((![v3149, v3166] : Fin 2 → IVec S16 32) a x).toNat < S192x8.size a)
theorem k0_idx255_inb : ∀ (i : grid0.Coords) (v3149 : IVec S16 32) (v3166 : IVec S16 32) (k0_hw255 : k0_chk255 i v3149 v3166), ∀ (k0_h1 : k0_cond1 i = 1#1), ∀ a x, ((![v3149, v3166] : Fin 2 → IVec S16 32) a x).toNat < S192x8.size a := fun i v3149 v3166 k0_hw255 k0_h1 => k0_hw255 k0_h1

def k0_chk256 (i : grid0.Coords) (v3149 : IVec S16 32) (v3170 : IVec S16 32) : Prop :=
  (∀ (k0_h1 : k0_cond1 i = 1#1), ∀ a x, ((![v3149, v3170] : Fin 2 → IVec S16 32) a x).toNat < S192x8.size a)
theorem k0_idx256_inb : ∀ (i : grid0.Coords) (v3149 : IVec S16 32) (v3170 : IVec S16 32) (k0_hw256 : k0_chk256 i v3149 v3170), ∀ (k0_h1 : k0_cond1 i = 1#1), ∀ a x, ((![v3149, v3170] : Fin 2 → IVec S16 32) a x).toNat < S192x8.size a := fun i v3149 v3170 k0_hw256 k0_h1 => k0_hw256 k0_h1

def k0_chk257 (i : grid0.Coords) (v3149 : IVec S16 32) (v3174 : IVec S16 32) : Prop :=
  (∀ (k0_h1 : k0_cond1 i = 1#1), ∀ a x, ((![v3149, v3174] : Fin 2 → IVec S16 32) a x).toNat < S192x8.size a)
theorem k0_idx257_inb : ∀ (i : grid0.Coords) (v3149 : IVec S16 32) (v3174 : IVec S16 32) (k0_hw257 : k0_chk257 i v3149 v3174), ∀ (k0_h1 : k0_cond1 i = 1#1), ∀ a x, ((![v3149, v3174] : Fin 2 → IVec S16 32) a x).toNat < S192x8.size a := fun i v3149 v3174 k0_hw257 k0_h1 => k0_hw257 k0_h1

def k0_chk258 (i : grid0.Coords) (v3149 : IVec S16 32) (v3178 : IVec S16 32) : Prop :=
  (∀ (k0_h1 : k0_cond1 i = 1#1), ∀ a x, ((![v3149, v3178] : Fin 2 → IVec S16 32) a x).toNat < S192x8.size a)
theorem k0_idx258_inb : ∀ (i : grid0.Coords) (v3149 : IVec S16 32) (v3178 : IVec S16 32) (k0_hw258 : k0_chk258 i v3149 v3178), ∀ (k0_h1 : k0_cond1 i = 1#1), ∀ a x, ((![v3149, v3178] : Fin 2 → IVec S16 32) a x).toNat < S192x8.size a := fun i v3149 v3178 k0_hw258 k0_h1 => k0_hw258 k0_h1

def k0_chk259 (i : grid0.Coords) (v3149 : IVec S16 32) (v3182 : IVec S16 32) : Prop :=
  (∀ (k0_h1 : k0_cond1 i = 1#1), ∀ a x, ((![v3149, v3182] : Fin 2 → IVec S16 32) a x).toNat < S192x8.size a)
theorem k0_idx259_inb : ∀ (i : grid0.Coords) (v3149 : IVec S16 32) (v3182 : IVec S16 32) (k0_hw259 : k0_chk259 i v3149 v3182), ∀ (k0_h1 : k0_cond1 i = 1#1), ∀ a x, ((![v3149, v3182] : Fin 2 → IVec S16 32) a x).toNat < S192x8.size a := fun i v3149 v3182 k0_hw259 k0_h1 => k0_hw259 k0_h1

def k0_chk260 (i : grid0.Coords) (v3149 : IVec S16 32) (v3186 : IVec S16 32) : Prop :=
  (∀ (k0_h1 : k0_cond1 i = 1#1), ∀ a x, ((![v3149, v3186] : Fin 2 → IVec S16 32) a x).toNat < S192x8.size a)
theorem k0_idx260_inb : ∀ (i : grid0.Coords) (v3149 : IVec S16 32) (v3186 : IVec S16 32) (k0_hw260 : k0_chk260 i v3149 v3186), ∀ (k0_h1 : k0_cond1 i = 1#1), ∀ a x, ((![v3149, v3186] : Fin 2 → IVec S16 32) a x).toNat < S192x8.size a := fun i v3149 v3186 k0_hw260 k0_h1 => k0_hw260 k0_h1

def k0_chk261 (i : grid0.Coords) (v3248 : IVec S16 32) (v3257 : IVec S16 32) : Prop :=
  (∀ (k0_h1 : k0_cond1 i = 1#1), ∀ a x, ((![v3248, v3257] : Fin 2 → IVec S16 32) a x).toNat < S192x8.size a)
theorem k0_idx261_inb : ∀ (i : grid0.Coords) (v3248 : IVec S16 32) (v3257 : IVec S16 32) (k0_hw261 : k0_chk261 i v3248 v3257), ∀ (k0_h1 : k0_cond1 i = 1#1), ∀ a x, ((![v3248, v3257] : Fin 2 → IVec S16 32) a x).toNat < S192x8.size a := fun i v3248 v3257 k0_hw261 k0_h1 => k0_hw261 k0_h1

def k0_chk262 (i : grid0.Coords) (v3248 : IVec S16 32) (v3261 : IVec S16 32) : Prop :=
  (∀ (k0_h1 : k0_cond1 i = 1#1), ∀ a x, ((![v3248, v3261] : Fin 2 → IVec S16 32) a x).toNat < S192x8.size a)
theorem k0_idx262_inb : ∀ (i : grid0.Coords) (v3248 : IVec S16 32) (v3261 : IVec S16 32) (k0_hw262 : k0_chk262 i v3248 v3261), ∀ (k0_h1 : k0_cond1 i = 1#1), ∀ a x, ((![v3248, v3261] : Fin 2 → IVec S16 32) a x).toNat < S192x8.size a := fun i v3248 v3261 k0_hw262 k0_h1 => k0_hw262 k0_h1

def k0_chk263 (i : grid0.Coords) (v3248 : IVec S16 32) (v3265 : IVec S16 32) : Prop :=
  (∀ (k0_h1 : k0_cond1 i = 1#1), ∀ a x, ((![v3248, v3265] : Fin 2 → IVec S16 32) a x).toNat < S192x8.size a)
theorem k0_idx263_inb : ∀ (i : grid0.Coords) (v3248 : IVec S16 32) (v3265 : IVec S16 32) (k0_hw263 : k0_chk263 i v3248 v3265), ∀ (k0_h1 : k0_cond1 i = 1#1), ∀ a x, ((![v3248, v3265] : Fin 2 → IVec S16 32) a x).toNat < S192x8.size a := fun i v3248 v3265 k0_hw263 k0_h1 => k0_hw263 k0_h1

def k0_chk264 (i : grid0.Coords) (v3248 : IVec S16 32) (v3269 : IVec S16 32) : Prop :=
  (∀ (k0_h1 : k0_cond1 i = 1#1), ∀ a x, ((![v3248, v3269] : Fin 2 → IVec S16 32) a x).toNat < S192x8.size a)
theorem k0_idx264_inb : ∀ (i : grid0.Coords) (v3248 : IVec S16 32) (v3269 : IVec S16 32) (k0_hw264 : k0_chk264 i v3248 v3269), ∀ (k0_h1 : k0_cond1 i = 1#1), ∀ a x, ((![v3248, v3269] : Fin 2 → IVec S16 32) a x).toNat < S192x8.size a := fun i v3248 v3269 k0_hw264 k0_h1 => k0_hw264 k0_h1

def k0_chk265 (i : grid0.Coords) (v3248 : IVec S16 32) (v3273 : IVec S16 32) : Prop :=
  (∀ (k0_h1 : k0_cond1 i = 1#1), ∀ a x, ((![v3248, v3273] : Fin 2 → IVec S16 32) a x).toNat < S192x8.size a)
theorem k0_idx265_inb : ∀ (i : grid0.Coords) (v3248 : IVec S16 32) (v3273 : IVec S16 32) (k0_hw265 : k0_chk265 i v3248 v3273), ∀ (k0_h1 : k0_cond1 i = 1#1), ∀ a x, ((![v3248, v3273] : Fin 2 → IVec S16 32) a x).toNat < S192x8.size a := fun i v3248 v3273 k0_hw265 k0_h1 => k0_hw265 k0_h1

def k0_chk266 (i : grid0.Coords) (v3248 : IVec S16 32) (v3277 : IVec S16 32) : Prop :=
  (∀ (k0_h1 : k0_cond1 i = 1#1), ∀ a x, ((![v3248, v3277] : Fin 2 → IVec S16 32) a x).toNat < S192x8.size a)
theorem k0_idx266_inb : ∀ (i : grid0.Coords) (v3248 : IVec S16 32) (v3277 : IVec S16 32) (k0_hw266 : k0_chk266 i v3248 v3277), ∀ (k0_h1 : k0_cond1 i = 1#1), ∀ a x, ((![v3248, v3277] : Fin 2 → IVec S16 32) a x).toNat < S192x8.size a := fun i v3248 v3277 k0_hw266 k0_h1 => k0_hw266 k0_h1

def k0_chk267 (i : grid0.Coords) (v3248 : IVec S16 32) (v3281 : IVec S16 32) : Prop :=
  (∀ (k0_h1 : k0_cond1 i = 1#1), ∀ a x, ((![v3248, v3281] : Fin 2 → IVec S16 32) a x).toNat < S192x8.size a)
theorem k0_idx267_inb : ∀ (i : grid0.Coords) (v3248 : IVec S16 32) (v3281 : IVec S16 32) (k0_hw267 : k0_chk267 i v3248 v3281), ∀ (k0_h1 : k0_cond1 i = 1#1), ∀ a x, ((![v3248, v3281] : Fin 2 → IVec S16 32) a x).toNat < S192x8.size a := fun i v3248 v3281 k0_hw267 k0_h1 => k0_hw267 k0_h1

def k0_chk268 (i : grid0.Coords) (v3248 : IVec S16 32) (v3285 : IVec S16 32) : Prop :=
  (∀ (k0_h1 : k0_cond1 i = 1#1), ∀ a x, ((![v3248, v3285] : Fin 2 → IVec S16 32) a x).toNat < S192x8.size a)
theorem k0_idx268_inb : ∀ (i : grid0.Coords) (v3248 : IVec S16 32) (v3285 : IVec S16 32) (k0_hw268 : k0_chk268 i v3248 v3285), ∀ (k0_h1 : k0_cond1 i = 1#1), ∀ a x, ((![v3248, v3285] : Fin 2 → IVec S16 32) a x).toNat < S192x8.size a := fun i v3248 v3285 k0_hw268 k0_h1 => k0_hw268 k0_h1

def k0_chk269 (i : grid0.Coords) (v3347 : IVec S16 32) (v3356 : IVec S16 32) : Prop :=
  (∀ (k0_h1 : k0_cond1 i = 1#1), ∀ a x, ((![v3347, v3356] : Fin 2 → IVec S16 32) a x).toNat < S192x8.size a)
theorem k0_idx269_inb : ∀ (i : grid0.Coords) (v3347 : IVec S16 32) (v3356 : IVec S16 32) (k0_hw269 : k0_chk269 i v3347 v3356), ∀ (k0_h1 : k0_cond1 i = 1#1), ∀ a x, ((![v3347, v3356] : Fin 2 → IVec S16 32) a x).toNat < S192x8.size a := fun i v3347 v3356 k0_hw269 k0_h1 => k0_hw269 k0_h1

def k0_chk270 (i : grid0.Coords) (v3347 : IVec S16 32) (v3360 : IVec S16 32) : Prop :=
  (∀ (k0_h1 : k0_cond1 i = 1#1), ∀ a x, ((![v3347, v3360] : Fin 2 → IVec S16 32) a x).toNat < S192x8.size a)
theorem k0_idx270_inb : ∀ (i : grid0.Coords) (v3347 : IVec S16 32) (v3360 : IVec S16 32) (k0_hw270 : k0_chk270 i v3347 v3360), ∀ (k0_h1 : k0_cond1 i = 1#1), ∀ a x, ((![v3347, v3360] : Fin 2 → IVec S16 32) a x).toNat < S192x8.size a := fun i v3347 v3360 k0_hw270 k0_h1 => k0_hw270 k0_h1

def k0_chk271 (i : grid0.Coords) (v3347 : IVec S16 32) (v3364 : IVec S16 32) : Prop :=
  (∀ (k0_h1 : k0_cond1 i = 1#1), ∀ a x, ((![v3347, v3364] : Fin 2 → IVec S16 32) a x).toNat < S192x8.size a)
theorem k0_idx271_inb : ∀ (i : grid0.Coords) (v3347 : IVec S16 32) (v3364 : IVec S16 32) (k0_hw271 : k0_chk271 i v3347 v3364), ∀ (k0_h1 : k0_cond1 i = 1#1), ∀ a x, ((![v3347, v3364] : Fin 2 → IVec S16 32) a x).toNat < S192x8.size a := fun i v3347 v3364 k0_hw271 k0_h1 => k0_hw271 k0_h1

def k0_chk272 (i : grid0.Coords) (v3347 : IVec S16 32) (v3368 : IVec S16 32) : Prop :=
  (∀ (k0_h1 : k0_cond1 i = 1#1), ∀ a x, ((![v3347, v3368] : Fin 2 → IVec S16 32) a x).toNat < S192x8.size a)
theorem k0_idx272_inb : ∀ (i : grid0.Coords) (v3347 : IVec S16 32) (v3368 : IVec S16 32) (k0_hw272 : k0_chk272 i v3347 v3368), ∀ (k0_h1 : k0_cond1 i = 1#1), ∀ a x, ((![v3347, v3368] : Fin 2 → IVec S16 32) a x).toNat < S192x8.size a := fun i v3347 v3368 k0_hw272 k0_h1 => k0_hw272 k0_h1

def k0_chk273 (i : grid0.Coords) (v3347 : IVec S16 32) (v3372 : IVec S16 32) : Prop :=
  (∀ (k0_h1 : k0_cond1 i = 1#1), ∀ a x, ((![v3347, v3372] : Fin 2 → IVec S16 32) a x).toNat < S192x8.size a)
theorem k0_idx273_inb : ∀ (i : grid0.Coords) (v3347 : IVec S16 32) (v3372 : IVec S16 32) (k0_hw273 : k0_chk273 i v3347 v3372), ∀ (k0_h1 : k0_cond1 i = 1#1), ∀ a x, ((![v3347, v3372] : Fin 2 → IVec S16 32) a x).toNat < S192x8.size a := fun i v3347 v3372 k0_hw273 k0_h1 => k0_hw273 k0_h1

def k0_chk274 (i : grid0.Coords) (v3347 : IVec S16 32) (v3376 : IVec S16 32) : Prop :=
  (∀ (k0_h1 : k0_cond1 i = 1#1), ∀ a x, ((![v3347, v3376] : Fin 2 → IVec S16 32) a x).toNat < S192x8.size a)
theorem k0_idx274_inb : ∀ (i : grid0.Coords) (v3347 : IVec S16 32) (v3376 : IVec S16 32) (k0_hw274 : k0_chk274 i v3347 v3376), ∀ (k0_h1 : k0_cond1 i = 1#1), ∀ a x, ((![v3347, v3376] : Fin 2 → IVec S16 32) a x).toNat < S192x8.size a := fun i v3347 v3376 k0_hw274 k0_h1 => k0_hw274 k0_h1

def k0_chk275 (i : grid0.Coords) (v3347 : IVec S16 32) (v3380 : IVec S16 32) : Prop :=
  (∀ (k0_h1 : k0_cond1 i = 1#1), ∀ a x, ((![v3347, v3380] : Fin 2 → IVec S16 32) a x).toNat < S192x8.size a)
theorem k0_idx275_inb : ∀ (i : grid0.Coords) (v3347 : IVec S16 32) (v3380 : IVec S16 32) (k0_hw275 : k0_chk275 i v3347 v3380), ∀ (k0_h1 : k0_cond1 i = 1#1), ∀ a x, ((![v3347, v3380] : Fin 2 → IVec S16 32) a x).toNat < S192x8.size a := fun i v3347 v3380 k0_hw275 k0_h1 => k0_hw275 k0_h1

def k0_chk276 (i : grid0.Coords) (v3347 : IVec S16 32) (v3384 : IVec S16 32) : Prop :=
  (∀ (k0_h1 : k0_cond1 i = 1#1), ∀ a x, ((![v3347, v3384] : Fin 2 → IVec S16 32) a x).toNat < S192x8.size a)
theorem k0_idx276_inb : ∀ (i : grid0.Coords) (v3347 : IVec S16 32) (v3384 : IVec S16 32) (k0_hw276 : k0_chk276 i v3347 v3384), ∀ (k0_h1 : k0_cond1 i = 1#1), ∀ a x, ((![v3347, v3384] : Fin 2 → IVec S16 32) a x).toNat < S192x8.size a := fun i v3347 v3384 k0_hw276 k0_h1 => k0_hw276 k0_h1

def k0_chk277 (i : grid0.Coords) (v3446 : IVec S16 32) (v3455 : IVec S16 32) : Prop :=
  (∀ (k0_h1 : k0_cond1 i = 1#1), ∀ a x, ((![v3446, v3455] : Fin 2 → IVec S16 32) a x).toNat < S192x8.size a)
theorem k0_idx277_inb : ∀ (i : grid0.Coords) (v3446 : IVec S16 32) (v3455 : IVec S16 32) (k0_hw277 : k0_chk277 i v3446 v3455), ∀ (k0_h1 : k0_cond1 i = 1#1), ∀ a x, ((![v3446, v3455] : Fin 2 → IVec S16 32) a x).toNat < S192x8.size a := fun i v3446 v3455 k0_hw277 k0_h1 => k0_hw277 k0_h1

def k0_chk278 (i : grid0.Coords) (v3446 : IVec S16 32) (v3459 : IVec S16 32) : Prop :=
  (∀ (k0_h1 : k0_cond1 i = 1#1), ∀ a x, ((![v3446, v3459] : Fin 2 → IVec S16 32) a x).toNat < S192x8.size a)
theorem k0_idx278_inb : ∀ (i : grid0.Coords) (v3446 : IVec S16 32) (v3459 : IVec S16 32) (k0_hw278 : k0_chk278 i v3446 v3459), ∀ (k0_h1 : k0_cond1 i = 1#1), ∀ a x, ((![v3446, v3459] : Fin 2 → IVec S16 32) a x).toNat < S192x8.size a := fun i v3446 v3459 k0_hw278 k0_h1 => k0_hw278 k0_h1

def k0_chk279 (i : grid0.Coords) (v3446 : IVec S16 32) (v3463 : IVec S16 32) : Prop :=
  (∀ (k0_h1 : k0_cond1 i = 1#1), ∀ a x, ((![v3446, v3463] : Fin 2 → IVec S16 32) a x).toNat < S192x8.size a)
theorem k0_idx279_inb : ∀ (i : grid0.Coords) (v3446 : IVec S16 32) (v3463 : IVec S16 32) (k0_hw279 : k0_chk279 i v3446 v3463), ∀ (k0_h1 : k0_cond1 i = 1#1), ∀ a x, ((![v3446, v3463] : Fin 2 → IVec S16 32) a x).toNat < S192x8.size a := fun i v3446 v3463 k0_hw279 k0_h1 => k0_hw279 k0_h1

def k0_chk280 (i : grid0.Coords) (v3446 : IVec S16 32) (v3467 : IVec S16 32) : Prop :=
  (∀ (k0_h1 : k0_cond1 i = 1#1), ∀ a x, ((![v3446, v3467] : Fin 2 → IVec S16 32) a x).toNat < S192x8.size a)
theorem k0_idx280_inb : ∀ (i : grid0.Coords) (v3446 : IVec S16 32) (v3467 : IVec S16 32) (k0_hw280 : k0_chk280 i v3446 v3467), ∀ (k0_h1 : k0_cond1 i = 1#1), ∀ a x, ((![v3446, v3467] : Fin 2 → IVec S16 32) a x).toNat < S192x8.size a := fun i v3446 v3467 k0_hw280 k0_h1 => k0_hw280 k0_h1

def k0_chk281 (i : grid0.Coords) (v3446 : IVec S16 32) (v3471 : IVec S16 32) : Prop :=
  (∀ (k0_h1 : k0_cond1 i = 1#1), ∀ a x, ((![v3446, v3471] : Fin 2 → IVec S16 32) a x).toNat < S192x8.size a)
theorem k0_idx281_inb : ∀ (i : grid0.Coords) (v3446 : IVec S16 32) (v3471 : IVec S16 32) (k0_hw281 : k0_chk281 i v3446 v3471), ∀ (k0_h1 : k0_cond1 i = 1#1), ∀ a x, ((![v3446, v3471] : Fin 2 → IVec S16 32) a x).toNat < S192x8.size a := fun i v3446 v3471 k0_hw281 k0_h1 => k0_hw281 k0_h1

def k0_chk282 (i : grid0.Coords) (v3446 : IVec S16 32) (v3475 : IVec S16 32) : Prop :=
  (∀ (k0_h1 : k0_cond1 i = 1#1), ∀ a x, ((![v3446, v3475] : Fin 2 → IVec S16 32) a x).toNat < S192x8.size a)
theorem k0_idx282_inb : ∀ (i : grid0.Coords) (v3446 : IVec S16 32) (v3475 : IVec S16 32) (k0_hw282 : k0_chk282 i v3446 v3475), ∀ (k0_h1 : k0_cond1 i = 1#1), ∀ a x, ((![v3446, v3475] : Fin 2 → IVec S16 32) a x).toNat < S192x8.size a := fun i v3446 v3475 k0_hw282 k0_h1 => k0_hw282 k0_h1

def k0_chk283 (i : grid0.Coords) (v3446 : IVec S16 32) (v3479 : IVec S16 32) : Prop :=
  (∀ (k0_h1 : k0_cond1 i = 1#1), ∀ a x, ((![v3446, v3479] : Fin 2 → IVec S16 32) a x).toNat < S192x8.size a)
theorem k0_idx283_inb : ∀ (i : grid0.Coords) (v3446 : IVec S16 32) (v3479 : IVec S16 32) (k0_hw283 : k0_chk283 i v3446 v3479), ∀ (k0_h1 : k0_cond1 i = 1#1), ∀ a x, ((![v3446, v3479] : Fin 2 → IVec S16 32) a x).toNat < S192x8.size a := fun i v3446 v3479 k0_hw283 k0_h1 => k0_hw283 k0_h1

def k0_chk284 (i : grid0.Coords) (v3446 : IVec S16 32) (v3483 : IVec S16 32) : Prop :=
  (∀ (k0_h1 : k0_cond1 i = 1#1), ∀ a x, ((![v3446, v3483] : Fin 2 → IVec S16 32) a x).toNat < S192x8.size a)
theorem k0_idx284_inb : ∀ (i : grid0.Coords) (v3446 : IVec S16 32) (v3483 : IVec S16 32) (k0_hw284 : k0_chk284 i v3446 v3483), ∀ (k0_h1 : k0_cond1 i = 1#1), ∀ a x, ((![v3446, v3483] : Fin 2 → IVec S16 32) a x).toNat < S192x8.size a := fun i v3446 v3483 k0_hw284 k0_h1 => k0_hw284 k0_h1

def k0_chk285 (i : grid0.Coords) (v3545 : IVec S16 32) (v3554 : IVec S16 32) : Prop :=
  (∀ (k0_h1 : k0_cond1 i = 1#1), ∀ a x, ((![v3545, v3554] : Fin 2 → IVec S16 32) a x).toNat < S192x8.size a)
theorem k0_idx285_inb : ∀ (i : grid0.Coords) (v3545 : IVec S16 32) (v3554 : IVec S16 32) (k0_hw285 : k0_chk285 i v3545 v3554), ∀ (k0_h1 : k0_cond1 i = 1#1), ∀ a x, ((![v3545, v3554] : Fin 2 → IVec S16 32) a x).toNat < S192x8.size a := fun i v3545 v3554 k0_hw285 k0_h1 => k0_hw285 k0_h1

def k0_chk286 (i : grid0.Coords) (v3545 : IVec S16 32) (v3558 : IVec S16 32) : Prop :=
  (∀ (k0_h1 : k0_cond1 i = 1#1), ∀ a x, ((![v3545, v3558] : Fin 2 → IVec S16 32) a x).toNat < S192x8.size a)
theorem k0_idx286_inb : ∀ (i : grid0.Coords) (v3545 : IVec S16 32) (v3558 : IVec S16 32) (k0_hw286 : k0_chk286 i v3545 v3558), ∀ (k0_h1 : k0_cond1 i = 1#1), ∀ a x, ((![v3545, v3558] : Fin 2 → IVec S16 32) a x).toNat < S192x8.size a := fun i v3545 v3558 k0_hw286 k0_h1 => k0_hw286 k0_h1

def k0_chk287 (i : grid0.Coords) (v3545 : IVec S16 32) (v3562 : IVec S16 32) : Prop :=
  (∀ (k0_h1 : k0_cond1 i = 1#1), ∀ a x, ((![v3545, v3562] : Fin 2 → IVec S16 32) a x).toNat < S192x8.size a)
theorem k0_idx287_inb : ∀ (i : grid0.Coords) (v3545 : IVec S16 32) (v3562 : IVec S16 32) (k0_hw287 : k0_chk287 i v3545 v3562), ∀ (k0_h1 : k0_cond1 i = 1#1), ∀ a x, ((![v3545, v3562] : Fin 2 → IVec S16 32) a x).toNat < S192x8.size a := fun i v3545 v3562 k0_hw287 k0_h1 => k0_hw287 k0_h1

def k0_chk288 (i : grid0.Coords) (v3545 : IVec S16 32) (v3566 : IVec S16 32) : Prop :=
  (∀ (k0_h1 : k0_cond1 i = 1#1), ∀ a x, ((![v3545, v3566] : Fin 2 → IVec S16 32) a x).toNat < S192x8.size a)
theorem k0_idx288_inb : ∀ (i : grid0.Coords) (v3545 : IVec S16 32) (v3566 : IVec S16 32) (k0_hw288 : k0_chk288 i v3545 v3566), ∀ (k0_h1 : k0_cond1 i = 1#1), ∀ a x, ((![v3545, v3566] : Fin 2 → IVec S16 32) a x).toNat < S192x8.size a := fun i v3545 v3566 k0_hw288 k0_h1 => k0_hw288 k0_h1

def k0_chk289 (i : grid0.Coords) (v3545 : IVec S16 32) (v3570 : IVec S16 32) : Prop :=
  (∀ (k0_h1 : k0_cond1 i = 1#1), ∀ a x, ((![v3545, v3570] : Fin 2 → IVec S16 32) a x).toNat < S192x8.size a)
theorem k0_idx289_inb : ∀ (i : grid0.Coords) (v3545 : IVec S16 32) (v3570 : IVec S16 32) (k0_hw289 : k0_chk289 i v3545 v3570), ∀ (k0_h1 : k0_cond1 i = 1#1), ∀ a x, ((![v3545, v3570] : Fin 2 → IVec S16 32) a x).toNat < S192x8.size a := fun i v3545 v3570 k0_hw289 k0_h1 => k0_hw289 k0_h1

def k0_chk290 (i : grid0.Coords) (v3545 : IVec S16 32) (v3574 : IVec S16 32) : Prop :=
  (∀ (k0_h1 : k0_cond1 i = 1#1), ∀ a x, ((![v3545, v3574] : Fin 2 → IVec S16 32) a x).toNat < S192x8.size a)
theorem k0_idx290_inb : ∀ (i : grid0.Coords) (v3545 : IVec S16 32) (v3574 : IVec S16 32) (k0_hw290 : k0_chk290 i v3545 v3574), ∀ (k0_h1 : k0_cond1 i = 1#1), ∀ a x, ((![v3545, v3574] : Fin 2 → IVec S16 32) a x).toNat < S192x8.size a := fun i v3545 v3574 k0_hw290 k0_h1 => k0_hw290 k0_h1

def k0_chk291 (i : grid0.Coords) (v3545 : IVec S16 32) (v3578 : IVec S16 32) : Prop :=
  (∀ (k0_h1 : k0_cond1 i = 1#1), ∀ a x, ((![v3545, v3578] : Fin 2 → IVec S16 32) a x).toNat < S192x8.size a)
theorem k0_idx291_inb : ∀ (i : grid0.Coords) (v3545 : IVec S16 32) (v3578 : IVec S16 32) (k0_hw291 : k0_chk291 i v3545 v3578), ∀ (k0_h1 : k0_cond1 i = 1#1), ∀ a x, ((![v3545, v3578] : Fin 2 → IVec S16 32) a x).toNat < S192x8.size a := fun i v3545 v3578 k0_hw291 k0_h1 => k0_hw291 k0_h1

def k0_chk292 (i : grid0.Coords) (v3545 : IVec S16 32) (v3582 : IVec S16 32) : Prop :=
  (∀ (k0_h1 : k0_cond1 i = 1#1), ∀ a x, ((![v3545, v3582] : Fin 2 → IVec S16 32) a x).toNat < S192x8.size a)
theorem k0_idx292_inb : ∀ (i : grid0.Coords) (v3545 : IVec S16 32) (v3582 : IVec S16 32) (k0_hw292 : k0_chk292 i v3545 v3582), ∀ (k0_h1 : k0_cond1 i = 1#1), ∀ a x, ((![v3545, v3582] : Fin 2 → IVec S16 32) a x).toNat < S192x8.size a := fun i v3545 v3582 k0_hw292 k0_h1 => k0_hw292 k0_h1

def k0_chk293 (i : grid0.Coords) (v3644 : IVec S16 32) (v3653 : IVec S16 32) : Prop :=
  (∀ (k0_h1 : k0_cond1 i = 1#1), ∀ a x, ((![v3644, v3653] : Fin 2 → IVec S16 32) a x).toNat < S192x8.size a)
theorem k0_idx293_inb : ∀ (i : grid0.Coords) (v3644 : IVec S16 32) (v3653 : IVec S16 32) (k0_hw293 : k0_chk293 i v3644 v3653), ∀ (k0_h1 : k0_cond1 i = 1#1), ∀ a x, ((![v3644, v3653] : Fin 2 → IVec S16 32) a x).toNat < S192x8.size a := fun i v3644 v3653 k0_hw293 k0_h1 => k0_hw293 k0_h1

def k0_chk294 (i : grid0.Coords) (v3644 : IVec S16 32) (v3657 : IVec S16 32) : Prop :=
  (∀ (k0_h1 : k0_cond1 i = 1#1), ∀ a x, ((![v3644, v3657] : Fin 2 → IVec S16 32) a x).toNat < S192x8.size a)
theorem k0_idx294_inb : ∀ (i : grid0.Coords) (v3644 : IVec S16 32) (v3657 : IVec S16 32) (k0_hw294 : k0_chk294 i v3644 v3657), ∀ (k0_h1 : k0_cond1 i = 1#1), ∀ a x, ((![v3644, v3657] : Fin 2 → IVec S16 32) a x).toNat < S192x8.size a := fun i v3644 v3657 k0_hw294 k0_h1 => k0_hw294 k0_h1

def k0_chk295 (i : grid0.Coords) (v3644 : IVec S16 32) (v3661 : IVec S16 32) : Prop :=
  (∀ (k0_h1 : k0_cond1 i = 1#1), ∀ a x, ((![v3644, v3661] : Fin 2 → IVec S16 32) a x).toNat < S192x8.size a)
theorem k0_idx295_inb : ∀ (i : grid0.Coords) (v3644 : IVec S16 32) (v3661 : IVec S16 32) (k0_hw295 : k0_chk295 i v3644 v3661), ∀ (k0_h1 : k0_cond1 i = 1#1), ∀ a x, ((![v3644, v3661] : Fin 2 → IVec S16 32) a x).toNat < S192x8.size a := fun i v3644 v3661 k0_hw295 k0_h1 => k0_hw295 k0_h1

def k0_chk296 (i : grid0.Coords) (v3644 : IVec S16 32) (v3665 : IVec S16 32) : Prop :=
  (∀ (k0_h1 : k0_cond1 i = 1#1), ∀ a x, ((![v3644, v3665] : Fin 2 → IVec S16 32) a x).toNat < S192x8.size a)
theorem k0_idx296_inb : ∀ (i : grid0.Coords) (v3644 : IVec S16 32) (v3665 : IVec S16 32) (k0_hw296 : k0_chk296 i v3644 v3665), ∀ (k0_h1 : k0_cond1 i = 1#1), ∀ a x, ((![v3644, v3665] : Fin 2 → IVec S16 32) a x).toNat < S192x8.size a := fun i v3644 v3665 k0_hw296 k0_h1 => k0_hw296 k0_h1

def k0_chk297 (i : grid0.Coords) (v3644 : IVec S16 32) (v3669 : IVec S16 32) : Prop :=
  (∀ (k0_h1 : k0_cond1 i = 1#1), ∀ a x, ((![v3644, v3669] : Fin 2 → IVec S16 32) a x).toNat < S192x8.size a)
theorem k0_idx297_inb : ∀ (i : grid0.Coords) (v3644 : IVec S16 32) (v3669 : IVec S16 32) (k0_hw297 : k0_chk297 i v3644 v3669), ∀ (k0_h1 : k0_cond1 i = 1#1), ∀ a x, ((![v3644, v3669] : Fin 2 → IVec S16 32) a x).toNat < S192x8.size a := fun i v3644 v3669 k0_hw297 k0_h1 => k0_hw297 k0_h1

def k0_chk298 (i : grid0.Coords) (v3644 : IVec S16 32) (v3673 : IVec S16 32) : Prop :=
  (∀ (k0_h1 : k0_cond1 i = 1#1), ∀ a x, ((![v3644, v3673] : Fin 2 → IVec S16 32) a x).toNat < S192x8.size a)
theorem k0_idx298_inb : ∀ (i : grid0.Coords) (v3644 : IVec S16 32) (v3673 : IVec S16 32) (k0_hw298 : k0_chk298 i v3644 v3673), ∀ (k0_h1 : k0_cond1 i = 1#1), ∀ a x, ((![v3644, v3673] : Fin 2 → IVec S16 32) a x).toNat < S192x8.size a := fun i v3644 v3673 k0_hw298 k0_h1 => k0_hw298 k0_h1

def k0_chk299 (i : grid0.Coords) (v3644 : IVec S16 32) (v3677 : IVec S16 32) : Prop :=
  (∀ (k0_h1 : k0_cond1 i = 1#1), ∀ a x, ((![v3644, v3677] : Fin 2 → IVec S16 32) a x).toNat < S192x8.size a)
theorem k0_idx299_inb : ∀ (i : grid0.Coords) (v3644 : IVec S16 32) (v3677 : IVec S16 32) (k0_hw299 : k0_chk299 i v3644 v3677), ∀ (k0_h1 : k0_cond1 i = 1#1), ∀ a x, ((![v3644, v3677] : Fin 2 → IVec S16 32) a x).toNat < S192x8.size a := fun i v3644 v3677 k0_hw299 k0_h1 => k0_hw299 k0_h1

def k0_chk300 (i : grid0.Coords) (v3644 : IVec S16 32) (v3681 : IVec S16 32) : Prop :=
  (∀ (k0_h1 : k0_cond1 i = 1#1), ∀ a x, ((![v3644, v3681] : Fin 2 → IVec S16 32) a x).toNat < S192x8.size a)
theorem k0_idx300_inb : ∀ (i : grid0.Coords) (v3644 : IVec S16 32) (v3681 : IVec S16 32) (k0_hw300 : k0_chk300 i v3644 v3681), ∀ (k0_h1 : k0_cond1 i = 1#1), ∀ a x, ((![v3644, v3681] : Fin 2 → IVec S16 32) a x).toNat < S192x8.size a := fun i v3644 v3681 k0_hw300 k0_h1 => k0_hw300 k0_h1
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c48_i32_2415 : BitVec 32 := 48#32
  let v3685 : BitVec 32 := Scalar.muli v21 c48_i32_2415
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v3686 : BitVec 32 := Scalar.addi v3685 v32
  let c11_i32_2416 : BitVec 32 := 11#32
  let v3687 : BitVec 32 := Scalar.addi v3686 c11_i32_2416
  let c3_i32_2417 : BitVec 32 := 3#32
  let v3688 : BitVec 32 := Scalar.subi v3687 c3_i32_2417
  let c48_i32_2418 : BitVec 32 := 48#32
  let v3689 : BitVec 32 := Scalar.muli v3688 c48_i32_2418
  let c0_i32_2421 : BitVec 32 := 0#32
  ![v3689.toNat, 0]

def k0_chk301 (i : grid0.Coords) (v3752 : IVec S16 32) (v3761 : IVec S16 32) : Prop :=
  (∀ (k0_h1 : k0_cond1 i = 1#1), ∀ a x, ((![v3752, v3761] : Fin 2 → IVec S16 32) a x).toNat < S192x8.size a)
theorem k0_idx301_inb : ∀ (i : grid0.Coords) (v3752 : IVec S16 32) (v3761 : IVec S16 32) (k0_hw301 : k0_chk301 i v3752 v3761), ∀ (k0_h1 : k0_cond1 i = 1#1), ∀ a x, ((![v3752, v3761] : Fin 2 → IVec S16 32) a x).toNat < S192x8.size a := fun i v3752 v3761 k0_hw301 k0_h1 => k0_hw301 k0_h1

def k0_chk302 (i : grid0.Coords) (v3752 : IVec S16 32) (v3765 : IVec S16 32) : Prop :=
  (∀ (k0_h1 : k0_cond1 i = 1#1), ∀ a x, ((![v3752, v3765] : Fin 2 → IVec S16 32) a x).toNat < S192x8.size a)
theorem k0_idx302_inb : ∀ (i : grid0.Coords) (v3752 : IVec S16 32) (v3765 : IVec S16 32) (k0_hw302 : k0_chk302 i v3752 v3765), ∀ (k0_h1 : k0_cond1 i = 1#1), ∀ a x, ((![v3752, v3765] : Fin 2 → IVec S16 32) a x).toNat < S192x8.size a := fun i v3752 v3765 k0_hw302 k0_h1 => k0_hw302 k0_h1

def k0_chk303 (i : grid0.Coords) (v3752 : IVec S16 32) (v3769 : IVec S16 32) : Prop :=
  (∀ (k0_h1 : k0_cond1 i = 1#1), ∀ a x, ((![v3752, v3769] : Fin 2 → IVec S16 32) a x).toNat < S192x8.size a)
theorem k0_idx303_inb : ∀ (i : grid0.Coords) (v3752 : IVec S16 32) (v3769 : IVec S16 32) (k0_hw303 : k0_chk303 i v3752 v3769), ∀ (k0_h1 : k0_cond1 i = 1#1), ∀ a x, ((![v3752, v3769] : Fin 2 → IVec S16 32) a x).toNat < S192x8.size a := fun i v3752 v3769 k0_hw303 k0_h1 => k0_hw303 k0_h1

def k0_chk304 (i : grid0.Coords) (v3752 : IVec S16 32) (v3773 : IVec S16 32) : Prop :=
  (∀ (k0_h1 : k0_cond1 i = 1#1), ∀ a x, ((![v3752, v3773] : Fin 2 → IVec S16 32) a x).toNat < S192x8.size a)
theorem k0_idx304_inb : ∀ (i : grid0.Coords) (v3752 : IVec S16 32) (v3773 : IVec S16 32) (k0_hw304 : k0_chk304 i v3752 v3773), ∀ (k0_h1 : k0_cond1 i = 1#1), ∀ a x, ((![v3752, v3773] : Fin 2 → IVec S16 32) a x).toNat < S192x8.size a := fun i v3752 v3773 k0_hw304 k0_h1 => k0_hw304 k0_h1

def k0_chk305 (i : grid0.Coords) (v3752 : IVec S16 32) (v3777 : IVec S16 32) : Prop :=
  (∀ (k0_h1 : k0_cond1 i = 1#1), ∀ a x, ((![v3752, v3777] : Fin 2 → IVec S16 32) a x).toNat < S192x8.size a)
theorem k0_idx305_inb : ∀ (i : grid0.Coords) (v3752 : IVec S16 32) (v3777 : IVec S16 32) (k0_hw305 : k0_chk305 i v3752 v3777), ∀ (k0_h1 : k0_cond1 i = 1#1), ∀ a x, ((![v3752, v3777] : Fin 2 → IVec S16 32) a x).toNat < S192x8.size a := fun i v3752 v3777 k0_hw305 k0_h1 => k0_hw305 k0_h1

def k0_chk306 (i : grid0.Coords) (v3752 : IVec S16 32) (v3781 : IVec S16 32) : Prop :=
  (∀ (k0_h1 : k0_cond1 i = 1#1), ∀ a x, ((![v3752, v3781] : Fin 2 → IVec S16 32) a x).toNat < S192x8.size a)
theorem k0_idx306_inb : ∀ (i : grid0.Coords) (v3752 : IVec S16 32) (v3781 : IVec S16 32) (k0_hw306 : k0_chk306 i v3752 v3781), ∀ (k0_h1 : k0_cond1 i = 1#1), ∀ a x, ((![v3752, v3781] : Fin 2 → IVec S16 32) a x).toNat < S192x8.size a := fun i v3752 v3781 k0_hw306 k0_h1 => k0_hw306 k0_h1

def k0_chk307 (i : grid0.Coords) (v3752 : IVec S16 32) (v3785 : IVec S16 32) : Prop :=
  (∀ (k0_h1 : k0_cond1 i = 1#1), ∀ a x, ((![v3752, v3785] : Fin 2 → IVec S16 32) a x).toNat < S192x8.size a)
theorem k0_idx307_inb : ∀ (i : grid0.Coords) (v3752 : IVec S16 32) (v3785 : IVec S16 32) (k0_hw307 : k0_chk307 i v3752 v3785), ∀ (k0_h1 : k0_cond1 i = 1#1), ∀ a x, ((![v3752, v3785] : Fin 2 → IVec S16 32) a x).toNat < S192x8.size a := fun i v3752 v3785 k0_hw307 k0_h1 => k0_hw307 k0_h1

def k0_chk308 (i : grid0.Coords) (v3752 : IVec S16 32) (v3789 : IVec S16 32) : Prop :=
  (∀ (k0_h1 : k0_cond1 i = 1#1), ∀ a x, ((![v3752, v3789] : Fin 2 → IVec S16 32) a x).toNat < S192x8.size a)
theorem k0_idx308_inb : ∀ (i : grid0.Coords) (v3752 : IVec S16 32) (v3789 : IVec S16 32) (k0_hw308 : k0_chk308 i v3752 v3789), ∀ (k0_h1 : k0_cond1 i = 1#1), ∀ a x, ((![v3752, v3789] : Fin 2 → IVec S16 32) a x).toNat < S192x8.size a := fun i v3752 v3789 k0_hw308 k0_h1 => k0_hw308 k0_h1

def k0_chk309 (i : grid0.Coords) (v3851 : IVec S16 32) (v3860 : IVec S16 32) : Prop :=
  (∀ (k0_h1 : k0_cond1 i = 1#1), ∀ a x, ((![v3851, v3860] : Fin 2 → IVec S16 32) a x).toNat < S192x8.size a)
theorem k0_idx309_inb : ∀ (i : grid0.Coords) (v3851 : IVec S16 32) (v3860 : IVec S16 32) (k0_hw309 : k0_chk309 i v3851 v3860), ∀ (k0_h1 : k0_cond1 i = 1#1), ∀ a x, ((![v3851, v3860] : Fin 2 → IVec S16 32) a x).toNat < S192x8.size a := fun i v3851 v3860 k0_hw309 k0_h1 => k0_hw309 k0_h1

def k0_chk310 (i : grid0.Coords) (v3851 : IVec S16 32) (v3864 : IVec S16 32) : Prop :=
  (∀ (k0_h1 : k0_cond1 i = 1#1), ∀ a x, ((![v3851, v3864] : Fin 2 → IVec S16 32) a x).toNat < S192x8.size a)
theorem k0_idx310_inb : ∀ (i : grid0.Coords) (v3851 : IVec S16 32) (v3864 : IVec S16 32) (k0_hw310 : k0_chk310 i v3851 v3864), ∀ (k0_h1 : k0_cond1 i = 1#1), ∀ a x, ((![v3851, v3864] : Fin 2 → IVec S16 32) a x).toNat < S192x8.size a := fun i v3851 v3864 k0_hw310 k0_h1 => k0_hw310 k0_h1

def k0_chk311 (i : grid0.Coords) (v3851 : IVec S16 32) (v3868 : IVec S16 32) : Prop :=
  (∀ (k0_h1 : k0_cond1 i = 1#1), ∀ a x, ((![v3851, v3868] : Fin 2 → IVec S16 32) a x).toNat < S192x8.size a)
theorem k0_idx311_inb : ∀ (i : grid0.Coords) (v3851 : IVec S16 32) (v3868 : IVec S16 32) (k0_hw311 : k0_chk311 i v3851 v3868), ∀ (k0_h1 : k0_cond1 i = 1#1), ∀ a x, ((![v3851, v3868] : Fin 2 → IVec S16 32) a x).toNat < S192x8.size a := fun i v3851 v3868 k0_hw311 k0_h1 => k0_hw311 k0_h1

def k0_chk312 (i : grid0.Coords) (v3851 : IVec S16 32) (v3872 : IVec S16 32) : Prop :=
  (∀ (k0_h1 : k0_cond1 i = 1#1), ∀ a x, ((![v3851, v3872] : Fin 2 → IVec S16 32) a x).toNat < S192x8.size a)
theorem k0_idx312_inb : ∀ (i : grid0.Coords) (v3851 : IVec S16 32) (v3872 : IVec S16 32) (k0_hw312 : k0_chk312 i v3851 v3872), ∀ (k0_h1 : k0_cond1 i = 1#1), ∀ a x, ((![v3851, v3872] : Fin 2 → IVec S16 32) a x).toNat < S192x8.size a := fun i v3851 v3872 k0_hw312 k0_h1 => k0_hw312 k0_h1

def k0_chk313 (i : grid0.Coords) (v3851 : IVec S16 32) (v3876 : IVec S16 32) : Prop :=
  (∀ (k0_h1 : k0_cond1 i = 1#1), ∀ a x, ((![v3851, v3876] : Fin 2 → IVec S16 32) a x).toNat < S192x8.size a)
theorem k0_idx313_inb : ∀ (i : grid0.Coords) (v3851 : IVec S16 32) (v3876 : IVec S16 32) (k0_hw313 : k0_chk313 i v3851 v3876), ∀ (k0_h1 : k0_cond1 i = 1#1), ∀ a x, ((![v3851, v3876] : Fin 2 → IVec S16 32) a x).toNat < S192x8.size a := fun i v3851 v3876 k0_hw313 k0_h1 => k0_hw313 k0_h1

def k0_chk314 (i : grid0.Coords) (v3851 : IVec S16 32) (v3880 : IVec S16 32) : Prop :=
  (∀ (k0_h1 : k0_cond1 i = 1#1), ∀ a x, ((![v3851, v3880] : Fin 2 → IVec S16 32) a x).toNat < S192x8.size a)
theorem k0_idx314_inb : ∀ (i : grid0.Coords) (v3851 : IVec S16 32) (v3880 : IVec S16 32) (k0_hw314 : k0_chk314 i v3851 v3880), ∀ (k0_h1 : k0_cond1 i = 1#1), ∀ a x, ((![v3851, v3880] : Fin 2 → IVec S16 32) a x).toNat < S192x8.size a := fun i v3851 v3880 k0_hw314 k0_h1 => k0_hw314 k0_h1

def k0_chk315 (i : grid0.Coords) (v3851 : IVec S16 32) (v3884 : IVec S16 32) : Prop :=
  (∀ (k0_h1 : k0_cond1 i = 1#1), ∀ a x, ((![v3851, v3884] : Fin 2 → IVec S16 32) a x).toNat < S192x8.size a)
theorem k0_idx315_inb : ∀ (i : grid0.Coords) (v3851 : IVec S16 32) (v3884 : IVec S16 32) (k0_hw315 : k0_chk315 i v3851 v3884), ∀ (k0_h1 : k0_cond1 i = 1#1), ∀ a x, ((![v3851, v3884] : Fin 2 → IVec S16 32) a x).toNat < S192x8.size a := fun i v3851 v3884 k0_hw315 k0_h1 => k0_hw315 k0_h1

def k0_chk316 (i : grid0.Coords) (v3851 : IVec S16 32) (v3888 : IVec S16 32) : Prop :=
  (∀ (k0_h1 : k0_cond1 i = 1#1), ∀ a x, ((![v3851, v3888] : Fin 2 → IVec S16 32) a x).toNat < S192x8.size a)
theorem k0_idx316_inb : ∀ (i : grid0.Coords) (v3851 : IVec S16 32) (v3888 : IVec S16 32) (k0_hw316 : k0_chk316 i v3851 v3888), ∀ (k0_h1 : k0_cond1 i = 1#1), ∀ a x, ((![v3851, v3888] : Fin 2 → IVec S16 32) a x).toNat < S192x8.size a := fun i v3851 v3888 k0_hw316 k0_h1 => k0_hw316 k0_h1

def k0_chk317 (i : grid0.Coords) (v3950 : IVec S16 32) (v3959 : IVec S16 32) : Prop :=
  (∀ (k0_h1 : k0_cond1 i = 1#1), ∀ a x, ((![v3950, v3959] : Fin 2 → IVec S16 32) a x).toNat < S192x8.size a)
theorem k0_idx317_inb : ∀ (i : grid0.Coords) (v3950 : IVec S16 32) (v3959 : IVec S16 32) (k0_hw317 : k0_chk317 i v3950 v3959), ∀ (k0_h1 : k0_cond1 i = 1#1), ∀ a x, ((![v3950, v3959] : Fin 2 → IVec S16 32) a x).toNat < S192x8.size a := fun i v3950 v3959 k0_hw317 k0_h1 => k0_hw317 k0_h1

def k0_chk318 (i : grid0.Coords) (v3950 : IVec S16 32) (v3963 : IVec S16 32) : Prop :=
  (∀ (k0_h1 : k0_cond1 i = 1#1), ∀ a x, ((![v3950, v3963] : Fin 2 → IVec S16 32) a x).toNat < S192x8.size a)
theorem k0_idx318_inb : ∀ (i : grid0.Coords) (v3950 : IVec S16 32) (v3963 : IVec S16 32) (k0_hw318 : k0_chk318 i v3950 v3963), ∀ (k0_h1 : k0_cond1 i = 1#1), ∀ a x, ((![v3950, v3963] : Fin 2 → IVec S16 32) a x).toNat < S192x8.size a := fun i v3950 v3963 k0_hw318 k0_h1 => k0_hw318 k0_h1

def k0_chk319 (i : grid0.Coords) (v3950 : IVec S16 32) (v3967 : IVec S16 32) : Prop :=
  (∀ (k0_h1 : k0_cond1 i = 1#1), ∀ a x, ((![v3950, v3967] : Fin 2 → IVec S16 32) a x).toNat < S192x8.size a)
theorem k0_idx319_inb : ∀ (i : grid0.Coords) (v3950 : IVec S16 32) (v3967 : IVec S16 32) (k0_hw319 : k0_chk319 i v3950 v3967), ∀ (k0_h1 : k0_cond1 i = 1#1), ∀ a x, ((![v3950, v3967] : Fin 2 → IVec S16 32) a x).toNat < S192x8.size a := fun i v3950 v3967 k0_hw319 k0_h1 => k0_hw319 k0_h1

def k0_chk320 (i : grid0.Coords) (v3950 : IVec S16 32) (v3971 : IVec S16 32) : Prop :=
  (∀ (k0_h1 : k0_cond1 i = 1#1), ∀ a x, ((![v3950, v3971] : Fin 2 → IVec S16 32) a x).toNat < S192x8.size a)
theorem k0_idx320_inb : ∀ (i : grid0.Coords) (v3950 : IVec S16 32) (v3971 : IVec S16 32) (k0_hw320 : k0_chk320 i v3950 v3971), ∀ (k0_h1 : k0_cond1 i = 1#1), ∀ a x, ((![v3950, v3971] : Fin 2 → IVec S16 32) a x).toNat < S192x8.size a := fun i v3950 v3971 k0_hw320 k0_h1 => k0_hw320 k0_h1

def k0_chk321 (i : grid0.Coords) (v3950 : IVec S16 32) (v3975 : IVec S16 32) : Prop :=
  (∀ (k0_h1 : k0_cond1 i = 1#1), ∀ a x, ((![v3950, v3975] : Fin 2 → IVec S16 32) a x).toNat < S192x8.size a)
theorem k0_idx321_inb : ∀ (i : grid0.Coords) (v3950 : IVec S16 32) (v3975 : IVec S16 32) (k0_hw321 : k0_chk321 i v3950 v3975), ∀ (k0_h1 : k0_cond1 i = 1#1), ∀ a x, ((![v3950, v3975] : Fin 2 → IVec S16 32) a x).toNat < S192x8.size a := fun i v3950 v3975 k0_hw321 k0_h1 => k0_hw321 k0_h1

def k0_chk322 (i : grid0.Coords) (v3950 : IVec S16 32) (v3979 : IVec S16 32) : Prop :=
  (∀ (k0_h1 : k0_cond1 i = 1#1), ∀ a x, ((![v3950, v3979] : Fin 2 → IVec S16 32) a x).toNat < S192x8.size a)
theorem k0_idx322_inb : ∀ (i : grid0.Coords) (v3950 : IVec S16 32) (v3979 : IVec S16 32) (k0_hw322 : k0_chk322 i v3950 v3979), ∀ (k0_h1 : k0_cond1 i = 1#1), ∀ a x, ((![v3950, v3979] : Fin 2 → IVec S16 32) a x).toNat < S192x8.size a := fun i v3950 v3979 k0_hw322 k0_h1 => k0_hw322 k0_h1

def k0_chk323 (i : grid0.Coords) (v3950 : IVec S16 32) (v3983 : IVec S16 32) : Prop :=
  (∀ (k0_h1 : k0_cond1 i = 1#1), ∀ a x, ((![v3950, v3983] : Fin 2 → IVec S16 32) a x).toNat < S192x8.size a)
theorem k0_idx323_inb : ∀ (i : grid0.Coords) (v3950 : IVec S16 32) (v3983 : IVec S16 32) (k0_hw323 : k0_chk323 i v3950 v3983), ∀ (k0_h1 : k0_cond1 i = 1#1), ∀ a x, ((![v3950, v3983] : Fin 2 → IVec S16 32) a x).toNat < S192x8.size a := fun i v3950 v3983 k0_hw323 k0_h1 => k0_hw323 k0_h1

def k0_chk324 (i : grid0.Coords) (v3950 : IVec S16 32) (v3987 : IVec S16 32) : Prop :=
  (∀ (k0_h1 : k0_cond1 i = 1#1), ∀ a x, ((![v3950, v3987] : Fin 2 → IVec S16 32) a x).toNat < S192x8.size a)
theorem k0_idx324_inb : ∀ (i : grid0.Coords) (v3950 : IVec S16 32) (v3987 : IVec S16 32) (k0_hw324 : k0_chk324 i v3950 v3987), ∀ (k0_h1 : k0_cond1 i = 1#1), ∀ a x, ((![v3950, v3987] : Fin 2 → IVec S16 32) a x).toNat < S192x8.size a := fun i v3950 v3987 k0_hw324 k0_h1 => k0_hw324 k0_h1

def k0_chk325 (i : grid0.Coords) (v4049 : IVec S16 32) (v4058 : IVec S16 32) : Prop :=
  (∀ (k0_h1 : k0_cond1 i = 1#1), ∀ a x, ((![v4049, v4058] : Fin 2 → IVec S16 32) a x).toNat < S192x8.size a)
theorem k0_idx325_inb : ∀ (i : grid0.Coords) (v4049 : IVec S16 32) (v4058 : IVec S16 32) (k0_hw325 : k0_chk325 i v4049 v4058), ∀ (k0_h1 : k0_cond1 i = 1#1), ∀ a x, ((![v4049, v4058] : Fin 2 → IVec S16 32) a x).toNat < S192x8.size a := fun i v4049 v4058 k0_hw325 k0_h1 => k0_hw325 k0_h1

def k0_chk326 (i : grid0.Coords) (v4049 : IVec S16 32) (v4062 : IVec S16 32) : Prop :=
  (∀ (k0_h1 : k0_cond1 i = 1#1), ∀ a x, ((![v4049, v4062] : Fin 2 → IVec S16 32) a x).toNat < S192x8.size a)
theorem k0_idx326_inb : ∀ (i : grid0.Coords) (v4049 : IVec S16 32) (v4062 : IVec S16 32) (k0_hw326 : k0_chk326 i v4049 v4062), ∀ (k0_h1 : k0_cond1 i = 1#1), ∀ a x, ((![v4049, v4062] : Fin 2 → IVec S16 32) a x).toNat < S192x8.size a := fun i v4049 v4062 k0_hw326 k0_h1 => k0_hw326 k0_h1

def k0_chk327 (i : grid0.Coords) (v4049 : IVec S16 32) (v4066 : IVec S16 32) : Prop :=
  (∀ (k0_h1 : k0_cond1 i = 1#1), ∀ a x, ((![v4049, v4066] : Fin 2 → IVec S16 32) a x).toNat < S192x8.size a)
theorem k0_idx327_inb : ∀ (i : grid0.Coords) (v4049 : IVec S16 32) (v4066 : IVec S16 32) (k0_hw327 : k0_chk327 i v4049 v4066), ∀ (k0_h1 : k0_cond1 i = 1#1), ∀ a x, ((![v4049, v4066] : Fin 2 → IVec S16 32) a x).toNat < S192x8.size a := fun i v4049 v4066 k0_hw327 k0_h1 => k0_hw327 k0_h1

def k0_chk328 (i : grid0.Coords) (v4049 : IVec S16 32) (v4070 : IVec S16 32) : Prop :=
  (∀ (k0_h1 : k0_cond1 i = 1#1), ∀ a x, ((![v4049, v4070] : Fin 2 → IVec S16 32) a x).toNat < S192x8.size a)
theorem k0_idx328_inb : ∀ (i : grid0.Coords) (v4049 : IVec S16 32) (v4070 : IVec S16 32) (k0_hw328 : k0_chk328 i v4049 v4070), ∀ (k0_h1 : k0_cond1 i = 1#1), ∀ a x, ((![v4049, v4070] : Fin 2 → IVec S16 32) a x).toNat < S192x8.size a := fun i v4049 v4070 k0_hw328 k0_h1 => k0_hw328 k0_h1

def k0_chk329 (i : grid0.Coords) (v4049 : IVec S16 32) (v4074 : IVec S16 32) : Prop :=
  (∀ (k0_h1 : k0_cond1 i = 1#1), ∀ a x, ((![v4049, v4074] : Fin 2 → IVec S16 32) a x).toNat < S192x8.size a)
theorem k0_idx329_inb : ∀ (i : grid0.Coords) (v4049 : IVec S16 32) (v4074 : IVec S16 32) (k0_hw329 : k0_chk329 i v4049 v4074), ∀ (k0_h1 : k0_cond1 i = 1#1), ∀ a x, ((![v4049, v4074] : Fin 2 → IVec S16 32) a x).toNat < S192x8.size a := fun i v4049 v4074 k0_hw329 k0_h1 => k0_hw329 k0_h1

def k0_chk330 (i : grid0.Coords) (v4049 : IVec S16 32) (v4078 : IVec S16 32) : Prop :=
  (∀ (k0_h1 : k0_cond1 i = 1#1), ∀ a x, ((![v4049, v4078] : Fin 2 → IVec S16 32) a x).toNat < S192x8.size a)
theorem k0_idx330_inb : ∀ (i : grid0.Coords) (v4049 : IVec S16 32) (v4078 : IVec S16 32) (k0_hw330 : k0_chk330 i v4049 v4078), ∀ (k0_h1 : k0_cond1 i = 1#1), ∀ a x, ((![v4049, v4078] : Fin 2 → IVec S16 32) a x).toNat < S192x8.size a := fun i v4049 v4078 k0_hw330 k0_h1 => k0_hw330 k0_h1

def k0_chk331 (i : grid0.Coords) (v4049 : IVec S16 32) (v4082 : IVec S16 32) : Prop :=
  (∀ (k0_h1 : k0_cond1 i = 1#1), ∀ a x, ((![v4049, v4082] : Fin 2 → IVec S16 32) a x).toNat < S192x8.size a)
theorem k0_idx331_inb : ∀ (i : grid0.Coords) (v4049 : IVec S16 32) (v4082 : IVec S16 32) (k0_hw331 : k0_chk331 i v4049 v4082), ∀ (k0_h1 : k0_cond1 i = 1#1), ∀ a x, ((![v4049, v4082] : Fin 2 → IVec S16 32) a x).toNat < S192x8.size a := fun i v4049 v4082 k0_hw331 k0_h1 => k0_hw331 k0_h1

def k0_chk332 (i : grid0.Coords) (v4049 : IVec S16 32) (v4086 : IVec S16 32) : Prop :=
  (∀ (k0_h1 : k0_cond1 i = 1#1), ∀ a x, ((![v4049, v4086] : Fin 2 → IVec S16 32) a x).toNat < S192x8.size a)
theorem k0_idx332_inb : ∀ (i : grid0.Coords) (v4049 : IVec S16 32) (v4086 : IVec S16 32) (k0_hw332 : k0_chk332 i v4049 v4086), ∀ (k0_h1 : k0_cond1 i = 1#1), ∀ a x, ((![v4049, v4086] : Fin 2 → IVec S16 32) a x).toNat < S192x8.size a := fun i v4049 v4086 k0_hw332 k0_h1 => k0_hw332 k0_h1

def k0_chk333 (i : grid0.Coords) (v4148 : IVec S16 32) (v4157 : IVec S16 32) : Prop :=
  (∀ (k0_h1 : k0_cond1 i = 1#1), ∀ a x, ((![v4148, v4157] : Fin 2 → IVec S16 32) a x).toNat < S192x8.size a)
theorem k0_idx333_inb : ∀ (i : grid0.Coords) (v4148 : IVec S16 32) (v4157 : IVec S16 32) (k0_hw333 : k0_chk333 i v4148 v4157), ∀ (k0_h1 : k0_cond1 i = 1#1), ∀ a x, ((![v4148, v4157] : Fin 2 → IVec S16 32) a x).toNat < S192x8.size a := fun i v4148 v4157 k0_hw333 k0_h1 => k0_hw333 k0_h1

def k0_chk334 (i : grid0.Coords) (v4148 : IVec S16 32) (v4161 : IVec S16 32) : Prop :=
  (∀ (k0_h1 : k0_cond1 i = 1#1), ∀ a x, ((![v4148, v4161] : Fin 2 → IVec S16 32) a x).toNat < S192x8.size a)
theorem k0_idx334_inb : ∀ (i : grid0.Coords) (v4148 : IVec S16 32) (v4161 : IVec S16 32) (k0_hw334 : k0_chk334 i v4148 v4161), ∀ (k0_h1 : k0_cond1 i = 1#1), ∀ a x, ((![v4148, v4161] : Fin 2 → IVec S16 32) a x).toNat < S192x8.size a := fun i v4148 v4161 k0_hw334 k0_h1 => k0_hw334 k0_h1

def k0_chk335 (i : grid0.Coords) (v4148 : IVec S16 32) (v4165 : IVec S16 32) : Prop :=
  (∀ (k0_h1 : k0_cond1 i = 1#1), ∀ a x, ((![v4148, v4165] : Fin 2 → IVec S16 32) a x).toNat < S192x8.size a)
theorem k0_idx335_inb : ∀ (i : grid0.Coords) (v4148 : IVec S16 32) (v4165 : IVec S16 32) (k0_hw335 : k0_chk335 i v4148 v4165), ∀ (k0_h1 : k0_cond1 i = 1#1), ∀ a x, ((![v4148, v4165] : Fin 2 → IVec S16 32) a x).toNat < S192x8.size a := fun i v4148 v4165 k0_hw335 k0_h1 => k0_hw335 k0_h1

def k0_chk336 (i : grid0.Coords) (v4148 : IVec S16 32) (v4169 : IVec S16 32) : Prop :=
  (∀ (k0_h1 : k0_cond1 i = 1#1), ∀ a x, ((![v4148, v4169] : Fin 2 → IVec S16 32) a x).toNat < S192x8.size a)
theorem k0_idx336_inb : ∀ (i : grid0.Coords) (v4148 : IVec S16 32) (v4169 : IVec S16 32) (k0_hw336 : k0_chk336 i v4148 v4169), ∀ (k0_h1 : k0_cond1 i = 1#1), ∀ a x, ((![v4148, v4169] : Fin 2 → IVec S16 32) a x).toNat < S192x8.size a := fun i v4148 v4169 k0_hw336 k0_h1 => k0_hw336 k0_h1

def k0_chk337 (i : grid0.Coords) (v4148 : IVec S16 32) (v4173 : IVec S16 32) : Prop :=
  (∀ (k0_h1 : k0_cond1 i = 1#1), ∀ a x, ((![v4148, v4173] : Fin 2 → IVec S16 32) a x).toNat < S192x8.size a)
theorem k0_idx337_inb : ∀ (i : grid0.Coords) (v4148 : IVec S16 32) (v4173 : IVec S16 32) (k0_hw337 : k0_chk337 i v4148 v4173), ∀ (k0_h1 : k0_cond1 i = 1#1), ∀ a x, ((![v4148, v4173] : Fin 2 → IVec S16 32) a x).toNat < S192x8.size a := fun i v4148 v4173 k0_hw337 k0_h1 => k0_hw337 k0_h1

def k0_chk338 (i : grid0.Coords) (v4148 : IVec S16 32) (v4177 : IVec S16 32) : Prop :=
  (∀ (k0_h1 : k0_cond1 i = 1#1), ∀ a x, ((![v4148, v4177] : Fin 2 → IVec S16 32) a x).toNat < S192x8.size a)
theorem k0_idx338_inb : ∀ (i : grid0.Coords) (v4148 : IVec S16 32) (v4177 : IVec S16 32) (k0_hw338 : k0_chk338 i v4148 v4177), ∀ (k0_h1 : k0_cond1 i = 1#1), ∀ a x, ((![v4148, v4177] : Fin 2 → IVec S16 32) a x).toNat < S192x8.size a := fun i v4148 v4177 k0_hw338 k0_h1 => k0_hw338 k0_h1

def k0_chk339 (i : grid0.Coords) (v4148 : IVec S16 32) (v4181 : IVec S16 32) : Prop :=
  (∀ (k0_h1 : k0_cond1 i = 1#1), ∀ a x, ((![v4148, v4181] : Fin 2 → IVec S16 32) a x).toNat < S192x8.size a)
theorem k0_idx339_inb : ∀ (i : grid0.Coords) (v4148 : IVec S16 32) (v4181 : IVec S16 32) (k0_hw339 : k0_chk339 i v4148 v4181), ∀ (k0_h1 : k0_cond1 i = 1#1), ∀ a x, ((![v4148, v4181] : Fin 2 → IVec S16 32) a x).toNat < S192x8.size a := fun i v4148 v4181 k0_hw339 k0_h1 => k0_hw339 k0_h1

def k0_chk340 (i : grid0.Coords) (v4148 : IVec S16 32) (v4185 : IVec S16 32) : Prop :=
  (∀ (k0_h1 : k0_cond1 i = 1#1), ∀ a x, ((![v4148, v4185] : Fin 2 → IVec S16 32) a x).toNat < S192x8.size a)
theorem k0_idx340_inb : ∀ (i : grid0.Coords) (v4148 : IVec S16 32) (v4185 : IVec S16 32) (k0_hw340 : k0_chk340 i v4148 v4185), ∀ (k0_h1 : k0_cond1 i = 1#1), ∀ a x, ((![v4148, v4185] : Fin 2 → IVec S16 32) a x).toNat < S192x8.size a := fun i v4148 v4185 k0_hw340 k0_h1 => k0_hw340 k0_h1

def k0_chk341 (i : grid0.Coords) (v4247 : IVec S16 32) (v4256 : IVec S16 32) : Prop :=
  (∀ (k0_h1 : k0_cond1 i = 1#1), ∀ a x, ((![v4247, v4256] : Fin 2 → IVec S16 32) a x).toNat < S192x8.size a)
theorem k0_idx341_inb : ∀ (i : grid0.Coords) (v4247 : IVec S16 32) (v4256 : IVec S16 32) (k0_hw341 : k0_chk341 i v4247 v4256), ∀ (k0_h1 : k0_cond1 i = 1#1), ∀ a x, ((![v4247, v4256] : Fin 2 → IVec S16 32) a x).toNat < S192x8.size a := fun i v4247 v4256 k0_hw341 k0_h1 => k0_hw341 k0_h1

def k0_chk342 (i : grid0.Coords) (v4247 : IVec S16 32) (v4260 : IVec S16 32) : Prop :=
  (∀ (k0_h1 : k0_cond1 i = 1#1), ∀ a x, ((![v4247, v4260] : Fin 2 → IVec S16 32) a x).toNat < S192x8.size a)
theorem k0_idx342_inb : ∀ (i : grid0.Coords) (v4247 : IVec S16 32) (v4260 : IVec S16 32) (k0_hw342 : k0_chk342 i v4247 v4260), ∀ (k0_h1 : k0_cond1 i = 1#1), ∀ a x, ((![v4247, v4260] : Fin 2 → IVec S16 32) a x).toNat < S192x8.size a := fun i v4247 v4260 k0_hw342 k0_h1 => k0_hw342 k0_h1

def k0_chk343 (i : grid0.Coords) (v4247 : IVec S16 32) (v4264 : IVec S16 32) : Prop :=
  (∀ (k0_h1 : k0_cond1 i = 1#1), ∀ a x, ((![v4247, v4264] : Fin 2 → IVec S16 32) a x).toNat < S192x8.size a)
theorem k0_idx343_inb : ∀ (i : grid0.Coords) (v4247 : IVec S16 32) (v4264 : IVec S16 32) (k0_hw343 : k0_chk343 i v4247 v4264), ∀ (k0_h1 : k0_cond1 i = 1#1), ∀ a x, ((![v4247, v4264] : Fin 2 → IVec S16 32) a x).toNat < S192x8.size a := fun i v4247 v4264 k0_hw343 k0_h1 => k0_hw343 k0_h1

def k0_chk344 (i : grid0.Coords) (v4247 : IVec S16 32) (v4268 : IVec S16 32) : Prop :=
  (∀ (k0_h1 : k0_cond1 i = 1#1), ∀ a x, ((![v4247, v4268] : Fin 2 → IVec S16 32) a x).toNat < S192x8.size a)
theorem k0_idx344_inb : ∀ (i : grid0.Coords) (v4247 : IVec S16 32) (v4268 : IVec S16 32) (k0_hw344 : k0_chk344 i v4247 v4268), ∀ (k0_h1 : k0_cond1 i = 1#1), ∀ a x, ((![v4247, v4268] : Fin 2 → IVec S16 32) a x).toNat < S192x8.size a := fun i v4247 v4268 k0_hw344 k0_h1 => k0_hw344 k0_h1

def k0_chk345 (i : grid0.Coords) (v4247 : IVec S16 32) (v4272 : IVec S16 32) : Prop :=
  (∀ (k0_h1 : k0_cond1 i = 1#1), ∀ a x, ((![v4247, v4272] : Fin 2 → IVec S16 32) a x).toNat < S192x8.size a)
theorem k0_idx345_inb : ∀ (i : grid0.Coords) (v4247 : IVec S16 32) (v4272 : IVec S16 32) (k0_hw345 : k0_chk345 i v4247 v4272), ∀ (k0_h1 : k0_cond1 i = 1#1), ∀ a x, ((![v4247, v4272] : Fin 2 → IVec S16 32) a x).toNat < S192x8.size a := fun i v4247 v4272 k0_hw345 k0_h1 => k0_hw345 k0_h1

def k0_chk346 (i : grid0.Coords) (v4247 : IVec S16 32) (v4276 : IVec S16 32) : Prop :=
  (∀ (k0_h1 : k0_cond1 i = 1#1), ∀ a x, ((![v4247, v4276] : Fin 2 → IVec S16 32) a x).toNat < S192x8.size a)
theorem k0_idx346_inb : ∀ (i : grid0.Coords) (v4247 : IVec S16 32) (v4276 : IVec S16 32) (k0_hw346 : k0_chk346 i v4247 v4276), ∀ (k0_h1 : k0_cond1 i = 1#1), ∀ a x, ((![v4247, v4276] : Fin 2 → IVec S16 32) a x).toNat < S192x8.size a := fun i v4247 v4276 k0_hw346 k0_h1 => k0_hw346 k0_h1

def k0_chk347 (i : grid0.Coords) (v4247 : IVec S16 32) (v4280 : IVec S16 32) : Prop :=
  (∀ (k0_h1 : k0_cond1 i = 1#1), ∀ a x, ((![v4247, v4280] : Fin 2 → IVec S16 32) a x).toNat < S192x8.size a)
theorem k0_idx347_inb : ∀ (i : grid0.Coords) (v4247 : IVec S16 32) (v4280 : IVec S16 32) (k0_hw347 : k0_chk347 i v4247 v4280), ∀ (k0_h1 : k0_cond1 i = 1#1), ∀ a x, ((![v4247, v4280] : Fin 2 → IVec S16 32) a x).toNat < S192x8.size a := fun i v4247 v4280 k0_hw347 k0_h1 => k0_hw347 k0_h1

def k0_chk348 (i : grid0.Coords) (v4247 : IVec S16 32) (v4284 : IVec S16 32) : Prop :=
  (∀ (k0_h1 : k0_cond1 i = 1#1), ∀ a x, ((![v4247, v4284] : Fin 2 → IVec S16 32) a x).toNat < S192x8.size a)
theorem k0_idx348_inb : ∀ (i : grid0.Coords) (v4247 : IVec S16 32) (v4284 : IVec S16 32) (k0_hw348 : k0_chk348 i v4247 v4284), ∀ (k0_h1 : k0_cond1 i = 1#1), ∀ a x, ((![v4247, v4284] : Fin 2 → IVec S16 32) a x).toNat < S192x8.size a := fun i v4247 v4284 k0_hw348 k0_h1 => k0_hw348 k0_h1

def k0_chk349 (i : grid0.Coords) (v4346 : IVec S16 32) (v4355 : IVec S16 32) : Prop :=
  (∀ (k0_h1 : k0_cond1 i = 1#1), ∀ a x, ((![v4346, v4355] : Fin 2 → IVec S16 32) a x).toNat < S192x8.size a)
theorem k0_idx349_inb : ∀ (i : grid0.Coords) (v4346 : IVec S16 32) (v4355 : IVec S16 32) (k0_hw349 : k0_chk349 i v4346 v4355), ∀ (k0_h1 : k0_cond1 i = 1#1), ∀ a x, ((![v4346, v4355] : Fin 2 → IVec S16 32) a x).toNat < S192x8.size a := fun i v4346 v4355 k0_hw349 k0_h1 => k0_hw349 k0_h1

def k0_chk350 (i : grid0.Coords) (v4346 : IVec S16 32) (v4359 : IVec S16 32) : Prop :=
  (∀ (k0_h1 : k0_cond1 i = 1#1), ∀ a x, ((![v4346, v4359] : Fin 2 → IVec S16 32) a x).toNat < S192x8.size a)
theorem k0_idx350_inb : ∀ (i : grid0.Coords) (v4346 : IVec S16 32) (v4359 : IVec S16 32) (k0_hw350 : k0_chk350 i v4346 v4359), ∀ (k0_h1 : k0_cond1 i = 1#1), ∀ a x, ((![v4346, v4359] : Fin 2 → IVec S16 32) a x).toNat < S192x8.size a := fun i v4346 v4359 k0_hw350 k0_h1 => k0_hw350 k0_h1

def k0_chk351 (i : grid0.Coords) (v4346 : IVec S16 32) (v4363 : IVec S16 32) : Prop :=
  (∀ (k0_h1 : k0_cond1 i = 1#1), ∀ a x, ((![v4346, v4363] : Fin 2 → IVec S16 32) a x).toNat < S192x8.size a)
theorem k0_idx351_inb : ∀ (i : grid0.Coords) (v4346 : IVec S16 32) (v4363 : IVec S16 32) (k0_hw351 : k0_chk351 i v4346 v4363), ∀ (k0_h1 : k0_cond1 i = 1#1), ∀ a x, ((![v4346, v4363] : Fin 2 → IVec S16 32) a x).toNat < S192x8.size a := fun i v4346 v4363 k0_hw351 k0_h1 => k0_hw351 k0_h1

def k0_chk352 (i : grid0.Coords) (v4346 : IVec S16 32) (v4367 : IVec S16 32) : Prop :=
  (∀ (k0_h1 : k0_cond1 i = 1#1), ∀ a x, ((![v4346, v4367] : Fin 2 → IVec S16 32) a x).toNat < S192x8.size a)
theorem k0_idx352_inb : ∀ (i : grid0.Coords) (v4346 : IVec S16 32) (v4367 : IVec S16 32) (k0_hw352 : k0_chk352 i v4346 v4367), ∀ (k0_h1 : k0_cond1 i = 1#1), ∀ a x, ((![v4346, v4367] : Fin 2 → IVec S16 32) a x).toNat < S192x8.size a := fun i v4346 v4367 k0_hw352 k0_h1 => k0_hw352 k0_h1

def k0_chk353 (i : grid0.Coords) (v4346 : IVec S16 32) (v4371 : IVec S16 32) : Prop :=
  (∀ (k0_h1 : k0_cond1 i = 1#1), ∀ a x, ((![v4346, v4371] : Fin 2 → IVec S16 32) a x).toNat < S192x8.size a)
theorem k0_idx353_inb : ∀ (i : grid0.Coords) (v4346 : IVec S16 32) (v4371 : IVec S16 32) (k0_hw353 : k0_chk353 i v4346 v4371), ∀ (k0_h1 : k0_cond1 i = 1#1), ∀ a x, ((![v4346, v4371] : Fin 2 → IVec S16 32) a x).toNat < S192x8.size a := fun i v4346 v4371 k0_hw353 k0_h1 => k0_hw353 k0_h1

def k0_chk354 (i : grid0.Coords) (v4346 : IVec S16 32) (v4375 : IVec S16 32) : Prop :=
  (∀ (k0_h1 : k0_cond1 i = 1#1), ∀ a x, ((![v4346, v4375] : Fin 2 → IVec S16 32) a x).toNat < S192x8.size a)
theorem k0_idx354_inb : ∀ (i : grid0.Coords) (v4346 : IVec S16 32) (v4375 : IVec S16 32) (k0_hw354 : k0_chk354 i v4346 v4375), ∀ (k0_h1 : k0_cond1 i = 1#1), ∀ a x, ((![v4346, v4375] : Fin 2 → IVec S16 32) a x).toNat < S192x8.size a := fun i v4346 v4375 k0_hw354 k0_h1 => k0_hw354 k0_h1

def k0_chk355 (i : grid0.Coords) (v4346 : IVec S16 32) (v4379 : IVec S16 32) : Prop :=
  (∀ (k0_h1 : k0_cond1 i = 1#1), ∀ a x, ((![v4346, v4379] : Fin 2 → IVec S16 32) a x).toNat < S192x8.size a)
theorem k0_idx355_inb : ∀ (i : grid0.Coords) (v4346 : IVec S16 32) (v4379 : IVec S16 32) (k0_hw355 : k0_chk355 i v4346 v4379), ∀ (k0_h1 : k0_cond1 i = 1#1), ∀ a x, ((![v4346, v4379] : Fin 2 → IVec S16 32) a x).toNat < S192x8.size a := fun i v4346 v4379 k0_hw355 k0_h1 => k0_hw355 k0_h1

def k0_chk356 (i : grid0.Coords) (v4346 : IVec S16 32) (v4383 : IVec S16 32) : Prop :=
  (∀ (k0_h1 : k0_cond1 i = 1#1), ∀ a x, ((![v4346, v4383] : Fin 2 → IVec S16 32) a x).toNat < S192x8.size a)
theorem k0_idx356_inb : ∀ (i : grid0.Coords) (v4346 : IVec S16 32) (v4383 : IVec S16 32) (k0_hw356 : k0_chk356 i v4346 v4383), ∀ (k0_h1 : k0_cond1 i = 1#1), ∀ a x, ((![v4346, v4383] : Fin 2 → IVec S16 32) a x).toNat < S192x8.size a := fun i v4346 v4383 k0_hw356 k0_h1 => k0_hw356 k0_h1

def k0_chk357 (i : grid0.Coords) (v4445 : IVec S16 32) (v4454 : IVec S16 32) : Prop :=
  (∀ (k0_h1 : k0_cond1 i = 1#1), ∀ a x, ((![v4445, v4454] : Fin 2 → IVec S16 32) a x).toNat < S192x8.size a)
theorem k0_idx357_inb : ∀ (i : grid0.Coords) (v4445 : IVec S16 32) (v4454 : IVec S16 32) (k0_hw357 : k0_chk357 i v4445 v4454), ∀ (k0_h1 : k0_cond1 i = 1#1), ∀ a x, ((![v4445, v4454] : Fin 2 → IVec S16 32) a x).toNat < S192x8.size a := fun i v4445 v4454 k0_hw357 k0_h1 => k0_hw357 k0_h1

def k0_chk358 (i : grid0.Coords) (v4445 : IVec S16 32) (v4458 : IVec S16 32) : Prop :=
  (∀ (k0_h1 : k0_cond1 i = 1#1), ∀ a x, ((![v4445, v4458] : Fin 2 → IVec S16 32) a x).toNat < S192x8.size a)
theorem k0_idx358_inb : ∀ (i : grid0.Coords) (v4445 : IVec S16 32) (v4458 : IVec S16 32) (k0_hw358 : k0_chk358 i v4445 v4458), ∀ (k0_h1 : k0_cond1 i = 1#1), ∀ a x, ((![v4445, v4458] : Fin 2 → IVec S16 32) a x).toNat < S192x8.size a := fun i v4445 v4458 k0_hw358 k0_h1 => k0_hw358 k0_h1

def k0_chk359 (i : grid0.Coords) (v4445 : IVec S16 32) (v4462 : IVec S16 32) : Prop :=
  (∀ (k0_h1 : k0_cond1 i = 1#1), ∀ a x, ((![v4445, v4462] : Fin 2 → IVec S16 32) a x).toNat < S192x8.size a)
theorem k0_idx359_inb : ∀ (i : grid0.Coords) (v4445 : IVec S16 32) (v4462 : IVec S16 32) (k0_hw359 : k0_chk359 i v4445 v4462), ∀ (k0_h1 : k0_cond1 i = 1#1), ∀ a x, ((![v4445, v4462] : Fin 2 → IVec S16 32) a x).toNat < S192x8.size a := fun i v4445 v4462 k0_hw359 k0_h1 => k0_hw359 k0_h1

def k0_chk360 (i : grid0.Coords) (v4445 : IVec S16 32) (v4466 : IVec S16 32) : Prop :=
  (∀ (k0_h1 : k0_cond1 i = 1#1), ∀ a x, ((![v4445, v4466] : Fin 2 → IVec S16 32) a x).toNat < S192x8.size a)
theorem k0_idx360_inb : ∀ (i : grid0.Coords) (v4445 : IVec S16 32) (v4466 : IVec S16 32) (k0_hw360 : k0_chk360 i v4445 v4466), ∀ (k0_h1 : k0_cond1 i = 1#1), ∀ a x, ((![v4445, v4466] : Fin 2 → IVec S16 32) a x).toNat < S192x8.size a := fun i v4445 v4466 k0_hw360 k0_h1 => k0_hw360 k0_h1

def k0_chk361 (i : grid0.Coords) (v4445 : IVec S16 32) (v4470 : IVec S16 32) : Prop :=
  (∀ (k0_h1 : k0_cond1 i = 1#1), ∀ a x, ((![v4445, v4470] : Fin 2 → IVec S16 32) a x).toNat < S192x8.size a)
theorem k0_idx361_inb : ∀ (i : grid0.Coords) (v4445 : IVec S16 32) (v4470 : IVec S16 32) (k0_hw361 : k0_chk361 i v4445 v4470), ∀ (k0_h1 : k0_cond1 i = 1#1), ∀ a x, ((![v4445, v4470] : Fin 2 → IVec S16 32) a x).toNat < S192x8.size a := fun i v4445 v4470 k0_hw361 k0_h1 => k0_hw361 k0_h1

def k0_chk362 (i : grid0.Coords) (v4445 : IVec S16 32) (v4474 : IVec S16 32) : Prop :=
  (∀ (k0_h1 : k0_cond1 i = 1#1), ∀ a x, ((![v4445, v4474] : Fin 2 → IVec S16 32) a x).toNat < S192x8.size a)
theorem k0_idx362_inb : ∀ (i : grid0.Coords) (v4445 : IVec S16 32) (v4474 : IVec S16 32) (k0_hw362 : k0_chk362 i v4445 v4474), ∀ (k0_h1 : k0_cond1 i = 1#1), ∀ a x, ((![v4445, v4474] : Fin 2 → IVec S16 32) a x).toNat < S192x8.size a := fun i v4445 v4474 k0_hw362 k0_h1 => k0_hw362 k0_h1

def k0_chk363 (i : grid0.Coords) (v4445 : IVec S16 32) (v4478 : IVec S16 32) : Prop :=
  (∀ (k0_h1 : k0_cond1 i = 1#1), ∀ a x, ((![v4445, v4478] : Fin 2 → IVec S16 32) a x).toNat < S192x8.size a)
theorem k0_idx363_inb : ∀ (i : grid0.Coords) (v4445 : IVec S16 32) (v4478 : IVec S16 32) (k0_hw363 : k0_chk363 i v4445 v4478), ∀ (k0_h1 : k0_cond1 i = 1#1), ∀ a x, ((![v4445, v4478] : Fin 2 → IVec S16 32) a x).toNat < S192x8.size a := fun i v4445 v4478 k0_hw363 k0_h1 => k0_hw363 k0_h1

def k0_chk364 (i : grid0.Coords) (v4445 : IVec S16 32) (v4482 : IVec S16 32) : Prop :=
  (∀ (k0_h1 : k0_cond1 i = 1#1), ∀ a x, ((![v4445, v4482] : Fin 2 → IVec S16 32) a x).toNat < S192x8.size a)
theorem k0_idx364_inb : ∀ (i : grid0.Coords) (v4445 : IVec S16 32) (v4482 : IVec S16 32) (k0_hw364 : k0_chk364 i v4445 v4482), ∀ (k0_h1 : k0_cond1 i = 1#1), ∀ a x, ((![v4445, v4482] : Fin 2 → IVec S16 32) a x).toNat < S192x8.size a := fun i v4445 v4482 k0_hw364 k0_h1 => k0_hw364 k0_h1

def k0_chk365 (i : grid0.Coords) (v4544 : IVec S16 32) (v4553 : IVec S16 32) : Prop :=
  (∀ (k0_h1 : k0_cond1 i = 1#1), ∀ a x, ((![v4544, v4553] : Fin 2 → IVec S16 32) a x).toNat < S192x8.size a)
theorem k0_idx365_inb : ∀ (i : grid0.Coords) (v4544 : IVec S16 32) (v4553 : IVec S16 32) (k0_hw365 : k0_chk365 i v4544 v4553), ∀ (k0_h1 : k0_cond1 i = 1#1), ∀ a x, ((![v4544, v4553] : Fin 2 → IVec S16 32) a x).toNat < S192x8.size a := fun i v4544 v4553 k0_hw365 k0_h1 => k0_hw365 k0_h1

def k0_chk366 (i : grid0.Coords) (v4544 : IVec S16 32) (v4557 : IVec S16 32) : Prop :=
  (∀ (k0_h1 : k0_cond1 i = 1#1), ∀ a x, ((![v4544, v4557] : Fin 2 → IVec S16 32) a x).toNat < S192x8.size a)
theorem k0_idx366_inb : ∀ (i : grid0.Coords) (v4544 : IVec S16 32) (v4557 : IVec S16 32) (k0_hw366 : k0_chk366 i v4544 v4557), ∀ (k0_h1 : k0_cond1 i = 1#1), ∀ a x, ((![v4544, v4557] : Fin 2 → IVec S16 32) a x).toNat < S192x8.size a := fun i v4544 v4557 k0_hw366 k0_h1 => k0_hw366 k0_h1

def k0_chk367 (i : grid0.Coords) (v4544 : IVec S16 32) (v4561 : IVec S16 32) : Prop :=
  (∀ (k0_h1 : k0_cond1 i = 1#1), ∀ a x, ((![v4544, v4561] : Fin 2 → IVec S16 32) a x).toNat < S192x8.size a)
theorem k0_idx367_inb : ∀ (i : grid0.Coords) (v4544 : IVec S16 32) (v4561 : IVec S16 32) (k0_hw367 : k0_chk367 i v4544 v4561), ∀ (k0_h1 : k0_cond1 i = 1#1), ∀ a x, ((![v4544, v4561] : Fin 2 → IVec S16 32) a x).toNat < S192x8.size a := fun i v4544 v4561 k0_hw367 k0_h1 => k0_hw367 k0_h1

def k0_chk368 (i : grid0.Coords) (v4544 : IVec S16 32) (v4565 : IVec S16 32) : Prop :=
  (∀ (k0_h1 : k0_cond1 i = 1#1), ∀ a x, ((![v4544, v4565] : Fin 2 → IVec S16 32) a x).toNat < S192x8.size a)
theorem k0_idx368_inb : ∀ (i : grid0.Coords) (v4544 : IVec S16 32) (v4565 : IVec S16 32) (k0_hw368 : k0_chk368 i v4544 v4565), ∀ (k0_h1 : k0_cond1 i = 1#1), ∀ a x, ((![v4544, v4565] : Fin 2 → IVec S16 32) a x).toNat < S192x8.size a := fun i v4544 v4565 k0_hw368 k0_h1 => k0_hw368 k0_h1

def k0_chk369 (i : grid0.Coords) (v4544 : IVec S16 32) (v4569 : IVec S16 32) : Prop :=
  (∀ (k0_h1 : k0_cond1 i = 1#1), ∀ a x, ((![v4544, v4569] : Fin 2 → IVec S16 32) a x).toNat < S192x8.size a)
theorem k0_idx369_inb : ∀ (i : grid0.Coords) (v4544 : IVec S16 32) (v4569 : IVec S16 32) (k0_hw369 : k0_chk369 i v4544 v4569), ∀ (k0_h1 : k0_cond1 i = 1#1), ∀ a x, ((![v4544, v4569] : Fin 2 → IVec S16 32) a x).toNat < S192x8.size a := fun i v4544 v4569 k0_hw369 k0_h1 => k0_hw369 k0_h1

def k0_chk370 (i : grid0.Coords) (v4544 : IVec S16 32) (v4573 : IVec S16 32) : Prop :=
  (∀ (k0_h1 : k0_cond1 i = 1#1), ∀ a x, ((![v4544, v4573] : Fin 2 → IVec S16 32) a x).toNat < S192x8.size a)
theorem k0_idx370_inb : ∀ (i : grid0.Coords) (v4544 : IVec S16 32) (v4573 : IVec S16 32) (k0_hw370 : k0_chk370 i v4544 v4573), ∀ (k0_h1 : k0_cond1 i = 1#1), ∀ a x, ((![v4544, v4573] : Fin 2 → IVec S16 32) a x).toNat < S192x8.size a := fun i v4544 v4573 k0_hw370 k0_h1 => k0_hw370 k0_h1

def k0_chk371 (i : grid0.Coords) (v4544 : IVec S16 32) (v4577 : IVec S16 32) : Prop :=
  (∀ (k0_h1 : k0_cond1 i = 1#1), ∀ a x, ((![v4544, v4577] : Fin 2 → IVec S16 32) a x).toNat < S192x8.size a)
theorem k0_idx371_inb : ∀ (i : grid0.Coords) (v4544 : IVec S16 32) (v4577 : IVec S16 32) (k0_hw371 : k0_chk371 i v4544 v4577), ∀ (k0_h1 : k0_cond1 i = 1#1), ∀ a x, ((![v4544, v4577] : Fin 2 → IVec S16 32) a x).toNat < S192x8.size a := fun i v4544 v4577 k0_hw371 k0_h1 => k0_hw371 k0_h1

def k0_chk372 (i : grid0.Coords) (v4544 : IVec S16 32) (v4581 : IVec S16 32) : Prop :=
  (∀ (k0_h1 : k0_cond1 i = 1#1), ∀ a x, ((![v4544, v4581] : Fin 2 → IVec S16 32) a x).toNat < S192x8.size a)
theorem k0_idx372_inb : ∀ (i : grid0.Coords) (v4544 : IVec S16 32) (v4581 : IVec S16 32) (k0_hw372 : k0_chk372 i v4544 v4581), ∀ (k0_h1 : k0_cond1 i = 1#1), ∀ a x, ((![v4544, v4581] : Fin 2 → IVec S16 32) a x).toNat < S192x8.size a := fun i v4544 v4581 k0_hw372 k0_h1 => k0_hw372 k0_h1

def k0_chk373 (i : grid0.Coords) (v4643 : IVec S16 32) (v4652 : IVec S16 32) : Prop :=
  (∀ (k0_h1 : k0_cond1 i = 1#1), ∀ a x, ((![v4643, v4652] : Fin 2 → IVec S16 32) a x).toNat < S192x8.size a)
theorem k0_idx373_inb : ∀ (i : grid0.Coords) (v4643 : IVec S16 32) (v4652 : IVec S16 32) (k0_hw373 : k0_chk373 i v4643 v4652), ∀ (k0_h1 : k0_cond1 i = 1#1), ∀ a x, ((![v4643, v4652] : Fin 2 → IVec S16 32) a x).toNat < S192x8.size a := fun i v4643 v4652 k0_hw373 k0_h1 => k0_hw373 k0_h1

def k0_chk374 (i : grid0.Coords) (v4643 : IVec S16 32) (v4656 : IVec S16 32) : Prop :=
  (∀ (k0_h1 : k0_cond1 i = 1#1), ∀ a x, ((![v4643, v4656] : Fin 2 → IVec S16 32) a x).toNat < S192x8.size a)
theorem k0_idx374_inb : ∀ (i : grid0.Coords) (v4643 : IVec S16 32) (v4656 : IVec S16 32) (k0_hw374 : k0_chk374 i v4643 v4656), ∀ (k0_h1 : k0_cond1 i = 1#1), ∀ a x, ((![v4643, v4656] : Fin 2 → IVec S16 32) a x).toNat < S192x8.size a := fun i v4643 v4656 k0_hw374 k0_h1 => k0_hw374 k0_h1

def k0_chk375 (i : grid0.Coords) (v4643 : IVec S16 32) (v4660 : IVec S16 32) : Prop :=
  (∀ (k0_h1 : k0_cond1 i = 1#1), ∀ a x, ((![v4643, v4660] : Fin 2 → IVec S16 32) a x).toNat < S192x8.size a)
theorem k0_idx375_inb : ∀ (i : grid0.Coords) (v4643 : IVec S16 32) (v4660 : IVec S16 32) (k0_hw375 : k0_chk375 i v4643 v4660), ∀ (k0_h1 : k0_cond1 i = 1#1), ∀ a x, ((![v4643, v4660] : Fin 2 → IVec S16 32) a x).toNat < S192x8.size a := fun i v4643 v4660 k0_hw375 k0_h1 => k0_hw375 k0_h1

def k0_chk376 (i : grid0.Coords) (v4643 : IVec S16 32) (v4664 : IVec S16 32) : Prop :=
  (∀ (k0_h1 : k0_cond1 i = 1#1), ∀ a x, ((![v4643, v4664] : Fin 2 → IVec S16 32) a x).toNat < S192x8.size a)
theorem k0_idx376_inb : ∀ (i : grid0.Coords) (v4643 : IVec S16 32) (v4664 : IVec S16 32) (k0_hw376 : k0_chk376 i v4643 v4664), ∀ (k0_h1 : k0_cond1 i = 1#1), ∀ a x, ((![v4643, v4664] : Fin 2 → IVec S16 32) a x).toNat < S192x8.size a := fun i v4643 v4664 k0_hw376 k0_h1 => k0_hw376 k0_h1

def k0_chk377 (i : grid0.Coords) (v4643 : IVec S16 32) (v4668 : IVec S16 32) : Prop :=
  (∀ (k0_h1 : k0_cond1 i = 1#1), ∀ a x, ((![v4643, v4668] : Fin 2 → IVec S16 32) a x).toNat < S192x8.size a)
theorem k0_idx377_inb : ∀ (i : grid0.Coords) (v4643 : IVec S16 32) (v4668 : IVec S16 32) (k0_hw377 : k0_chk377 i v4643 v4668), ∀ (k0_h1 : k0_cond1 i = 1#1), ∀ a x, ((![v4643, v4668] : Fin 2 → IVec S16 32) a x).toNat < S192x8.size a := fun i v4643 v4668 k0_hw377 k0_h1 => k0_hw377 k0_h1

def k0_chk378 (i : grid0.Coords) (v4643 : IVec S16 32) (v4672 : IVec S16 32) : Prop :=
  (∀ (k0_h1 : k0_cond1 i = 1#1), ∀ a x, ((![v4643, v4672] : Fin 2 → IVec S16 32) a x).toNat < S192x8.size a)
theorem k0_idx378_inb : ∀ (i : grid0.Coords) (v4643 : IVec S16 32) (v4672 : IVec S16 32) (k0_hw378 : k0_chk378 i v4643 v4672), ∀ (k0_h1 : k0_cond1 i = 1#1), ∀ a x, ((![v4643, v4672] : Fin 2 → IVec S16 32) a x).toNat < S192x8.size a := fun i v4643 v4672 k0_hw378 k0_h1 => k0_hw378 k0_h1

def k0_chk379 (i : grid0.Coords) (v4643 : IVec S16 32) (v4676 : IVec S16 32) : Prop :=
  (∀ (k0_h1 : k0_cond1 i = 1#1), ∀ a x, ((![v4643, v4676] : Fin 2 → IVec S16 32) a x).toNat < S192x8.size a)
theorem k0_idx379_inb : ∀ (i : grid0.Coords) (v4643 : IVec S16 32) (v4676 : IVec S16 32) (k0_hw379 : k0_chk379 i v4643 v4676), ∀ (k0_h1 : k0_cond1 i = 1#1), ∀ a x, ((![v4643, v4676] : Fin 2 → IVec S16 32) a x).toNat < S192x8.size a := fun i v4643 v4676 k0_hw379 k0_h1 => k0_hw379 k0_h1

def k0_chk380 (i : grid0.Coords) (v4643 : IVec S16 32) (v4680 : IVec S16 32) : Prop :=
  (∀ (k0_h1 : k0_cond1 i = 1#1), ∀ a x, ((![v4643, v4680] : Fin 2 → IVec S16 32) a x).toNat < S192x8.size a)
theorem k0_idx380_inb : ∀ (i : grid0.Coords) (v4643 : IVec S16 32) (v4680 : IVec S16 32) (k0_hw380 : k0_chk380 i v4643 v4680), ∀ (k0_h1 : k0_cond1 i = 1#1), ∀ a x, ((![v4643, v4680] : Fin 2 → IVec S16 32) a x).toNat < S192x8.size a := fun i v4643 v4680 k0_hw380 k0_h1 => k0_hw380 k0_h1

def k0_chk381 (i : grid0.Coords) (v4742 : IVec S16 32) (v4751 : IVec S16 32) : Prop :=
  (∀ (k0_h1 : k0_cond1 i = 1#1), ∀ a x, ((![v4742, v4751] : Fin 2 → IVec S16 32) a x).toNat < S192x8.size a)
theorem k0_idx381_inb : ∀ (i : grid0.Coords) (v4742 : IVec S16 32) (v4751 : IVec S16 32) (k0_hw381 : k0_chk381 i v4742 v4751), ∀ (k0_h1 : k0_cond1 i = 1#1), ∀ a x, ((![v4742, v4751] : Fin 2 → IVec S16 32) a x).toNat < S192x8.size a := fun i v4742 v4751 k0_hw381 k0_h1 => k0_hw381 k0_h1

def k0_chk382 (i : grid0.Coords) (v4742 : IVec S16 32) (v4755 : IVec S16 32) : Prop :=
  (∀ (k0_h1 : k0_cond1 i = 1#1), ∀ a x, ((![v4742, v4755] : Fin 2 → IVec S16 32) a x).toNat < S192x8.size a)
theorem k0_idx382_inb : ∀ (i : grid0.Coords) (v4742 : IVec S16 32) (v4755 : IVec S16 32) (k0_hw382 : k0_chk382 i v4742 v4755), ∀ (k0_h1 : k0_cond1 i = 1#1), ∀ a x, ((![v4742, v4755] : Fin 2 → IVec S16 32) a x).toNat < S192x8.size a := fun i v4742 v4755 k0_hw382 k0_h1 => k0_hw382 k0_h1

def k0_chk383 (i : grid0.Coords) (v4742 : IVec S16 32) (v4759 : IVec S16 32) : Prop :=
  (∀ (k0_h1 : k0_cond1 i = 1#1), ∀ a x, ((![v4742, v4759] : Fin 2 → IVec S16 32) a x).toNat < S192x8.size a)
theorem k0_idx383_inb : ∀ (i : grid0.Coords) (v4742 : IVec S16 32) (v4759 : IVec S16 32) (k0_hw383 : k0_chk383 i v4742 v4759), ∀ (k0_h1 : k0_cond1 i = 1#1), ∀ a x, ((![v4742, v4759] : Fin 2 → IVec S16 32) a x).toNat < S192x8.size a := fun i v4742 v4759 k0_hw383 k0_h1 => k0_hw383 k0_h1

def k0_chk384 (i : grid0.Coords) (v4742 : IVec S16 32) (v4763 : IVec S16 32) : Prop :=
  (∀ (k0_h1 : k0_cond1 i = 1#1), ∀ a x, ((![v4742, v4763] : Fin 2 → IVec S16 32) a x).toNat < S192x8.size a)
theorem k0_idx384_inb : ∀ (i : grid0.Coords) (v4742 : IVec S16 32) (v4763 : IVec S16 32) (k0_hw384 : k0_chk384 i v4742 v4763), ∀ (k0_h1 : k0_cond1 i = 1#1), ∀ a x, ((![v4742, v4763] : Fin 2 → IVec S16 32) a x).toNat < S192x8.size a := fun i v4742 v4763 k0_hw384 k0_h1 => k0_hw384 k0_h1

def k0_chk385 (i : grid0.Coords) (v4742 : IVec S16 32) (v4767 : IVec S16 32) : Prop :=
  (∀ (k0_h1 : k0_cond1 i = 1#1), ∀ a x, ((![v4742, v4767] : Fin 2 → IVec S16 32) a x).toNat < S192x8.size a)
theorem k0_idx385_inb : ∀ (i : grid0.Coords) (v4742 : IVec S16 32) (v4767 : IVec S16 32) (k0_hw385 : k0_chk385 i v4742 v4767), ∀ (k0_h1 : k0_cond1 i = 1#1), ∀ a x, ((![v4742, v4767] : Fin 2 → IVec S16 32) a x).toNat < S192x8.size a := fun i v4742 v4767 k0_hw385 k0_h1 => k0_hw385 k0_h1

def k0_chk386 (i : grid0.Coords) (v4742 : IVec S16 32) (v4771 : IVec S16 32) : Prop :=
  (∀ (k0_h1 : k0_cond1 i = 1#1), ∀ a x, ((![v4742, v4771] : Fin 2 → IVec S16 32) a x).toNat < S192x8.size a)
theorem k0_idx386_inb : ∀ (i : grid0.Coords) (v4742 : IVec S16 32) (v4771 : IVec S16 32) (k0_hw386 : k0_chk386 i v4742 v4771), ∀ (k0_h1 : k0_cond1 i = 1#1), ∀ a x, ((![v4742, v4771] : Fin 2 → IVec S16 32) a x).toNat < S192x8.size a := fun i v4742 v4771 k0_hw386 k0_h1 => k0_hw386 k0_h1

def k0_chk387 (i : grid0.Coords) (v4742 : IVec S16 32) (v4775 : IVec S16 32) : Prop :=
  (∀ (k0_h1 : k0_cond1 i = 1#1), ∀ a x, ((![v4742, v4775] : Fin 2 → IVec S16 32) a x).toNat < S192x8.size a)
theorem k0_idx387_inb : ∀ (i : grid0.Coords) (v4742 : IVec S16 32) (v4775 : IVec S16 32) (k0_hw387 : k0_chk387 i v4742 v4775), ∀ (k0_h1 : k0_cond1 i = 1#1), ∀ a x, ((![v4742, v4775] : Fin 2 → IVec S16 32) a x).toNat < S192x8.size a := fun i v4742 v4775 k0_hw387 k0_h1 => k0_hw387 k0_h1

def k0_chk388 (i : grid0.Coords) (v4742 : IVec S16 32) (v4779 : IVec S16 32) : Prop :=
  (∀ (k0_h1 : k0_cond1 i = 1#1), ∀ a x, ((![v4742, v4779] : Fin 2 → IVec S16 32) a x).toNat < S192x8.size a)
theorem k0_idx388_inb : ∀ (i : grid0.Coords) (v4742 : IVec S16 32) (v4779 : IVec S16 32) (k0_hw388 : k0_chk388 i v4742 v4779), ∀ (k0_h1 : k0_cond1 i = 1#1), ∀ a x, ((![v4742, v4779] : Fin 2 → IVec S16 32) a x).toNat < S192x8.size a := fun i v4742 v4779 k0_hw388 k0_h1 => k0_hw388 k0_h1

def k0_chk389 (i : grid0.Coords) (v4841 : IVec S16 32) (v4850 : IVec S16 32) : Prop :=
  (∀ (k0_h1 : k0_cond1 i = 1#1), ∀ a x, ((![v4841, v4850] : Fin 2 → IVec S16 32) a x).toNat < S192x8.size a)
theorem k0_idx389_inb : ∀ (i : grid0.Coords) (v4841 : IVec S16 32) (v4850 : IVec S16 32) (k0_hw389 : k0_chk389 i v4841 v4850), ∀ (k0_h1 : k0_cond1 i = 1#1), ∀ a x, ((![v4841, v4850] : Fin 2 → IVec S16 32) a x).toNat < S192x8.size a := fun i v4841 v4850 k0_hw389 k0_h1 => k0_hw389 k0_h1

def k0_chk390 (i : grid0.Coords) (v4841 : IVec S16 32) (v4854 : IVec S16 32) : Prop :=
  (∀ (k0_h1 : k0_cond1 i = 1#1), ∀ a x, ((![v4841, v4854] : Fin 2 → IVec S16 32) a x).toNat < S192x8.size a)
theorem k0_idx390_inb : ∀ (i : grid0.Coords) (v4841 : IVec S16 32) (v4854 : IVec S16 32) (k0_hw390 : k0_chk390 i v4841 v4854), ∀ (k0_h1 : k0_cond1 i = 1#1), ∀ a x, ((![v4841, v4854] : Fin 2 → IVec S16 32) a x).toNat < S192x8.size a := fun i v4841 v4854 k0_hw390 k0_h1 => k0_hw390 k0_h1

def k0_chk391 (i : grid0.Coords) (v4841 : IVec S16 32) (v4858 : IVec S16 32) : Prop :=
  (∀ (k0_h1 : k0_cond1 i = 1#1), ∀ a x, ((![v4841, v4858] : Fin 2 → IVec S16 32) a x).toNat < S192x8.size a)
theorem k0_idx391_inb : ∀ (i : grid0.Coords) (v4841 : IVec S16 32) (v4858 : IVec S16 32) (k0_hw391 : k0_chk391 i v4841 v4858), ∀ (k0_h1 : k0_cond1 i = 1#1), ∀ a x, ((![v4841, v4858] : Fin 2 → IVec S16 32) a x).toNat < S192x8.size a := fun i v4841 v4858 k0_hw391 k0_h1 => k0_hw391 k0_h1

def k0_chk392 (i : grid0.Coords) (v4841 : IVec S16 32) (v4862 : IVec S16 32) : Prop :=
  (∀ (k0_h1 : k0_cond1 i = 1#1), ∀ a x, ((![v4841, v4862] : Fin 2 → IVec S16 32) a x).toNat < S192x8.size a)
theorem k0_idx392_inb : ∀ (i : grid0.Coords) (v4841 : IVec S16 32) (v4862 : IVec S16 32) (k0_hw392 : k0_chk392 i v4841 v4862), ∀ (k0_h1 : k0_cond1 i = 1#1), ∀ a x, ((![v4841, v4862] : Fin 2 → IVec S16 32) a x).toNat < S192x8.size a := fun i v4841 v4862 k0_hw392 k0_h1 => k0_hw392 k0_h1

def k0_chk393 (i : grid0.Coords) (v4841 : IVec S16 32) (v4866 : IVec S16 32) : Prop :=
  (∀ (k0_h1 : k0_cond1 i = 1#1), ∀ a x, ((![v4841, v4866] : Fin 2 → IVec S16 32) a x).toNat < S192x8.size a)
theorem k0_idx393_inb : ∀ (i : grid0.Coords) (v4841 : IVec S16 32) (v4866 : IVec S16 32) (k0_hw393 : k0_chk393 i v4841 v4866), ∀ (k0_h1 : k0_cond1 i = 1#1), ∀ a x, ((![v4841, v4866] : Fin 2 → IVec S16 32) a x).toNat < S192x8.size a := fun i v4841 v4866 k0_hw393 k0_h1 => k0_hw393 k0_h1

def k0_chk394 (i : grid0.Coords) (v4841 : IVec S16 32) (v4870 : IVec S16 32) : Prop :=
  (∀ (k0_h1 : k0_cond1 i = 1#1), ∀ a x, ((![v4841, v4870] : Fin 2 → IVec S16 32) a x).toNat < S192x8.size a)
theorem k0_idx394_inb : ∀ (i : grid0.Coords) (v4841 : IVec S16 32) (v4870 : IVec S16 32) (k0_hw394 : k0_chk394 i v4841 v4870), ∀ (k0_h1 : k0_cond1 i = 1#1), ∀ a x, ((![v4841, v4870] : Fin 2 → IVec S16 32) a x).toNat < S192x8.size a := fun i v4841 v4870 k0_hw394 k0_h1 => k0_hw394 k0_h1

def k0_chk395 (i : grid0.Coords) (v4841 : IVec S16 32) (v4874 : IVec S16 32) : Prop :=
  (∀ (k0_h1 : k0_cond1 i = 1#1), ∀ a x, ((![v4841, v4874] : Fin 2 → IVec S16 32) a x).toNat < S192x8.size a)
theorem k0_idx395_inb : ∀ (i : grid0.Coords) (v4841 : IVec S16 32) (v4874 : IVec S16 32) (k0_hw395 : k0_chk395 i v4841 v4874), ∀ (k0_h1 : k0_cond1 i = 1#1), ∀ a x, ((![v4841, v4874] : Fin 2 → IVec S16 32) a x).toNat < S192x8.size a := fun i v4841 v4874 k0_hw395 k0_h1 => k0_hw395 k0_h1

def k0_chk396 (i : grid0.Coords) (v4841 : IVec S16 32) (v4878 : IVec S16 32) : Prop :=
  (∀ (k0_h1 : k0_cond1 i = 1#1), ∀ a x, ((![v4841, v4878] : Fin 2 → IVec S16 32) a x).toNat < S192x8.size a)
theorem k0_idx396_inb : ∀ (i : grid0.Coords) (v4841 : IVec S16 32) (v4878 : IVec S16 32) (k0_hw396 : k0_chk396 i v4841 v4878), ∀ (k0_h1 : k0_cond1 i = 1#1), ∀ a x, ((![v4841, v4878] : Fin 2 → IVec S16 32) a x).toNat < S192x8.size a := fun i v4841 v4878 k0_hw396 k0_h1 => k0_hw396 k0_h1
def k0_off8 (i : grid0.Coords) (c15_i32_3213 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c48_i32_3212 : BitVec 32 := 48#32
  let v4882 : BitVec 32 := Scalar.muli v21 c48_i32_3212
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v4883 : BitVec 32 := Scalar.addi v4882 v32
  let v4884 : BitVec 32 := Scalar.addi v4883 c15_i32_3213
  let c3_i32_3214 : BitVec 32 := 3#32
  let v4885 : BitVec 32 := Scalar.subi v4884 c3_i32_3214
  let c48_i32_3215 : BitVec 32 := 48#32
  let v4886 : BitVec 32 := Scalar.muli v4885 c48_i32_3215
  let c0_i32_3218 : BitVec 32 := 0#32
  ![v4886.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_src" => some ((1 / 600 : ℝ) : EReal)
  | "logit" => some ((Real.log (7 * 3⁻¹) : ℝ) : EReal)
  | _ => none
-- ==== ReferenceIdeal.lean ====
abbrev S1x18x48x48 : Shape := ⟨4, ![1, 18, 48, 48]⟩
abbrev S1x36x48x48 : Shape := ⟨4, ![1, 36, 48, 48]⟩
abbrev S20736x6 : Shape := ⟨2, ![20736, 6]⟩
abbrev S1x9x2x48x48 : Shape := ⟨5, ![1, 9, 2, 48, 48]⟩
abbrev S_ : Shape := ⟨0, ![]⟩
abbrev S1x9x48x48 : Shape := ⟨4, ![1, 9, 48, 48]⟩
abbrev S1x9x1x48x48 : Shape := ⟨5, ![1, 9, 1, 48, 48]⟩
abbrev S1x9x4x48x48 : Shape := ⟨5, ![1, 9, 4, 48, 48]⟩
abbrev S48 : Shape := ⟨1, ![48]⟩
abbrev S9 : Shape := ⟨1, ![9]⟩
abbrev S1x48 : Shape := ⟨2, ![1, 48]⟩
abbrev S9x1 : Shape := ⟨2, ![9, 1]⟩
abbrev S9x48 : Shape := ⟨2, ![9, 48]⟩
abbrev S9x1x48 : Shape := ⟨3, ![9, 1, 48]⟩
abbrev S9x48x48 : Shape := ⟨3, ![9, 48, 48]⟩
abbrev S20736 : Shape := ⟨1, ![20736]⟩
abbrev S20736x1 : Shape := ⟨2, ![20736, 1]⟩
abbrev S1 : Shape := ⟨1, ![1]⟩
abbrev S1x1 : Shape := ⟨2, ![1, 1]⟩
abbrev S9x48x48x6 : Shape := ⟨4, ![9, 48, 48, 6]⟩
abbrev S9x48x48x1 : Shape := ⟨4, ![9, 48, 48, 1]⟩
abbrev S1x9x48x48x1 : Shape := ⟨5, ![1, 9, 48, 48, 1]⟩
abbrev S1x9x48x48x4 : Shape := ⟨5, ![1, 9, 48, 48, 4]⟩
abbrev S1x9x48x48x8 : Shape := ⟨5, ![1, 9, 48, 48, 8]⟩
abbrev S20736x8 : Shape := ⟨2, ![20736, 8]⟩

abbrev nBuf : Space → Nat
  | .hbm => 158
  | .vmem => 0
  | .smem => 0
  | _ => 0

abbrev hbmTy0_0 (i : Nat) : BufTy := match i % 128 with
  | 0 => ⟨S1x18x48x48, .f32⟩
  | 1 => ⟨S1x36x48x48, .f32⟩
  | 2 => ⟨S20736x6, .f32⟩
  | 3 => ⟨S1x9x2x48x48, .f32⟩
  | 4 => ⟨S_, .f32⟩
  | 5 => ⟨S1x9x48x48, .f32⟩
  | 6 => ⟨S_, .f32⟩
  | 7 => ⟨S1x9x48x48, .f32⟩
  | 8 => ⟨S1x9x48x48, .f32⟩
  | 9 => ⟨S1x9x1x48x48, .f32⟩
  | 10 => ⟨S1x9x2x48x48, .f32⟩
  | 11 => ⟨S1x9x2x48x48, .f32⟩
  | 12 => ⟨S1x9x2x48x48, .f32⟩
  | 13 => ⟨S_, .f32⟩
  | 14 => ⟨S1x9x48x48, .f32⟩
  | 15 => ⟨S1x9x1x48x48, .f32⟩
  | 16 => ⟨S1x9x2x48x48, .f32⟩
  | 17 => ⟨S1x9x2x48x48, .f32⟩
  | 18 => ⟨S1x9x1x48x48, .f32⟩
  | 19 => ⟨S1x9x48x48, .f32⟩
  | 20 => ⟨S1x9x4x48x48, .f32⟩
  | 21 => ⟨S48, .i32⟩
  | 22 => ⟨S9, .i32⟩
  | 23 => ⟨S1x48, .i32⟩
  | 24 => ⟨S_, .i32⟩
  | 25 => ⟨S1x48, .i32⟩
  | 26 => ⟨S1x48, .i32⟩
  | 27 => ⟨S1x48, .i32⟩
  | 28 => ⟨S1x48, .i32⟩
  | 29 => ⟨S9x1, .i32⟩
  | 30 => ⟨S9x48, .i32⟩
  | 31 => ⟨S9x48, .i32⟩
  | 32 => ⟨S9x48, .i32⟩
  | 33 => ⟨S9x1x48, .i32⟩
  | 34 => ⟨S9x48x48, .i32⟩
  | 35 => ⟨S20736, .i32⟩
  | 36 => ⟨S_, .i32⟩
  | 37 => ⟨S20736, .i32⟩
  | 38 => ⟨S20736, .i1⟩
  | 39 => ⟨S_, .i32⟩
  | 40 => ⟨S20736, .i32⟩
  | 41 => ⟨S20736, .i32⟩
  | 42 => ⟨S20736, .i32⟩
  | 43 => ⟨S20736x1, .i32⟩
  | 44 => ⟨S1, .i32⟩
  | 45 => ⟨S_, .i32⟩
  | 46 => ⟨S20736x1, .i32⟩
  | 47 => ⟨S20736x1, .i1⟩
  | 48 => ⟨S1x1, .i32⟩
  | 49 => ⟨S20736x1, .i32⟩
  | 50 => ⟨S20736x1, .i1⟩
  | 51 => ⟨S20736x1, .i1⟩
  | 52 => ⟨S_, .i1⟩
  | 53 => ⟨S20736, .i1⟩
  | 54 => ⟨S20736x6, .f32⟩
  | 55 => ⟨S20736x6, .i1⟩
  | 56 => ⟨S_, .f32⟩
  | 57 => ⟨S20736x6, .f32⟩
  | 58 => ⟨S20736x6, .f32⟩
  | 59 => ⟨S9x48x48x6, .f32⟩
  | 60 => ⟨S9x48x48x1, .f32⟩
  | 61 => ⟨S9x48x48, .f32⟩
  | 62 => ⟨S1x9x48x48, .f32⟩
  | 63 => ⟨S9x48x48x1, .f32⟩
  | 64 => ⟨S9x48x48, .f32⟩
  | 65 => ⟨S1x9x48x48, .f32⟩
  | 66 => ⟨S9x48x48x1, .f32⟩
  | 67 => ⟨S9x48x48, .f32⟩
  | 68 => ⟨S1x9x48x48, .f32⟩
  | 69 => ⟨S9x48x48x1, .f32⟩
  | 70 => ⟨S9x48x48, .f32⟩
  | 71 => ⟨S1x9x48x48, .f32⟩
  | 72 => ⟨S1x9x1x48x48, .f32⟩
  | 73 => ⟨S1x9x48x48, .f32⟩
  | 74 => ⟨S1x9x48x48, .f32⟩
  | 75 => ⟨S1x9x48x48, .f32⟩
  | 76 => ⟨S_, .f32⟩
  | 77 => ⟨S1x9x48x48, .f32⟩
  | 78 => ⟨S1x9x48x48, .f32⟩
  | 79 => ⟨S1x9x1x48x48, .f32⟩
  | 80 => ⟨S1x9x48x48, .f32⟩
  | 81 => ⟨S1x9x48x48, .f32⟩
  | 82 => ⟨S1x9x48x48, .f32⟩
  | 83 => ⟨S_, .f32⟩
  | 84 => ⟨S1x9x48x48, .f32⟩
  | 85 => ⟨S1x9x48x48, .f32⟩
  | 86 => ⟨S1x9x1x48x48, .f32⟩
  | 87 => ⟨S1x9x48x48, .f32⟩
  | 88 => ⟨S1x9x48x48, .f32⟩
  | 89 => ⟨S1x9x48x48, .f32⟩
  | 90 => ⟨S_, .f32⟩
  | 91 => ⟨S1x9x48x48, .f32⟩
  | 92 => ⟨S1x9x48x48, .f32⟩
  | 93 => ⟨S1x9x1x48x48, .f32⟩
  | 94 => ⟨S1x9x48x48, .f32⟩
  | 95 => ⟨S1x9x48x48, .f32⟩
  | 96 => ⟨S1x9x48x48, .f32⟩
  | 97 => ⟨S_, .f32⟩
  | 98 => ⟨S1x9x48x48, .f32⟩
  | 99 => ⟨S1x9x48x48, .f32⟩
  | 100 => ⟨S_, .f32⟩
  | 101 => ⟨S1x9x48x48, .f32⟩
  | 102 => ⟨S1x9x48x48, .f32⟩
  | 103 => ⟨S1x9x48x48, .f32⟩
  | 104 => ⟨S_, .f32⟩
  | 105 => ⟨S1x9x48x48, .f32⟩
  | 106 => ⟨S1x9x48x48, .f32⟩
  | 107 => ⟨S1x9x48x48, .f32⟩
  | 108 => ⟨S_, .f32⟩
  | 109 => ⟨S1x9x48x48, .f32⟩
  | 110 => ⟨S1x9x48x48, .f32⟩
  | 111 => ⟨S1x9x48x48, .f32⟩
  | 112 => ⟨S_, .f32⟩
  | 113 => ⟨S1x9x48x48, .f32⟩
  | 114 => ⟨S1x9x48x48, .f32⟩
  | 115 => ⟨S1x9x48x48, .f32⟩
  | 116 => ⟨S_, .f32⟩
  | 117 => ⟨S_, .f32⟩
  | 118 => ⟨S_, .f32⟩
  | 119 => ⟨S1x9x48x48, .f32⟩
  | 120 => ⟨S1x9x48x48, .i1⟩
  | 121 => ⟨S_, .f32⟩
  | 122 => ⟨S1x9x48x48, .f32⟩
  | 123 => ⟨S1x9x48x48, .i1⟩
  | 124 => ⟨S_, .f32⟩
  | 125 => ⟨S1x9x48x48, .f32⟩
  | 126 => ⟨S1x9x48x48, .i1⟩
  | 127 => ⟨S1x9x48x48, .i1⟩
  | _ => ⟨S1x18x48x48, .f32⟩

abbrev hbmTy0_1 (i : Nat) : BufTy := match i % 128 with
  | 0 => ⟨S_, .f32⟩
  | 1 => ⟨S1x9x48x48, .f32⟩
  | 2 => ⟨S1x9x48x48, .i1⟩
  | 3 => ⟨S1x9x48x48, .i1⟩
  | 4 => ⟨S_, .f32⟩
  | 5 => ⟨S1x9x48x48, .f32⟩
  | 6 => ⟨S1x9x48x48, .i1⟩
  | 7 => ⟨S1x9x48x48, .i1⟩
  | 8 => ⟨S1x9x48x48, .i1⟩
  | 9 => ⟨S1x9x48x48, .f32⟩
  | 10 => ⟨S1x9x48x48x1, .f32⟩
  | 11 => ⟨S1x9x48x48x1, .f32⟩
  | 12 => ⟨S1x9x48x48x1, .f32⟩
  | 13 => ⟨S1x9x48x48x1, .f32⟩
  | 14 => ⟨S1x9x48x48x1, .f32⟩
  | 15 => ⟨S1x9x48x48x4, .f32⟩
  | 16 => ⟨S1x9x48x48x4, .f32⟩
  | 17 => ⟨S1x9x48x48x4, .f32⟩
  | 18 => ⟨S1x9x48x48x1, .f32⟩
  | 19 => ⟨S1x9x48x48x1, .f32⟩
  | 20 => ⟨S1x9x48x48x1, .f32⟩
  | 21 => ⟨S1x9x48x48x1, .f32⟩
  | 22 => ⟨S1x9x48x48x4, .f32⟩
  | 23 => ⟨S_, .f32⟩
  | 24 => ⟨S1x9x48x48x4, .f32⟩
  | 25 => ⟨S1x9x48x48x4, .f32⟩
  | 26 => ⟨S1x9x48x48x4, .f32⟩
  | 27 => ⟨S1x9x48x48x4, .f32⟩
  | 28 => ⟨S1x9x48x48x8, .f32⟩
  | 29 => ⟨S20736x8, .f32⟩
  | _ => ⟨S1x18x48x48, .f32⟩

abbrev hbmTy (i : Nat) : BufTy := match i / 128 with
  | 0 => hbmTy0_0 i
  | 1 => hbmTy0_1 i
  | _ => ⟨S1x18x48x48, .f32⟩

abbrev bufTy : (tb : Table) → Fin (tcTables nBuf tb) → BufTy
  | .hbm, ⟨i, _⟩ => hbmTy i
  | _, _ => ⟨S1x18x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_3 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_9 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_10 : Ref sig .tc := ⟨.hbm, 116, rfl⟩
abbrev main_cst_11 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_12 : Ref sig .tc := ⟨.hbm, 121, rfl⟩
abbrev main_v82 : Ref sig .tc := ⟨.hbm, 122, rfl⟩
abbrev main_v83 : Ref sig .tc := ⟨.hbm, 123, rfl⟩
abbrev main_cst_13 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_14 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_15 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩

abbrev nD : Nat := 1
abbrev τ : Topo := Topo.v7x

variable {F : FTy → Type} [FloatOps F]
-- ==== Proof.Same.lean ====
/- The kernel and its idealized program are one program, but for the two named constants. -/
module

public import proofs.«01_k».proof.Defs
public import proofs.«01_k».proof.Proof.Gen.Kernel
public import proofs.«01_k».proof.Proof.Gen.KernelIdeal

@[expose] public section

noncomputable section

namespace Cert.KernelIdeal.Tile

open Idealize.ShloMosaic Idealize.SL.Sem Cert.KernelIdeal Cert.KernelIdeal.Gen

/-- Each named constant, read as its own bits. -/
local instance namedBits : Named Bits := ⟨fun _ _ {φ} bits => Scalar.ofBits φ bits⟩

set_option maxHeartbeats 0 in
set_option maxRecDepth 1000000 in
/-- With each named constant at its own bits the idealized program's definitions are the kernel's. -/
theorem defs_eq : Cert.Kernel.defs (F := Bits) = Cert.KernelIdeal.defs (F := Bits) := rfl

end Cert.KernelIdeal.Tile
-- ==== Proof.Body.lean ====
/- One tile's program of the region-proposal kernel, laid out as a recursion.

   The printed body of the kernel writes its 48 blocks (16 rows of the map, three groups of 16 columns) out one after
   another. Here the same program is a recursion over blocks, each block the same six loads, the same arithmetic and
   the same eight indexed stores; `body_eq` says that the printed text IS this recursion. -/
module

public import proofs.«01_k».proof.Proof.Gen.KernelIdeal
public import proofs.«01_k».proof.Proof.Gen.KernelIdeal.Skeleton

@[expose] public section

noncomputable section

namespace Cert.KernelIdeal.Tile

open Idealize.ShloMosaic Idealize.SL.Sem Cert.KernelIdeal Cert.KernelIdeal.Gen

variable {F : FTy → Type} [FloatOps F] [Named F]

/-- The tile's programs: those of the vector subcore at grid point `i`. -/
abbrev TProg (F : FTy → Type) (i : grid0.Coords) (α : Type) : Type 1 :=
  Prog (TpuEff nD τ sig (Elt F) Λ₀ (.scVector ((i 0).castLE hcore0) ((i 1).castLE hsub0))) α

/-! ## The words and rectangles a tile computes -/

/-- The tile's number, `2 * subcore + core`, as the program computes it. -/
def wid (i : grid0.Coords) : BitVec 32 := Scalar.addi (Scalar.muli (BitVec.ofNat 32 (i 1).val) 2#32) (BitVec.ofNat 32 (i 0).val)

/-- The anchor the tile decodes: a third of the tile's number, rounded down as the program rounds. -/
def anchorOf (v1 : BitVec 32) : BitVec 32 :=
  Scalar.select
    (Scalar.andi
      (Scalar.cmpi .ne (Scalar.subi (Scalar.extui (Scalar.cmpi .sgt v1 0#32)) (Scalar.extui (Scalar.cmpi .slt v1 0#32)))
        (Scalar.subi (Scalar.extui (Scalar.cmpi .sgt 3#32 0#32)) (Scalar.extui (Scalar.cmpi .slt 3#32 0#32))))
      (Scalar.cmpi .ne (Scalar.remsi v1 3#32) 0#32))
    (Scalar.subi (Scalar.divsi v1 3#32) 1#32) (Scalar.divsi v1 3#32)

/-- The lane numbers `0 … 15`. -/
def lanes : IVec S16 32 := iota .scVector S16 32 [0] iota_S16_d0_w32_scVector

/-- Where group `g`'s lanes find field `c` of their anchors in the packed table. -/
def tabIdx (p : BitVec 32) (g c : ℕ) : IVec S16 32 :=
  addi (muli (addi lanes (broadcast S16 (BitVec.ofNat 32 (16 * g)))) (broadcast S16 (Scalar.muli 4#32 p)))
    (broadcast S16 (BitVec.ofNat 32 c))

/-- The rows of a four-row window block `(j, g)` fills. -/
def rowsOf (j g : ℕ) : IVec S16 32 := addi lanes (broadcast S16 (BitVec.ofNat 32 (48 * (j % 4) + 16 * g)))

/-- Sixteen neighbouring scores are inside the score block. -/
theorem inbC (a j g : ℕ) (ha : a < 2) (hj : j < 16) (hg : g < 3) :
    ∀ x, (![a, j, 16 * g] : Fin 3 → ℕ) x + S1x1x16.size x ≤ S2x16x48.size x := by
  intro x; fin_cases x <;> simp [Shape.size] <;> omega

/-- Sixteen neighbouring deltas are inside the delta block. -/
theorem inbR (a j g : ℕ) (ha : a < 4) (hj : j < 16) (hg : g < 3) :
    ∀ x, (![a, j, 16 * g] : Fin 3 → ℕ) x + S1x1x16.size x ≤ S4x16x48.size x := by
  intro x; fin_cases x <;> simp [Shape.size] <;> omega

/-- The four windows tile the row buffer. -/
theorem inbW (q : Fin 4) : ∀ x, (![192 * q.val, 0] : Fin 2 → ℕ) x + S192x8.size x ≤ S768x8.size x := by
  intro x; fin_cases x <;> simp [Shape.size] <;> omega

/-! ## One lane vector's arithmetic -/

/-- A box centre: `(t * size + centre) * 600`. -/
def centre (t sz ctr : FVec F S16 .f32) : FVec F S16 .f32 :=
  mulf (addf (mulf t sz) ctr) (broadcast S16 (Scalar.ofBits .f32 0x44160000#32))

/-- A box side: `exp t * size * 600`. -/
def side (t sz : FVec F S16 .f32) : FVec F S16 .f32 :=
  mulf (mulf (exp t) sz) (broadcast S16 (Scalar.ofBits .f32 0x44160000#32))

/-- Half a side. -/
def half (w : FVec F S16 .f32) : FVec F S16 .f32 := mulf w (broadcast S16 (Scalar.ofBits .f32 0x3F000000#32))

/-- The lower corner. -/
def lower (x w : FVec F S16 .f32) : FVec F S16 .f32 := subf x (half w)

/-- The upper corner. -/
def upper (x w : FVec F S16 .f32) : FVec F S16 .f32 := addf x (half w)

/-- A coordinate back in units of the image. -/
def unitOf (x : FVec F S16 .f32) : FVec F S16 .f32 := mulf x (broadcast S16 (Named.named κ "inv_src" 0x3ADA740E#32))

/-- Which lanes keep their box: the score is above the threshold and the box is inside the image. -/
def keep (c0 c1 lx ly rx ry : FVec F S16 .f32) : IVec S16 1 :=
  andi (andi (andi (andi (cmpf .ogt (subf c1 c0) (broadcast S16 (Named.named κ "logit" 0x3F58E883#32)))
    (cmpf .oge lx (broadcast S16 (Scalar.ofBits .f32 0x00000000#32))))
    (cmpf .oge ly (broadcast S16 (Scalar.ofBits .f32 0x00000000#32))))
    (cmpf .ole rx (broadcast S16 (Scalar.ofBits .f32 0x44160000#32))))
    (cmpf .ole ry (broadcast S16 (Scalar.ofBits .f32 0x44160000#32)))

/-- The four anchor fields of a group of lanes. -/
structure Anc (F : FTy → Type) where
  /-- centre, first coordinate -/
  cx : Vec F S16 .f32
  /-- centre, second coordinate -/
  cy : Vec F S16 .f32
  /-- width -/
  w : Vec F S16 .f32
  /-- height -/
  h : Vec F S16 .f32

/-- Column `c` of the eight a block writes, before the mask. -/
def rawVal (A : Anc F) (t0 t1 t2 t3 : FVec F S16 .f32) : ℕ → FVec F S16 .f32
  | 0 => lower (centre t0 A.w A.cx) (side t2 A.w)
  | 1 => lower (centre t1 A.h A.cy) (side t3 A.h)
  | 2 => upper (centre t0 A.w A.cx) (side t2 A.w)
  | 3 => upper (centre t1 A.h A.cy) (side t3 A.h)
  | 4 => unitOf (centre t0 A.w A.cx)
  | 5 => unitOf (centre t1 A.h A.cy)
  | 6 => unitOf (side t2 A.w)
  | _ => unitOf (side t3 A.h)

/-- The lanes kept, from what a block loads. -/
def keepOf (A : Anc F) (c0 c1 t0 t1 t2 t3 : FVec F S16 .f32) : IVec S16 1 :=
  keep c0 c1 (rawVal A t0 t1 t2 t3 0) (rawVal A t0 t1 t2 t3 1) (rawVal A t0 t1 t2 t3 2) (rawVal A t0 t1 t2 t3 3)

/-- Column `c` of the eight a block writes. -/
def blkVal (A : Anc F) (c0 c1 t0 t1 t2 t3 : FVec F S16 .f32) (c : ℕ) : Vec F S16 .f32 :=
  select (keepOf A c0 c1 t0 t1 t2 t3) (rawVal A t0 t1 t2 t3 c) (broadcast S16 (Scalar.ofBits .f32 0x00000000#32))

/-! ## The program -/

section prog

variable (i : grid0.Coords)
  (arg2 : Memref sig .scVector .hbm S1x18x48x48 .f32) (harg2 : arg2.IsWhole)
  (arg3 : Memref sig .scVector .hbm S1x36x48x48 .f32) (harg3 : arg3.IsWhole)
  (arg4 : Memref sig .scVector .hbm S1508 .f32) (harg4 : arg4.IsWhole)
  (arg5 : Memref sig .scVector .hbm S20736x8 .f32) (harg5 : arg5.IsWhole)
  (arg6 : Memref sig .scVector .vmem S2x16x48 .f32) (harg6 : arg6.IsWhole)
  (arg7 : Memref sig .scVector .vmem S4x16x48 .f32) (harg7 : arg7.IsWhole)
  (arg8 : Memref sig .scVector .vmem S1508 .f32) (harg8 : arg8.IsWhole)
  (arg9 : Memref sig .scVector .vmem S768x8 .f32) (harg9 : arg9.IsWhole)
  (arg10 arg11 arg12 : DmaSems sig S_)

/-- Load sixteen neighbouring scores of plane `a`. -/
def loadC (a j g : ℕ) (ha : a < 2) (hj : j < 16) (hg : g < 3) (K : Vec F S16 .f32 → TProg F i PUnit) : TProg F i PUnit :=
  .op (.load arg6 (Rect.unit (s := S2x16x48) ![a, j, 16 * g] S1x1x16.size (inbC a j g ha hj hg)).toLoadRect (View.loadsAt_vmem h_S1x1x16))
    fun x => K (shapeCast S16 x shapeCasts_S1x1x16_S16)

/-- Load sixteen neighbouring deltas of plane `a`. -/
def loadR (a j g : ℕ) (ha : a < 4) (hj : j < 16) (hg : g < 3) (K : Vec F S16 .f32 → TProg F i PUnit) : TProg F i PUnit :=
  .op (.load arg7 (Rect.unit (s := S4x16x48) ![a, j, 16 * g] S1x1x16.size (inbR a j g ha hj hg)).toLoadRect (View.loadsAt_vmem h_S1x1x16))
    fun x => K (shapeCast S16 x shapeCasts_S1x1x16_S16)

/-- The window of the row buffer that band `q` fills. -/
def win (q : Fin 4) : Memref sig .scVector .vmem S192x8 .f32 :=
  arg9.slice (Rect.unit (s := S768x8) ![192 * q.val, 0] S192x8.size (inbW q)) (fun _ => rfl)

/-- The rows of the result that band `q` is copied to. -/
def outWin (q : Fin 4) (h : k0_cond1 i = 1#1) : Memref sig .scVector .hbm S192x8 .f32 :=
  arg5.slice (Rect.unit (s := S20736x8) (k0_off8 i (BitVec.ofNat 32 (3 + 4 * q.val))) S192x8.size (k0_off8_inb i h q)) (fun _ => rfl)

/-- Store a lane vector into column `c` of the window, one row a lane. -/
def scat (q : Fin 4) (h : k0_cond1 i = 1#1) (rows : IVec S16 32) (v : ℕ → Vec F S16 .f32) (c : ℕ) (K : TProg F i PUnit) : TProg F i PUnit :=
  .op (.assume (k0_chk13 i rows (broadcast S16 (BitVec.ofNat 32 c))) (k0_chk13.dec i rows (broadcast S16 (BitVec.ofNat 32 c)))) fun hw =>
    SparseCore.vectorStoreIdx (win arg9 q) ![rows, broadcast S16 (BitVec.ofNat 32 c)] (v c) (fun _ => 1#1) false
      (k0_idx13_inb i rows _ hw.down h) (View.stores_vmem_bits_univ h_S192x8 rfl) >>= fun _ => K

/-- Store the columns below `n`, in order. -/
def scats (q : Fin 4) (h : k0_cond1 i = 1#1) (rows : IVec S16 32) (v : ℕ → Vec F S16 .f32) : ℕ → TProg F i PUnit → TProg F i PUnit
  | 0, K => K
  | n + 1, K => scats q h rows v n (scat i arg9 q h rows v n K)

/-- Block `(j, g)`: its loads, then its eight stores. -/
def blk (q : Fin 4) (h : k0_cond1 i = 1#1) (A : Anc F) (j g : ℕ) (hj : j < 16) (hg : g < 3) (K : TProg F i PUnit) : TProg F i PUnit :=
  loadC i arg6 0 j g (by omega) hj hg fun c0 => loadC i arg6 1 j g (by omega) hj hg fun c1 =>
  loadR i arg7 0 j g (by omega) hj hg fun t0 => loadR i arg7 1 j g (by omega) hj hg fun t1 =>
  loadR i arg7 2 j g (by omega) hj hg fun t2 => loadR i arg7 3 j g (by omega) hj hg fun t3 =>
  scats i arg9 q h (rowsOf j g) (blkVal A c0 c1 t0 t1 t2 t3) 8 K

/-- The first `n` blocks of band `q`, in order. -/
def blks (q : Fin 4) (h : k0_cond1 i = 1#1) (A : ℕ → Anc F) : (n : ℕ) → n ≤ 12 → TProg F i PUnit → TProg F i PUnit
  | 0, _, K => K
  | n + 1, hn, K => blks q h A n (by omega)
      (blk i arg6 arg7 arg9 q h (A (n % 3)) (4 * q.val + n / 3) (n % 3) (by omega) (Nat.mod_lt _ (by omega)) K)

/-- Band `q`: its twelve blocks, then the copy of its rows out. -/
def band (q : Fin 4) (h : k0_cond1 i = 1#1) (A : ℕ → Anc F) (K : TProg F i PUnit) : TProg F i PUnit :=
  blks i arg6 arg7 arg9 q h A 12 le_rfl <|
    .op (.enqueueDma (win arg9 q) (.here (outWin i arg5 q h)) (.dma arg12.sem) (View.wordExact_bits rfl) (View.wordExact_bits rfl) ⟨Or.inl rfl, trivial⟩)
      fun _ => K

/-- The wait for band `q`'s copy. -/
def waitOut (q : Fin 4) (h : k0_cond1 i = 1#1) (K : TProg F i PUnit) : TProg F i PUnit :=
  .op (.waitDma2 arg12.sem (win arg9 q) (outWin i arg5 q h) (View.wordExact_bits rfl) (View.wordExact_bits rfl)) fun _ => K

/-- An indexed load of one anchor field for group `g`. -/
def gath (h : k0_cond1 i = 1#1) (g c : ℕ) (K : Vec F S16 .f32 → TProg F i PUnit) : TProg F i PUnit :=
  .op (.assume (k0_chk1 i (tabIdx (anchorOf (wid i)) g c)) (k0_chk1.dec i (tabIdx (anchorOf (wid i)) g c))) fun hw =>
    SparseCore.vectorLoadIdx arg8 ![tabIdx (anchorOf (wid i)) g c] (k0_idx1_inb i _ hw.down h) (View.loads_vmem h_S1508) >>= K

/-- The four anchor fields of group `g`. -/
def gaths (h : k0_cond1 i = 1#1) (g : ℕ) (K : Anc F → TProg F i PUnit) : TProg F i PUnit :=
  gath i arg8 h g 0 fun a => gath i arg8 h g 1 fun b => gath i arg8 h g 2 fun c => gath i arg8 h g 3 fun d => K ⟨a, b, c, d⟩

/-- The tile's two score planes' rows. -/
def srcC (h : k0_cond1 i = 1#1) : Memref sig .scVector .hbm S2x16x48 .f32 :=
  (arg2.slice (Rect.unit (s := S1x18x48x48) (k0_off1 i) S1x2x16x48.size (k0_off1_inb i h)) (fun _ => rfl)).squeeze S2x16x48 squeezes_S1x2x16x48_S2x16x48

/-- The tile's four delta planes' rows. -/
def srcR (h : k0_cond1 i = 1#1) : Memref sig .scVector .hbm S4x16x48 .f32 :=
  (arg3.slice (Rect.unit (s := S1x36x48x48) (k0_off2 i) S1x4x16x48.size (k0_off2_inb i h)) (fun _ => rfl)).squeeze S4x16x48 squeezes_S1x4x16x48_S4x16x48

/-- The anchors by group: group 0, 1, or 2. -/
def anc3 (A0 A1 A2 : Anc F) : ℕ → Anc F
  | 0 => A0
  | 1 => A1
  | _ => A2

/-- The bands and the waits for their copies. -/
def work (h : k0_cond1 i = 1#1) (A : ℕ → Anc F) : TProg F i PUnit :=
  band i arg5 arg6 arg7 arg9 arg12 0 h A <| band i arg5 arg6 arg7 arg9 arg12 1 h A <|
  band i arg5 arg6 arg7 arg9 arg12 2 h A <| band i arg5 arg6 arg7 arg9 arg12 3 h A <|
  waitOut i arg5 arg9 arg12 0 h <| waitOut i arg5 arg9 arg12 1 h <|
  waitOut i arg5 arg9 arg12 2 h <| waitOut i arg5 arg9 arg12 3 h <| .ret ⟨⟩

/-- A decoding tile's program. -/
def decode (h : k0_cond1 i = 1#1) : TProg F i PUnit :=
  .op (.enqueueDma arg4 (.here arg8) (.dma arg11.sem) harg4.wordExact harg8.wordExact ⟨Or.inl rfl, trivial⟩) fun _ =>
  .op (.enqueueDma (srcC i arg2 h) (.here arg6) (.dma arg10.sem) ((View.wordExact_bits rfl).reshape _ _) harg6.wordExact ⟨Or.inl rfl, trivial⟩) fun _ =>
  .op (.enqueueDma (srcR i arg3 h) (.here arg7) (.dma arg10.sem) ((View.wordExact_bits rfl).reshape _ _) harg7.wordExact ⟨Or.inl rfl, trivial⟩) fun _ =>
  .op (.waitDma2 arg11.sem arg4 arg8 harg4.wordExact harg8.wordExact) fun _ =>
  gaths i arg8 h 0 fun A0 => gaths i arg8 h 1 fun A1 => gaths i arg8 h 2 fun A2 =>
  .op (.waitDma2 arg10.sem (srcC i arg2 h) arg6 ((View.wordExact_bits rfl).reshape _ _) harg6.wordExact) fun _ =>
  .op (.waitDma2 arg10.sem (srcR i arg3 h) arg7 ((View.wordExact_bits rfl).reshape _ _) harg7.wordExact) fun _ =>
  work i arg5 arg6 arg7 arg9 arg12 h (anc3 A0 A1 A2)

set_option maxHeartbeats 0 in
set_option maxRecDepth 1000000 in
/-- The printed body is this program on a tile that decodes, and nothing on the others. -/
theorem body_eq :
    cc0_sc_kernel (F := F) i arg2 harg2 arg3 harg3 arg4 harg4 arg5 harg5 arg6 harg6 arg7 harg7 arg8 harg8 arg9 harg9 arg10 arg11 arg12
      = if h : k0_cond1 i = 1#1 then decode i arg2 arg3 arg4 harg4 arg5 arg6 harg6 arg7 harg7 arg8 harg8 arg9 arg10 arg11 arg12 h
        else .ret ⟨⟩ := by
  unfold cc0_sc_kernel
  by_cases h : k0_cond1 i = 1#1
  · simp only [dif_pos h]
    rfl
  · simp only [dif_neg h]
    rfl

end prog

end Cert.KernelIdeal.Tile

end
-- ==== Proof.Index.lean ====
/- Where the words of a tile point: the closed forms of the offsets and indices the program computes, that they are in
   range, and what an indexed store leaves at each element. -/
module

public import proofs.«01_k».proof.Proof.Body
public import Idealize.ShloMosaic.Lib.Pipeline.Value

@[expose] public section

noncomputable section

namespace Cert.KernelIdeal.Tile

open Idealize.ShloMosaic Idealize.SL.Sem Cert.KernelIdeal Cert.KernelIdeal.Gen

variable {F : FTy → Type}

/-- The index of a shape with the given coordinates, each taken modulo its extent so that it always is one. -/
def ix (s : Shape) (v : Fin s.rank → ℕ) (hs : ∀ a, 0 < s.size a := by decide) : s.Idx :=
  fun a => ⟨v a % s.size a, Nat.mod_lt _ (hs a)⟩

/-- An index with these coordinates is `ix` of them. -/
theorem eq_ix {s : Shape} {v : Fin s.rank → ℕ} {hs : ∀ a, 0 < s.size a} {x : s.Idx} (h : ∀ a, (x a).val = v a) : x = ix s v hs := by
  funext a
  apply Fin.ext
  show (x a).val = v a % s.size a
  rw [← h a, Nat.mod_eq_of_lt (x a).isLt]

/-- The coordinates of `ix` where they are in range. -/
theorem ix_val {s : Shape} {v : Fin s.rank → ℕ} {hs : ∀ a, 0 < s.size a} {a : Fin s.rank} (h : v a < s.size a) : ((ix s v hs) a).val = v a :=
  Nat.mod_eq_of_lt h

/-- Lane `k`. -/
def lane (k : ℕ) : S16.Idx := ix S16 ![k]

/-- Every index of a vector is a lane. -/
theorem lane_eta (x : S16.Idx) : lane (x 0).val = x := (eq_ix fun a => by fin_cases a; rfl).symm

/-- A lane's number. -/
theorem lane_val {k : ℕ} (h : k < 16) : ((lane k) 0).val = k := Nat.mod_eq_of_lt h

/-- The tile's number as a natural number. -/
def wnum (i : grid0.Coords) : ℕ := 2 * (i 1).val + (i 0).val

/-- A tile that passes the kernel's test is one of the first 27. -/
theorem wnum_lt (i : grid0.Coords) (h : k0_cond1 i = 1#1) : wnum i < 27 := by
  revert i; decide +kernel

/-- Each of the first 27 tiles passes it. -/
theorem cond_of_lt (i : grid0.Coords) (h : wnum i < 27) : k0_cond1 i = 1#1 := by
  revert i; decide +kernel

/-- The anchor of a tile is its number over three. -/
theorem anchor_eq (i : grid0.Coords) (h : k0_cond1 i = 1#1) : anchorOf (wid i) = BitVec.ofNat 32 (wnum i / 3) := by
  revert i; decide +kernel

/-- Where a tile's score planes start. -/
theorem off1_eq (i : grid0.Coords) (h : k0_cond1 i = 1#1) : k0_off1 i = ![0, 2 * (wnum i / 3), 16 * (wnum i % 3), 0] := by
  revert i; decide +kernel

/-- Where a tile's delta planes start. -/
theorem off2_eq (i : grid0.Coords) (h : k0_cond1 i = 1#1) : k0_off2 i = ![0, 4 * (wnum i / 3), 16 * (wnum i % 3), 0] := by
  revert i; decide +kernel

/-- Where a tile's four chunks of the result start. -/
theorem off8_eq (i : grid0.Coords) (h : k0_cond1 i = 1#1) (q : Fin 4) :
    k0_off8 i (BitVec.ofNat 32 (3 + 4 * q.val)) = ![768 * wnum i + 192 * q.val, 0] := by
  revert i q; decide +kernel

set_option maxRecDepth 100000 in
/-- The places of the packed table that a tile looks up, lane by lane. -/
theorem tabIdx_all : ∀ (p : Fin 9) (g : Fin 3) (c : Fin 4) (l : Fin 16),
    (tabIdx (BitVec.ofNat 32 p.val) g.val c.val (lane l.val)).toNat = 4 * p.val * (16 * g.val + l.val) + c.val := by decide +kernel

/-- Where lane `l` of group `g` finds field `c` of anchor `p`. -/
theorem tabIdx_val {p g c : ℕ} (hp : p < 9) (hg : g < 3) (hc : c < 4) (x : S16.Idx) :
    (tabIdx (BitVec.ofNat 32 p) g c x).toNat = 4 * p * (16 * g + (x 0).val) + c := by
  have h := tabIdx_all ⟨p, hp⟩ ⟨g, hg⟩ ⟨c, hc⟩ (x 0)
  simp only at h
  rwa [lane_eta] at h

/-- The rows of the window that a group of sixteen boxes goes to. -/
theorem rowsOf_all : ∀ (j : Fin 4) (g : Fin 3) (l : Fin 16), (rowsOf j.val g.val (lane l.val)).toNat = 48 * j.val + 16 * g.val + l.val := by
  decide +kernel

/-- They depend on the row only within its band of four. -/
theorem rowsOf_mod (j g : ℕ) : rowsOf j g = rowsOf (j % 4) g := by unfold rowsOf; rw [Nat.mod_mod]

/-- The row lane `l` of block `(j, g)` fills. -/
theorem rowsOf_val {j g : ℕ} (hg : g < 3) (x : S16.Idx) : (rowsOf j g x).toNat = 48 * (j % 4) + 16 * g + (x 0).val := by
  have h := rowsOf_all ⟨j % 4, Nat.mod_lt _ (by omega)⟩ ⟨g, hg⟩ (x 0)
  simp only at h
  rwa [lane_eta, ← rowsOf_mod] at h

/-- The column of a store, at every lane. -/
theorem col_val {c : ℕ} (hc : c < 8) (x : S16.Idx) : ((broadcast S16 (BitVec.ofNat 32 c) : IVec S16 32) x).toNat = c := by
  show (BitVec.ofNat 32 c).toNat = c
  rw [BitVec.toNat_ofNat]; omega

/-- Every gathered index is inside the packed table. -/
theorem chk1 (i : grid0.Coords) (h : k0_cond1 i = 1#1) {g c : ℕ} (hg : g < 3) (hc : c < 4) : k0_chk1 i (tabIdx (anchorOf (wid i)) g c) := by
  intro _ a x
  have hp : wnum i / 3 < 9 := by have := wnum_lt i h; omega
  fin_cases a
  show (tabIdx (anchorOf (wid i)) g c x).toNat < 1508
  rw [anchor_eq i h, tabIdx_val hp hg hc]
  have hx : (x 0).val < 16 := (x 0).isLt
  generalize wnum i / 3 = p at hp
  have : 4 * p * (16 * g + (x 0).val) ≤ 32 * 47 := Nat.mul_le_mul (by omega) (by omega)
  omega

/-- Every scattered index is inside the window. -/
theorem chk13 (i : grid0.Coords) {j g c : ℕ} (hg : g < 3) (hc : c < 8) : k0_chk13 i (rowsOf j g) (broadcast S16 (BitVec.ofNat 32 c)) := by
  intro _ a x
  have hx : (x 0).val < 16 := (x 0).isLt
  fin_cases a
  · show (rowsOf j g x).toNat < 192
    rw [rowsOf_val hg]; omega
  · show ((broadcast S16 (BitVec.ofNat 32 c) : IVec S16 32) x).toNat < 8
    rw [col_val hc]; exact hc

/-! ## What an unmasked indexed store leaves -/

section store

variable {s : Shape} {e : EltTy} {d : Fin 1 → ℕ} (f : Vec F s e) (idxs : Fin s.rank → IVec ⟨1, d⟩ 32) (v : Vec F ⟨1, d⟩ e)
  (h : ∀ a x, (idxs a x).toNat < s.size a) [FloatOps F]

/-- One lane's store. -/
def laneStore (g : Vec F s e) (k : Fin (d 0)) : Vec F s e :=
  fun j => if (∀ a, (j a).val = (idxAt idxs h (Shape.ofLane k) a).val) then v (Shape.ofLane k) else g j

/-- An unmasked indexed store is its lanes' stores, one after another. -/
theorem storeIdx_eq : storeIdx f idxs v (fun _ => 1#1) false h = (List.finRange (d 0)).foldl (laneStore idxs v h) f := by
  unfold storeIdx
  simp only [↓reduceIte, Bool.false_eq_true]
  rfl

/-- A place no lane of a list points to keeps its content. -/
theorem fold_miss (j : s.Idx) (L : List (Fin (d 0))) (hL : ∀ k ∈ L, ¬ ∀ a, (j a).val = (idxAt idxs h (Shape.ofLane k) a).val) :
    ∀ g, L.foldl (laneStore idxs v h) g j = g j := by
  induction L with
  | nil => intro g; rfl
  | cons k L ih =>
    intro g
    rw [List.foldl_cons, ih (fun k' hk' => hL k' (List.mem_cons_of_mem _ hk'))]
    exact if_neg (hL k List.mem_cons_self)

/-- A place some lane points to, with the same number from each that does, gets that number. -/
theorem fold_hit (j : s.Idx) (w : Elt F e) (L : List (Fin (d 0)))
    (hv : ∀ k ∈ L, (∀ a, (j a).val = (idxAt idxs h (Shape.ofLane k) a).val) → v (Shape.ofLane k) = w) :
    ∀ g, (g j = w ∨ ∃ k ∈ L, ∀ a, (j a).val = (idxAt idxs h (Shape.ofLane k) a).val) → L.foldl (laneStore idxs v h) g j = w := by
  induction L with
  | nil => intro g hg; rcases hg with hg | ⟨k, hk, -⟩; · exact hg
           exact absurd hk List.not_mem_nil
  | cons k L ih =>
    intro g hg
    rw [List.foldl_cons]
    refine ih (fun k' hk' => hv k' (List.mem_cons_of_mem _ hk')) _ ?_
    by_cases hk : ∀ a, (j a).val = (idxAt idxs h (Shape.ofLane k) a).val
    · exact .inl ((if_pos hk).trans (hv k List.mem_cons_self hk))
    · rcases hg with hg | ⟨k', hk', hj⟩
      · exact .inl ((if_neg hk).trans hg)
      · rcases List.mem_cons.1 hk' with rfl | hm
        · exact absurd hj hk
        · exact .inr ⟨k', hm, hj⟩

/-- An element no lane names keeps its value. -/
theorem storeIdx_miss (j : s.Idx) (hj : ∀ k : Fin (d 0), ∃ a, (j a).val ≠ (idxs a (Shape.ofLane k)).toNat) :
    storeIdx f idxs v (fun _ => 1#1) false h j = f j := by
  rw [storeIdx_eq]
  exact fold_miss idxs v h j _ (fun k _ hk => by obtain ⟨a, ha⟩ := hj k; exact ha (hk a)) f

/-- An element exactly one lane names takes that lane's value. -/
theorem storeIdx_hit (j : s.Idx) (k : Fin (d 0)) (hk : ∀ a, (j a).val = (idxs a (Shape.ofLane k)).toNat)
    (hu : ∀ k', (∀ a, (j a).val = (idxs a (Shape.ofLane k')).toNat) → k' = k) :
    storeIdx f idxs v (fun _ => 1#1) false h j = v (Shape.ofLane k) := by
  rw [storeIdx_eq]
  exact fold_hit idxs v h j _ _ (fun k' _ hk' => by rw [hu k' hk']) f (.inr ⟨k, List.mem_finRange k, hk⟩)

end store

end Cert.KernelIdeal.Tile
-- ==== Proof.Blocks.lean ====
/- One tile's blocks: what the loads read, what the eight indexed stores of a block leave in the window, and by induction
   what the twelve blocks of a band do. -/
module

public import proofs.«01_k».proof.Proof.Index
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.MixedBatch
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's facts about the signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds, the left factor of the algebra. -/
abbrev EH : Emb UH (MT nD τ sig (HIx 1) (Elt F) ℕ UU ℕ) := embL

/-! ## The tile's memrefs and thread -/

abbrev a2 : Memref sig .scVector .hbm S1x18x48x48 .f32 := Memref.whole main_arg0_scv
abbrev a3 : Memref sig .scVector .hbm S1x36x48x48 .f32 := Memref.whole main_arg1_scv
abbrev a4 : Memref sig .scVector .hbm S1508 .f32 := Memref.whole main_v1_scv
abbrev a5 : Memref sig .scVector .hbm S20736x8 .f32 := Memref.whole main_v2_scv
abbrev a6 : Memref sig .scVector .vmem S2x16x48 .f32 := Memref.whole cc0_scratch0
abbrev a7 : Memref sig .scVector .vmem S4x16x48 .f32 := Memref.whole cc0_scratch1
abbrev a8 : Memref sig .scVector .vmem S1508 .f32 := Memref.whole cc0_scratch2
abbrev a9 : Memref sig .scVector .vmem S768x8 .f32 := Memref.whole cc0_scratch3

abbrev cV (i : grid0.Coords) : Fin τ.nSC := (i 0).castLE hcore0
abbrev jV (i : grid0.Coords) : Fin τ.nSub := (i 1).castLE hsub0
/-- The tile's thread on device `d`. -/
abbrev thr (d : Dev nD) (i : grid0.Coords) : Thread nD τ := V d (cV i) (jV i)

/-- A tile program's weakest precondition. -/
abbrev WP (d : Dev nD) (i : grid0.Coords) (p : TProg F i PUnit) (Q : PUnit.{1} → sProp (MT nD τ sig (HIx 1) (Elt F) ℕ UU ℕ)) : sProp 𝕄 :=
  wp frame (wpE (defs₀ (F := F)) 𝒱₀ (thr d i) none) Set.univ p Q

variable (d : Dev nD) (i : grid0.Coords) (Q : PUnit.{1} → sProp (MT nD τ sig (HIx 1) (Elt F) ℕ UU ℕ))

/-! ## Loads -/

/-- Sixteen neighbouring scores of plane `a`. -/
def ldC (X : S2x16x48.Idx → Elt F .f32) (a j g : ℕ) : Vec F S16 .f32 := fun l => X (ix S2x16x48 ![a, j, 16 * g + (l 0).val])

/-- Sixteen neighbouring deltas of plane `a`. -/
def ldR (X : S4x16x48.Idx → Elt F .f32) (a j g : ℕ) : Vec F S16 .f32 := fun l => X (ix S4x16x48 ![a, j, 16 * g + (l 0).val])

omit [FloatOps F] [Named F] in
/-- A row of sixteen out of the tile's score planes, read at a lane. -/
theorem readC (X : S2x16x48.Idx → Elt F .f32) (a j g : ℕ) (ha : a < 2) (hj : j < 16) (hg : g < 3) :
    shapeCast S16 (a6.view.readAt (Elt F) (Rect.unit (s := S2x16x48) ![a, j, 16 * g] S1x1x16.size (inbC a j g ha hj hg)).toLoadRect X) shapeCasts_S1x1x16_S16
      = ldC X a j g := by
  funext l
  rw [shapeCast_apply _ _ l (ix S1x1x16 ![0, 0, (l 0).val])]
  · simp only [View.readAt_apply, Memref.view_whole, View.read_whole]
    unfold ldC
    congr 1
    refine eq_ix fun x => ?_
    rw [LoadRect.idx_apply]
    have hl : (l 0).val < 16 := (l 0).isLt
    fin_cases x
    · show a + 1 * (0 % 1) = a; omega
    · show j + 1 * (0 % 1) = j; omega
    · show 16 * g + 1 * ((l 0).val % 16) = 16 * g + (l 0).val; omega
  · rw [Shape.rowMajor_val_three, Shape.rowMajor_val_one]
    have hl : (l 0).val < 16 := (l 0).isLt
    show (0 % 1 * 1 + 0 % 1) * 16 + (l 0).val % 16 = (l 0).val
    omega

omit [FloatOps F] [Named F] in
/-- A row of sixteen out of the tile's delta planes, read at a lane. -/
theorem readR (X : S4x16x48.Idx → Elt F .f32) (a j g : ℕ) (ha : a < 4) (hj : j < 16) (hg : g < 3) :
    shapeCast S16 (a7.view.readAt (Elt F) (Rect.unit (s := S4x16x48) ![a, j, 16 * g] S1x1x16.size (inbR a j g ha hj hg)).toLoadRect X) shapeCasts_S1x1x16_S16
      = ldR X a j g := by
  funext l
  rw [shapeCast_apply _ _ l (ix S1x1x16 ![0, 0, (l 0).val])]
  · simp only [View.readAt_apply, Memref.view_whole, View.read_whole]
    unfold ldR
    congr 1
    refine eq_ix fun x => ?_
    rw [LoadRect.idx_apply]
    have hl : (l 0).val < 16 := (l 0).isLt
    fin_cases x
    · show a + 1 * (0 % 1) = a; omega
    · show j + 1 * (0 % 1) = j; omega
    · show 16 * g + 1 * ((l 0).val % 16) = 16 * g + (l 0).val; omega
  · rw [Shape.rowMajor_val_three, Shape.rowMajor_val_one]
    have hl : (l 0).val < 16 := (l 0).isLt
    show (0 % 1 * 1 + 0 % 1) * 16 + (l 0).val % 16 = (l 0).val
    omega

abbrev pt6 (X : S2x16x48.Idx → Elt F .f32) : sProp 𝕄 := (a6.view.loc (thr d i)) ↦{fullShare} (X : Buf (Elt F) (a6.view.loc (thr d i)))
abbrev pt7 (X : S4x16x48.Idx → Elt F .f32) : sProp 𝕄 := (a7.view.loc (thr d i)) ↦{fullShare} (X : Buf (Elt F) (a7.view.loc (thr d i)))
abbrev pt8 (X : S1508.Idx → Elt F .f32) : sProp 𝕄 := (a8.view.loc (thr d i)) ↦{fullShare} (X : Buf (Elt F) (a8.view.loc (thr d i)))

/-- A load of scores. -/
theorem wp_loadC (X : S2x16x48.Idx → Elt F .f32) (a j g : ℕ) (ha : a < 2) (hj : j < 16) (hg : g < 3) (k : Vec F S16 .f32 → TProg F i PUnit) :
    pt6 d i X ⊢ iprop((pt6 d i X -∗ WP d i (k (ldC X a j g)) Q) -∗ WP d i (loadC i a6 a j g ha hj hg k) Q) := by
  rw [← readC X a j g ha hj hg]
  exact wp_load (c := thr d i) (m := a6) (r := (Rect.unit (s := S2x16x48) ![a, j, 16 * g] S1x1x16.size (inbC a j g ha hj hg)).toLoadRect)
    (k := fun x => k (shapeCast S16 x shapeCasts_S1x1x16_S16)) (S := Finset.univ) (q := fullShare) (f := X)
    𝒱₀ none Set.univ (Finset.subset_univ _)

/-- A load of deltas. -/
theorem wp_loadR (X : S4x16x48.Idx → Elt F .f32) (a j g : ℕ) (ha : a < 4) (hj : j < 16) (hg : g < 3) (k : Vec F S16 .f32 → TProg F i PUnit) :
    pt7 d i X ⊢ iprop((pt7 d i X -∗ WP d i (k (ldR X a j g)) Q) -∗ WP d i (loadR i a7 a j g ha hj hg k) Q) := by
  rw [← readR X a j g ha hj hg]
  exact wp_load (c := thr d i) (m := a7) (r := (Rect.unit (s := S4x16x48) ![a, j, 16 * g] S1x1x16.size (inbR a j g ha hj hg)).toLoadRect)
    (k := fun x => k (shapeCast S16 x shapeCasts_S1x1x16_S16)) (S := Finset.univ) (q := fullShare) (f := X)
    𝒱₀ none Set.univ (Finset.subset_univ _)

/-- One anchor field of a group of lanes. -/
def ldA (X : S1508.Idx → Elt F .f32) (p g c : ℕ) : Vec F S16 .f32 := fun l => X (ix S1508 ![4 * p * (16 * g + (l 0).val) + c])

/-- The anchors of a group of lanes. -/
def ancOf (X : S1508.Idx → Elt F .f32) (p g : ℕ) : Anc F := ⟨ldA X p g 0, ldA X p g 1, ldA X p g 2, ldA X p g 3⟩

/-- An indexed load. -/
theorem wp_gath (h : k0_cond1 i = 1#1) (X : S1508.Idx → Elt F .f32) {g c : ℕ} (hg : g < 3) (hc : c < 4) (k : Vec F S16 .f32 → TProg F i PUnit) :
    pt8 d i X ⊢ iprop((pt8 d i X -∗ WP d i (k (ldA X (wnum i / 3) g c)) Q) -∗ WP d i (gath i a8 h g c k) Q) := by
  unfold gath WP
  rw [wp_assume_of _ _ _ _ (chk1 i h hg hc)]
  have hp : wnum i / 3 < 9 := by have := wnum_lt i h; omega
  have hv : ldA X (wnum i / 3) g c
      = loadIdx ((a8.access (.whole S1508)).read (Elt F) X) ![tabIdx (anchorOf (wid i)) g c] (k0_idx1_inb i _ (chk1 i h hg hc) h) := by
    funext l
    unfold ldA loadIdx
    refine Eq.trans ?_ (congrFun (Memref.read_access_whole (Elt F) cc0_scratch2 X) _).symm
    refine congrArg X ?_
    refine (eq_ix fun a => ?_).symm
    fin_cases a
    show (tabIdx (anchorOf (wid i)) g c l).toNat = 4 * (wnum i / 3) * (16 * g + (l 0).val) + c
    rw [anchor_eq i h, tabIdx_val hp hg hc]
  rw [hv]
  exact SparseCore.wp_vectorLoadIdx 𝒱₀ (thr d i) none Set.univ (base := a8) (S := Finset.univ) (q := fullShare) (Finset.subset_univ _)

/-- A group's four anchor fields. -/
theorem wp_gaths (h : k0_cond1 i = 1#1) (X : S1508.Idx → Elt F .f32) {g : ℕ} (hg : g < 3) (k : Anc F → TProg F i PUnit) :
    pt8 d i X ⊢ iprop((pt8 d i X -∗ WP d i (k (ancOf X (wnum i / 3) g)) Q) -∗ WP d i (gaths i a8 h g k) Q) := by
  unfold gaths
  iintro H Hk
  iapply (wp_gath d i Q h X hg (c := 0) (by omega)) $$ H; iintro H
  iapply (wp_gath d i Q h X hg (by omega)) $$ H; iintro H
  iapply (wp_gath d i Q h X hg (by omega)) $$ H; iintro H
  iapply (wp_gath d i Q h X hg (by omega)) $$ H; iintro H
  iapply Hk; iexact H

/-! ## The window -/

/-- Window `q` of the row buffer, holding what `f` holds there. -/
abbrev winPt (q : Fin 4) (f : S768x8.Idx → Elt F .f32) : sProp 𝕄 :=
  (win a9 q).view.loc (thr d i) ↦[(win a9 q).view.set]{fullShare} (f : Buf (Elt F) ((win a9 q).view.loc (thr d i)))

/-- Rows below `16 * n`, and the columns below `c` of the sixteen after, hold the target's values. -/
def Good (w T : Vec F S192x8 .f32) (n c : ℕ) : Prop :=
  ∀ x : S192x8.Idx, ((x 0).val < 16 * n ∨ ((x 0).val < 16 * (n + 1) ∧ (x 1).val < c)) → w x = T x

omit [FloatOps F] [Named F] in
/-- Before the first store nothing is asked of the window. -/
theorem good_zero (w T : Vec F S192x8 .f32) : Good w T 0 0 := fun x hx => by omega

omit [FloatOps F] [Named F] in
/-- Eight stored columns of a group of rows are the whole group. -/
theorem good_step {w T : Vec F S192x8 .f32} {n : ℕ} (h : Good w T n 8) : Good w T (n + 1) 0 := fun x hx => by
  have : (x 1).val < 8 := (x 1).isLt
  refine h x ?_; omega

omit [FloatOps F] [Named F] in
/-- Twelve stored groups are the whole window. -/
theorem good_all {w T : Vec F S192x8 .f32} (h : Good w T 12 0) : w = T := funext fun x => h x (.inl (x 0).isLt)

omit [Named F] in
/-- One indexed store of block `(j, g)` adds its column. -/
theorem good_store {w T : Vec F S192x8 .f32} {j g c : ℕ} (hg : g < 3) (hc : c < 8) (v : Vec F S16 .f32)
    (hin : ∀ a x, ((![rowsOf j g, broadcast S16 (BitVec.ofNat 32 c)] : Fin 2 → IVec S16 32) a x).toNat < S192x8.size a)
    (hT : ∀ x : S192x8.Idx, 16 * (3 * (j % 4) + g) ≤ (x 0).val → (x 0).val < 16 * (3 * (j % 4) + g + 1) → (x 1).val = c → v (lane ((x 0).val % 16)) = T x)
    (hw : Good w T (3 * (j % 4) + g) c) :
    Good (storeIdx w ![rowsOf j g, broadcast S16 (BitVec.ofNat 32 c)] v (fun _ => 1#1) false hin) T (3 * (j % 4) + g) (c + 1) := by
  intro x hx
  by_cases hit : 16 * (3 * (j % 4) + g) ≤ (x 0).val ∧ (x 1).val = c
  · have hlt : (x 0).val < 16 * (3 * (j % 4) + g + 1) := by omega
    have h16 : (x 0).val % 16 < 16 := Nat.mod_lt _ (by omega)
    have hl : Shape.ofLane (d := ![16]) ⟨(x 0).val % 16, h16⟩ = lane ((x 0).val % 16) :=
      eq_ix fun a => by fin_cases a; rfl
    rw [storeIdx_hit w ![rowsOf j g, broadcast S16 (BitVec.ofNat 32 c)] v hin x ⟨(x 0).val % 16, h16⟩]; rw [hl]
    · exact hT x hit.1 hlt hit.2
    · intro a
      fin_cases a
      · show (x 0).val = (rowsOf j g _).toNat
        refine Eq.trans ?_ (rowsOf_val hg _).symm
        have hl0 : (Shape.ofLane (d := ![16]) ⟨(x 0).val % 16, h16⟩ 0).val = (x 0).val % 16 := rfl
        refine Eq.trans ?_ (congrArg (48 * (j % 4) + 16 * g + ·) hl0.symm)
        show (x 0).val = 48 * (j % 4) + 16 * g + (x 0).val % 16
        omega
      · show (x 1).val = ((broadcast S16 (BitVec.ofNat 32 c) : IVec S16 32) (lane 0)).toNat
        rw [col_val hc]; exact hit.2
    · intro k' hk'
      have h0 : (x 0).val = (rowsOf j g (Shape.ofLane k')).toNat := hk' 0
      rw [rowsOf_val hg] at h0
      have h1 : (x 0).val = 48 * (j % 4) + 16 * g + k'.val := h0
      have hk : k'.val < 16 := k'.isLt
      apply Fin.ext
      show k'.val = (x 0).val % 16
      omega
  · rw [storeIdx_miss]
    · exact hw x (by omega)
    · intro k
      have hk : k.val < 16 := k.isLt
      by_cases h1 : (x 1).val = c
      · refine ⟨0, ?_⟩
        show (x 0).val ≠ (rowsOf j g _).toNat
        rw [rowsOf_val hg]
        show (x 0).val ≠ 48 * (j % 4) + 16 * g + k.val
        omega
      · refine ⟨1, ?_⟩
        show (x 1).val ≠ ((broadcast S16 (BitVec.ofNat 32 c) : IVec S16 32) (lane 0)).toNat
        rw [col_val hc]; exact h1

omit [FloatOps F] [Named F] in
/-- The window as a store reaches it is the window as a copy reaches it. -/
theorem set_win_access (q : Fin 4) : ((win a9 q).access (.whole S192x8)).set = (win a9 q).view.set := by
  show ((win a9 q).view.slice (.whole S192x8)).set = _
  rw [View.set_slice, Rect.set_whole]; rfl

omit [FloatOps F] [Named F] in
/-- The window read as a store reaches it. -/
theorem read_win_access (q : Fin 4) (f : S768x8.Idx → Elt F .f32) :
    ((win a9 q).access (.whole S192x8)).read (Elt F) f = (win a9 q).view.read (Elt F) f := by
  funext x
  have hx : (Rect.whole S192x8).emb x = x := by
    funext a; apply Fin.ext
    show 0 + 1 * (x a).val = (x a).val
    omega
  show (win a9 q).view.read (Elt F) f ((Rect.whole S192x8).emb x) = _
  rw [hx]

/-- Window `q`, its first rows at the target. -/
def winG (q : Fin 4) (T : Vec F S192x8 .f32) (n c : ℕ) : sProp 𝕄 :=
  iprop(∃ f, ⌜Good ((win a9 q).view.read (Elt F) f) T n c⌝ ∗ winPt d i q f)

/-- One indexed store of a block. -/
theorem wp_scat (h : k0_cond1 i = 1#1) (q : Fin 4) (T : Vec F S192x8 .f32) {j g c : ℕ} (hg : g < 3) (hc : c < 8) (v : ℕ → Vec F S16 .f32)
    (hT : ∀ x : S192x8.Idx, 16 * (3 * (j % 4) + g) ≤ (x 0).val → (x 0).val < 16 * (3 * (j % 4) + g + 1) → (x 1).val = c → v c (lane ((x 0).val % 16)) = T x)
    (k : TProg F i PUnit) :
    winG d i q T (3 * (j % 4) + g) c
      ⊢ iprop((winG d i q T (3 * (j % 4) + g) (c + 1) -∗ WP d i k Q) -∗ WP d i (scat i a9 q h (rowsOf j g) v c k) Q) := by
  unfold scat WP
  rw [wp_assume_of _ _ _ _ (chk13 i hg hc)]
  unfold winG
  iintro ⟨%f, %hf, H⟩ Hk
  ihave H' := (Entails.of_eq (show winPt d i q f = (((win a9 q).access (.whole S192x8)).loc (thr d i)
    ↦[((win a9 q).access (.whole S192x8)).set]{fullShare} (f : Buf (Elt F) (((win a9 q).access (.whole S192x8)).loc (thr d i))) : sProp 𝕄) by rw [set_win_access])) $$ H
  iapply (SparseCore.wp_vectorStoreIdx 𝒱₀ (thr d i) none Set.univ (base := win a9 q)) $$ H'
  iintro H
  iapply Hk
  iexists _
  isplitr
  rotate_left
  · iapply (Entails.of_eq (show (((win a9 q).access (.whole S192x8)).loc (thr d i) ↦[((win a9 q).access (.whole S192x8)).set]{fullShare} _ : sProp 𝕄)
      = winPt d i q _ by rw [set_win_access]))
    iexact H
  · ipureintro
    rw [← read_win_access q (F := F) (((win a9 q).access (.whole S192x8)).write (Elt F) f _ Finset.univ)]
    rw [View.read_write_univ]
    rw [← read_win_access q f] at hf
    exact good_store hg hc (v c) _ hT hf

/-- The first `m` stores of a block. -/
theorem wp_scats (h : k0_cond1 i = 1#1) (q : Fin 4) (T : Vec F S192x8 .f32) {j g : ℕ} (hg : g < 3) (v : ℕ → Vec F S16 .f32)
    (hT : ∀ x : S192x8.Idx, 16 * (3 * (j % 4) + g) ≤ (x 0).val → (x 0).val < 16 * (3 * (j % 4) + g + 1) → v (x 1).val (lane ((x 0).val % 16)) = T x)
    (m : ℕ) (hm : m ≤ 8) : ∀ k : TProg F i PUnit,
    winG d i q T (3 * (j % 4) + g) 0
      ⊢ iprop((winG d i q T (3 * (j % 4) + g) m -∗ WP d i k Q) -∗ WP d i (scats i a9 q h (rowsOf j g) v m k) Q) := by
  induction m with
  | zero =>
    intro k
    iintro H Hk
    iapply Hk; iexact H
  | succ m ih =>
    intro k
    iintro H Hk
    iapply (ih (by omega) (scat i a9 q h (rowsOf j g) v m k)) $$ H
    iintro H
    iapply (wp_scat d i Q h q T hg (by omega) v (fun x h1 h2 h3 => h3 ▸ hT x h1 h2) k) $$ H
    iexact Hk

/-! ## Blocks -/

/-- Column `c` of block `n` of band `q`. -/
def tgtB (A : ℕ → Anc F) (X : S2x16x48.Idx → Elt F .f32) (Y : S4x16x48.Idx → Elt F .f32) (q n c : ℕ) : Vec F S16 .f32 :=
  blkVal (A (n % 3)) (ldC X 0 (4 * q + n / 3) (n % 3)) (ldC X 1 (4 * q + n / 3) (n % 3)) (ldR Y 0 (4 * q + n / 3) (n % 3))
    (ldR Y 1 (4 * q + n / 3) (n % 3)) (ldR Y 2 (4 * q + n / 3) (n % 3)) (ldR Y 3 (4 * q + n / 3) (n % 3)) c

/-- What band `q` leaves in its window. -/
def tgtW (A : ℕ → Anc F) (X : S2x16x48.Idx → Elt F .f32) (Y : S4x16x48.Idx → Elt F .f32) (q : ℕ) : Vec F S192x8 .f32 :=
  fun x => tgtB A X Y q ((x 0).val / 16) (x 1).val (lane ((x 0).val % 16))

/-- Block `n` of band `q`. -/
theorem wp_blk (h : k0_cond1 i = 1#1) (A : ℕ → Anc F) (X : S2x16x48.Idx → Elt F .f32) (Y : S4x16x48.Idx → Elt F .f32) (q : Fin 4) (n : ℕ)
    (hj : 4 * q.val + n / 3 < 16) (hn : n < 12) (k : TProg F i PUnit) :
    iprop(pt6 d i X ∗ pt7 d i Y ∗ winG d i q (tgtW A X Y q.val) n 0)
      ⊢ iprop((iprop(pt6 d i X ∗ pt7 d i Y ∗ winG d i q (tgtW A X Y q.val) (n + 1) 0) -∗ WP d i k Q)
          -∗ WP d i (blk i a6 a7 a9 q h (A (n % 3)) (4 * q.val + n / 3) (n % 3) hj (Nat.mod_lt _ (by omega)) k) Q) := by
  have hg : n % 3 < 3 := Nat.mod_lt _ (by omega)
  have hnn : 3 * ((4 * q.val + n / 3) % 4) + n % 3 = n := by omega
  unfold blk
  iintro ⟨H6, H7, HW⟩ Hk
  iapply (wp_loadC d i Q X 0 (4 * q.val + n / 3) (n % 3)) $$ H6; iintro H6
  iapply (wp_loadC d i Q X 1 (4 * q.val + n / 3) (n % 3)) $$ H6; iintro H6
  iapply (wp_loadR d i Q Y 0 (4 * q.val + n / 3) (n % 3)) $$ H7; iintro H7
  iapply (wp_loadR d i Q Y 1 (4 * q.val + n / 3) (n % 3)) $$ H7; iintro H7
  iapply (wp_loadR d i Q Y 2 (4 * q.val + n / 3) (n % 3)) $$ H7; iintro H7
  iapply (wp_loadR d i Q Y 3 (4 * q.val + n / 3) (n % 3)) $$ H7; iintro H7
  ihave HW' := (Entails.of_eq (show winG d i q (tgtW A X Y q.val) n 0
    = winG d i q (tgtW A X Y q.val) (3 * ((4 * q.val + n / 3) % 4) + n % 3) 0 by rw [hnn])) $$ HW
  iapply (wp_scats d i Q h q (tgtW A X Y q.val) hg _ (fun x h1 h2 => ?_) 8 le_rfl k) $$ HW'
  · rw [hnn] at h1 h2
    have hx : (x 0).val / 16 = n := by omega
    unfold tgtW tgtB
    rw [hx]
  iintro HW
  iapply Hk
  isplitl [H6]; · iexact H6
  isplitl [H7]; · iexact H7
  rw [hnn]
  unfold winG
  icases HW with ⟨%f, %hf, HW⟩
  iexists f
  isplitr
  · ipureintro; exact good_step hf
  · iexact HW

/-- The first `n` blocks of band `q`. -/
theorem wp_blks (h : k0_cond1 i = 1#1) (A : ℕ → Anc F) (X : S2x16x48.Idx → Elt F .f32) (Y : S4x16x48.Idx → Elt F .f32) (q : Fin 4)
    (n : ℕ) (hn : n ≤ 12) : ∀ k : TProg F i PUnit,
    iprop(pt6 d i X ∗ pt7 d i Y ∗ winG d i q (tgtW A X Y q.val) 0 0)
      ⊢ iprop((iprop(pt6 d i X ∗ pt7 d i Y ∗ winG d i q (tgtW A X Y q.val) n 0) -∗ WP d i k Q)
          -∗ WP d i (blks i a6 a7 a9 q h A n hn k) Q) := by
  induction n with
  | zero =>
    intro k
    iintro H Hk
    iapply Hk; iexact H
  | succ n ih =>
    intro k
    iintro H Hk
    iapply (ih (by omega) (blk i a6 a7 a9 q h (A (n % 3)) (4 * q.val + n / 3) (n % 3) (by omega) (Nat.mod_lt _ (by omega)) k)) $$ H
    iintro H
    iapply (wp_blk d i Q h A X Y q n _ (by omega) k) $$ H
    iexact Hk

end Cert.KernelIdeal.Tile
-- ==== Proof.TileRun.lean ====
/- One tile's whole run: the copies in, the waits, the bands with their copies out, and what the tile ends holding. -/
module

public import proofs.«01_k».proof.Proof.Blocks

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 1) (Elt F) ℕ UU ℕ

/-- The copies' counters, in the right factor of the algebra. -/
abbrev EC : UEmb Counters (MT nD τ sig (HIx 1) (Elt F) ℕ UU ℕ) := countersEmb (U := UU)

omit [FloatOps F] [Named F] in
/-- A separating conjunction over four. -/
theorem bigSep_four (P : Fin 4 → sProp 𝕄) : bigSep Finset.univ P = iprop(P 0 ∗ P 1 ∗ P 2 ∗ P 3) := by
  rw [show (Finset.univ : Finset (Fin 4)) = {0, 1, 2, 3} by decide, SparseCore.bigSep_insert' (by decide), SparseCore.bigSep_insert' (by decide),
    SparseCore.bigSep_insert' (by decide), bigSep_singleton]

variable (d : Dev nD) (i : grid0.Coords) (Q : PUnit.{1} → sProp (MT nD τ sig (HIx 1) (Elt F) ℕ UU ℕ))

/-! ## The copies' cells and deliveries -/

abbrev isem : SemLoc sig := .dma cc0_scratch4.sem
abbrev asem : SemLoc sig := .dma cc0_scratch5.sem
abbrev osem : SemLoc sig := .dma cc0_scratch6.sem

/-- The rows band `q` is copied to, holding what `f` holds there. -/
abbrev outPt (h : k0_cond1 i = 1#1) (q : Fin 4) (f : S20736x8.Idx → Elt F .f32) : sProp 𝕄 :=
  (outWin i a5 q h).view.loc (thr d i) ↦[(outWin i a5 q h).view.set]{fullShare} (f : Buf (Elt F) ((outWin i a5 q h).view.loc (thr d i)))

/-- The result's contents after band `q`'s rows `w` are copied over `f`. -/
abbrev outWr (h : k0_cond1 i = 1#1) (q : Fin 4) (f : S20736x8.Idx → Elt F .f32) (w : Vec F S192x8 .f32) : S20736x8.Idx → Elt F .f32 :=
  (outWin i a5 q h).view.write (Elt F) f w Finset.univ

abbrev shC (q : PosShare TreeShare) (f : S1x18x48x48.Idx → Elt F .f32) : sProp 𝕄 := a2.view.loc (thr d i) ↦{q} (f : Buf (Elt F) (a2.view.loc (thr d i)))
abbrev shR (q : PosShare TreeShare) (f : S1x36x48x48.Idx → Elt F .f32) : sProp 𝕄 := a3.view.loc (thr d i) ↦{q} (f : Buf (Elt F) (a3.view.loc (thr d i)))
abbrev shA (q : PosShare TreeShare) (f : S1508.Idx → Elt F .f32) : sProp 𝕄 := a4.view.loc (thr d i) ↦{q} (f : Buf (Elt F) (a4.view.loc (thr d i)))

/-- What the copies in deliver: a scratch buffer at the words read, and the share of the source back. -/
def DI (h : k0_cond1 i = 1#1) (q : PosShare TreeShare) (fC : S1x18x48x48.Idx → Elt F .f32) (fR : S1x36x48x48.Idx → Elt F .f32) : Fin 2 → sProp 𝕄 :=
  ![iprop(pt6 d i ((srcC i a2 h).view.read (Elt F) fC)
      ∗ ((srcC i a2 h).view.loc (thr d i) ↦[(srcC i a2 h).view.set]{q} (fC : Buf (Elt F) ((srcC i a2 h).view.loc (thr d i))))),
    iprop(pt7 d i ((srcR i a3 h).view.read (Elt F) fR)
      ∗ ((srcR i a3 h).view.loc (thr d i) ↦[(srcR i a3 h).view.set]{q} (fR : Buf (Elt F) ((srcR i a3 h).view.loc (thr d i)))))]

/-- What the copy of the anchor table delivers. -/
def DA (q : PosShare TreeShare) (fA : S1508.Idx → Elt F .f32) : Fin 1 → sProp 𝕄 := fun _ => iprop(pt8 d i fA ∗ shA d i q fA)

/-- What band `q`'s copy out delivers: its rows of the result written, and the window back. -/
def DO (h : k0_cond1 i = 1#1) (fO : S20736x8.Idx → Elt F .f32) (w : ℕ → Vec F S192x8 .f32) : Fin 4 → sProp 𝕄 :=
  fun q => iprop(outPt d i h q (outWr i h q fO (w q.val)) ∗ ∃ f, winPt d i q f)

omit [FloatOps F] [Named F] in
/-- Elements of a buffer may stand in an invariant. -/
theorem pts_storable {ℓ : Loc nD τ sig} (I : Finset (Idx ℓ)) (q : PosShare TreeShare) (f : Buf (Elt F) ℓ) :
    Storable (upEmb : UEmb _ 𝕄) (ℓ ↦[I]{q} f) := inferInstance

omit [FloatOps F] [Named F] in
/-- So may such elements at some contents. -/
theorem ex_storable {α : Type} (Φ : α → sProp 𝕄) (h : ∀ x, Storable (upEmb : UEmb _ 𝕄) (Φ x)) :
    Storable (upEmb : UEmb _ 𝕄) (iprop(∃ x, Φ x)) := inferInstance

instance storableI (h : k0_cond1 i = 1#1) (q : PosShare TreeShare) (fC : S1x18x48x48.Idx → Elt F .f32) (fR : S1x36x48x48.Idx → Elt F .f32) (t : Fin 2) :
    Storable (upEmb : UEmb _ 𝕄) (DI d i h q fC fR t) := by
  fin_cases t
  · refine @Storable.sep _ _ _ _ _ _ _ _ ?_ ?_ <;> exact pts_storable _ _ _
  · refine @Storable.sep _ _ _ _ _ _ _ _ ?_ ?_ <;> exact pts_storable _ _ _

instance storableA (q : PosShare TreeShare) (fA : S1508.Idx → Elt F .f32) (t : Fin 1) :
    Storable (upEmb : UEmb _ 𝕄) (DA d i q fA t) := by unfold DA; infer_instance

instance storableO (h : k0_cond1 i = 1#1) (fO : S20736x8.Idx → Elt F .f32) (w : ℕ → Vec F S192x8 .f32) (t : Fin 4) :
    Storable (upEmb : UEmb _ 𝕄) (DO d i h fO w t) := by
  refine @Storable.sep _ _ _ _ _ _ _ _ ?_ ?_
  · exact pts_storable _ _ _
  · exact ex_storable _ fun f => pts_storable _ _ _

/-- One band's copy's credit. -/
abbrev NO : ℕ := (main_v2_scv : Ref sig .scVector).dmaCredit S192x8 .f32

omit [FloatOps F] [Named F] in
/-- What a copy of a chunk pays its semaphore. -/
theorem credit_out (h : k0_cond1 i = 1#1) (q : Fin 4) : (outWin i a5 q h).view.dmaCredit = NO := rfl

/-! ## A band -/

/-- The copy out of band `q`, its window filled. -/
theorem wp_out (h : k0_cond1 i = 1#1) (q : Fin 4) (fO : S20736x8.Idx → Elt F .f32) (w : ℕ → Vec F S192x8 .f32) (k : TProg F i PUnit) :
    iprop(winG d i q (w q.val) 12 0 ∗ outPt d i h q fO ∗ MixedBatch EC (thr d i) osem none (fun _ => NO) (DO d i h fO w) q.val 0)
      ⊢ iprop((MixedBatch EC (thr d i) osem none (fun _ => NO) (DO d i h fO w) (q.val + 1) 0 -∗ WP d i k Q)
          -∗ WP d i (.op (.enqueueDma (win a9 q) (.here (outWin i a5 q h)) osem (View.wordExact_bits rfl) (View.wordExact_bits rfl) ⟨Or.inl rfl, trivial⟩)
            fun _ => k) Q) := by
  unfold winG
  iintro ⟨⟨%f, %hf, HW⟩, HO, HB⟩ Hk
  iapply (wp_dmaMixedBatch EC 𝒱₀ (thr d i) none (src := win a9 q) (via := ReadAs.same) (dst := outWin i a5 q h) (q := fullShare) (fs := f)
    (Sd := (outWin i a5 q h).view.set) (fd := fO) (D := DO d i h fO w) (j := q.val) (u := 0) none (fun _ => NO) (fun _ hx => hx) q.isLt rfl
    (Nat.zero_le _) ?_) $$ [HW HO HB]
  · show _ ⊢ iprop(outPt d i h q (outWr i h q fO (w q.val)) ∗ ∃ f, winPt d i q f)
    rw [← good_all hf]
    iintro ⟨H1, H2⟩
    isplitl [H1]; · iexact H1
    iexists f; iexact H2
  · isplitl [HW]; · iexact HW
    isplitl [HO]; · iexact HO
    iexact HB
  iexact Hk

/-- Band `q`: its blocks, then its copy out. -/
theorem wp_band (h : k0_cond1 i = 1#1) (A : ℕ → Anc F) (X : S2x16x48.Idx → Elt F .f32) (Y : S4x16x48.Idx → Elt F .f32) (fO : S20736x8.Idx → Elt F .f32)
    (q : Fin 4) (k : TProg F i PUnit) :
    iprop(pt6 d i X ∗ pt7 d i Y ∗ (∃ f, winPt d i q f) ∗ outPt d i h q fO
        ∗ MixedBatch EC (thr d i) osem none (fun _ => NO) (DO d i h fO (tgtW A X Y)) q.val 0)
      ⊢ iprop((iprop(pt6 d i X ∗ pt7 d i Y ∗ MixedBatch EC (thr d i) osem none (fun _ => NO) (DO d i h fO (tgtW A X Y)) (q.val + 1) 0) -∗ WP d i k Q)
          -∗ WP d i (band i a5 a6 a7 a9 cc0_scratch6 q h A k) Q) := by
  unfold band
  iintro ⟨H6, H7, ⟨%f, HW⟩, HO, HB⟩ Hk
  iapply (wp_blks d i Q h A X Y q 12 le_rfl _) $$ [H6 H7 HW]
  · isplitl [H6]; · iexact H6
    isplitl [H7]; · iexact H7
    unfold winG
    iexists f
    isplitr; · ipureintro; exact good_zero _ _
    iexact HW
  iintro ⟨H6, H7, HW⟩
  iapply (wp_out d i Q h q fO (tgtW A X Y) k) $$ [HW HO HB]
  · isplitl [HW]; · iexact HW
    isplitl [HO]; · iexact HO
    iexact HB
  iintro HB
  iapply Hk
  isplitl [H6]; · iexact H6
  isplitl [H7]; · iexact H7
  iexact HB

/-! ## The waits -/

/-- A wait for a band's copy that is not the last. -/
theorem wp_waitOut (h : k0_cond1 i = 1#1) (D : Fin 4 → sProp 𝕄) (q : Fin 4) (u : ℕ) (hu : u + NO ≤ sumTo (fun _ : Fin 4 => NO) 4)
    (O : CellTallies nD τ sig (HIx 1)) (W : Waits sig (HIx 1)) (hO : ∀ g, O g none = 0) (k : TProg F i PUnit) :
    iprop(levAts (K (F := F)).L (K (F := F)).lev ∗ MixedBatch EC (thr d i) osem none (fun _ => NO) D 4 u ∗ owes (thr d i) O W)
      ⊢ iprop((iprop(MixedBatch EC (thr d i) osem none (fun _ => NO) D 4 (u + NO) ∗ owes (thr d i) O (insert (osem, none) W)) -∗ WP d i k Q)
          -∗ WP d i (waitOut i a5 a9 cc0_scratch6 q h k) Q) := by
  unfold waitOut
  iintro ⟨Hlv, HB, HO⟩ Hk
  iapply (wp_waitMixedBatchO EC 𝒱₀ (thr d i) none (dstw := outWin i a5 q h) none (J := NO) rfl hu) $$ [Hlv HB HO]
  · isplitl [HB]; · iexact HB
    isplitl [HO]; · iexact HO
    iapply ((K (F := F)).mayWait_none osem hO); iexact Hlv
  iexact Hk

/-- The last wait for the bands' copies: everything they deliver. -/
theorem wp_waitLast (h : k0_cond1 i = 1#1) (D : Fin 4 → sProp 𝕄) (q : Fin 4) (u : ℕ) (hu : u + NO = sumTo (fun _ : Fin 4 => NO) 4)
    (O : CellTallies nD τ sig (HIx 1)) (W : Waits sig (HIx 1)) (hO : ∀ g, O g none = 0) (k : TProg F i PUnit) :
    iprop(levAts (K (F := F)).L (K (F := F)).lev ∗ MixedBatch EC (thr d i) osem none (fun _ => NO) D 4 u ∗ owes (thr d i) O W)
      ⊢ iprop((iprop(bigSep Finset.univ D ∗ semVal (thr d i, osem) 0 ∗ owes (thr d i) O (insert (osem, none) W)) -∗ WP d i k Q)
          -∗ WP d i (waitOut i a5 a9 cc0_scratch6 q h k) Q) := by
  unfold waitOut
  iintro ⟨Hlv, HB, HO⟩ Hk
  iapply (wp_waitMixedBatchAllO EC 𝒱₀ (thr d i) none (dstw := outWin i a5 q h) none (J := NO) rfl
    (fun _ => View.dmaCredit_pos (outWin i a5 0 h).view (by decide)) hu) $$ [Hlv HB HO]
  · isplitl [HB]; · iexact HB
    isplitl [HO]; · iexact HO
    iapply ((K (F := F)).mayWait_none osem hO); iexact Hlv
  iexact Hk

/-- The bands and the waits for their copies. -/
theorem wp_work (h : k0_cond1 i = 1#1) (A : ℕ → Anc F) (X : S2x16x48.Idx → Elt F .f32) (Y : S4x16x48.Idx → Elt F .f32) (fO : S20736x8.Idx → Elt F .f32)
    (O : CellTallies nD τ sig (HIx 1)) (W : Waits sig (HIx 1)) (hO : ∀ g, O g none = 0) :
    iprop(levAts (K (F := F)).L (K (F := F)).lev ∗ pt6 d i X ∗ pt7 d i Y ∗ bigSep Finset.univ (fun q : Fin 4 => iprop(∃ f, winPt d i q f))
        ∗ bigSep Finset.univ (fun q : Fin 4 => outPt d i h q fO) ∗ semVal (thr d i, osem) 0 ∗ owes (thr d i) O W)
      ⊢ WP d i (work i a5 a6 a7 a9 cc0_scratch6 h A) fun _ => iprop(pt6 d i X ∗ pt7 d i Y ∗ bigSep Finset.univ (DO d i h fO (tgtW A X Y))
          ∗ semVal (thr d i, osem) 0 ∗ ∃ W', ⌜∀ p ∈ W', p ∈ W ∨ p.2 = none⌝ ∗ owes (thr d i) O W') := by
  have h4 : sumTo (fun _ : Fin 4 => NO) 4 = 4 * NO := sumTo_const NO le_rfl
  rw [bigSep_four, bigSep_four]
  unfold work
  iintro ⟨#Hlv, H6, H7, ⟨HW0, HW1, HW2, HW3⟩, ⟨HO0, HO1, HO2, HO3⟩, Hsem, HO⟩
  imod (mixedBatch_alloc' (Lvl := ℕ) EC (thr d i) none (fun _ => NO) (DO d i h fO (tgtW A X Y)) (sm := osem) (E := Set.univ)) $$ Hsem with HB
  iapply (wp_band d i _ h A X Y fO 0 _) $$ [H6 H7 HW0 HO0 HB]
  · isplitl [H6]; · iexact H6
    isplitl [H7]; · iexact H7
    isplitl [HW0]; · iexact HW0
    isplitl [HO0]; · iexact HO0
    iexact HB
  iintro ⟨H6, H7, HB⟩
  iapply (wp_band d i _ h A X Y fO 1 _) $$ [H6 H7 HW1 HO1 HB]
  · isplitl [H6]; · iexact H6
    isplitl [H7]; · iexact H7
    isplitl [HW1]; · iexact HW1
    isplitl [HO1]; · iexact HO1
    iexact HB
  iintro ⟨H6, H7, HB⟩
  iapply (wp_band d i _ h A X Y fO 2 _) $$ [H6 H7 HW2 HO2 HB]
  · isplitl [H6]; · iexact H6
    isplitl [H7]; · iexact H7
    isplitl [HW2]; · iexact HW2
    isplitl [HO2]; · iexact HO2
    iexact HB
  iintro ⟨H6, H7, HB⟩
  iapply (wp_band d i _ h A X Y fO 3 _) $$ [H6 H7 HW3 HO3 HB]
  · isplitl [H6]; · iexact H6
    isplitl [H7]; · iexact H7
    isplitl [HW3]; · iexact HW3
    isplitl [HO3]; · iexact HO3
    iexact HB
  iintro ⟨H6, H7, HB⟩
  iapply (wp_waitOut d i _ h (DO d i h fO (tgtW A X Y)) 0 0 (by omega) O W hO) $$ [HB HO]
  · isplitr; · iexact Hlv
    isplitl [HB]; · iexact HB
    iexact HO
  iintro ⟨HB, HO⟩
  iapply (wp_waitOut d i _ h (DO d i h fO (tgtW A X Y)) 1 (0 + NO) (by omega) O _ hO) $$ [HB HO]
  · isplitr; · iexact Hlv
    isplitl [HB]; · iexact HB
    iexact HO
  iintro ⟨HB, HO⟩
  iapply (wp_waitOut d i _ h (DO d i h fO (tgtW A X Y)) 2 (0 + NO + NO) (by omega) O _ hO) $$ [HB HO]
  · isplitr; · iexact Hlv
    isplitl [HB]; · iexact HB
    iexact HO
  iintro ⟨HB, HO⟩
  iapply (wp_waitLast d i _ h (DO d i h fO (tgtW A X Y)) 3 (0 + NO + NO + NO) (by omega) O _ hO) $$ [HB HO]
  · isplitr; · iexact Hlv
    isplitl [HB]; · iexact HB
    iexact HO
  iintro ⟨HD, Hsem, HO⟩
  unfold WP
  rw [wp_ret]
  imodintro
  isplitl [H6]; · iexact H6
  isplitl [H7]; · iexact H7
  isplitl [HD]; · iexact HD
  isplitl [Hsem]; · iexact Hsem
  iexists _
  isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

/-! ## The whole decoding tile -/

/-- What the tile's bands leave: the anchors of its rows, its scores and deltas, decoded. -/
abbrev tileW (h : k0_cond1 i = 1#1) (fC : S1x18x48x48.Idx → Elt F .f32) (fR : S1x36x48x48.Idx → Elt F .f32) (fA : S1508.Idx → Elt F .f32) : ℕ → Vec F S192x8 .f32 :=
  tgtW (anc3 (ancOf fA (wnum i / 3) 0) (ancOf fA (wnum i / 3) 1) (ancOf fA (wnum i / 3) 2)) ((srcC i a2 h).view.read (Elt F) fC) ((srcR i a3 h).view.read (Elt F) fR)

abbrev NA : ℕ := a8.view.dmaCredit
abbrev NI : Fin 2 → ℕ := ![a6.view.dmaCredit, a7.view.dmaCredit]

/-- A decoding tile's run. -/
theorem wp_decode (h : k0_cond1 i = 1#1) (q : PosShare TreeShare) (fC : S1x18x48x48.Idx → Elt F .f32) (fR : S1x36x48x48.Idx → Elt F .f32)
    (fA : S1508.Idx → Elt F .f32) (fO : S20736x8.Idx → Elt F .f32) (O : CellTallies nD τ sig (HIx 1)) (W : Waits sig (HIx 1)) (hO : ∀ g, O g none = 0) :
    iprop(levAts (K (F := F)).L (K (F := F)).lev ∗ shC d i q fC ∗ shR d i q fR ∗ shA d i q fA ∗ bigSep Finset.univ (fun q : Fin 4 => outPt d i h q fO)
        ∗ (∃ f, pt6 d i f) ∗ (∃ f, pt7 d i f) ∗ (∃ f, pt8 d i f) ∗ bigSep Finset.univ (fun q : Fin 4 => iprop(∃ f, winPt d i q f))
        ∗ semVal (thr d i, isem) 0 ∗ semVal (thr d i, asem) 0 ∗ semVal (thr d i, osem) 0 ∗ owes (thr d i) O W)
      ⊢ WP d i (decode i a2 a3 a4 (Memref.isWhole_whole _) a5 a6 (Memref.isWhole_whole _) a7 (Memref.isWhole_whole _) a8 (Memref.isWhole_whole _) a9
            cc0_scratch4 cc0_scratch5 cc0_scratch6 h)
          fun _ => iprop((shC d i q fC ∗ shR d i q fR ∗ shA d i q fA ∗ bigSep Finset.univ (fun q : Fin 4 => outPt d i h q (outWr i h q fO (tileW i h fC fR fA q.val))))
            ∗ ((∃ f, pt6 d i f) ∗ (∃ f, pt7 d i f) ∗ (∃ f, pt8 d i f) ∗ bigSep Finset.univ (fun q : Fin 4 => iprop(∃ f, winPt d i q f)))
            ∗ (semVal (thr d i, isem) 0 ∗ semVal (thr d i, asem) 0 ∗ semVal (thr d i, osem) 0)
            ∗ ∃ W', ⌜∀ p ∈ W', p ∈ W ∨ p.2 = none⌝ ∗ owes (thr d i) O W') := by
  unfold decode
  iintro ⟨#Hlv, HC, HR, HA, HOut, ⟨%f6, H6⟩, ⟨%f7, H7⟩, ⟨%f8, H8⟩, HWin, Hi, Ha, Hs, HO⟩
  imod (mixedBatch_alloc' (Lvl := ℕ) EC (thr d i) none (fun _ => NA) (DA d i q fA) (sm := asem) (E := Set.univ)) $$ Ha with HBa
  imod (mixedBatch_alloc' (Lvl := ℕ) EC (thr d i) none NI (DI d i h q fC fR) (sm := isem) (E := Set.univ)) $$ Hi with HBi
  -- the anchor table's copy
  ihave HA' := (Entails.of_eq (show shA d i q fA = (a4.view.loc (thr d i) ↦[a4.view.set]{q} fA : sProp 𝕄) by simp only [Memref.view_whole, View.set_whole])) $$ HA
  iapply (wp_dmaMixedBatch EC 𝒱₀ (thr d i) none (src := a4) (via := ReadAs.same) (dst := a8) (q := q) (fs := fA)
    (Sd := Finset.univ) (fd := f8) (D := DA d i q fA) (j := 0) (u := 0) none (fun _ => NA) (Finset.subset_univ _) Nat.zero_lt_one rfl
    (Nat.zero_le _) ?_) $$ [HA' H8 HBa]
  · unfold DA
    iintro ⟨H1, H2⟩
    isplitl [H1]
    · iapply (Entails.of_eq (congrArg (fun f => (a8.view.loc (thr d i) ↦{fullShare} f : sProp 𝕄)) (View.write_whole_univ (Val := Elt F) cc0_scratch2 f8 fA)))
      iexact H1
    · iapply (Entails.of_eq (show (a4.view.loc (thr d i) ↦[a4.view.set]{q} fA : sProp 𝕄) = shA d i q fA by simp only [Memref.view_whole, View.set_whole]))
      iexact H2
  · isplitl [HA']; · iexact HA'
    isplitl [H8]; · iexact H8
    iexact HBa
  iintro HBa
  -- the scores' and the deltas' copies
  ihave HC' := (pointsTo_split_subset (Finset.subset_univ (srcC i a2 h).view.set)).1 $$ HC
  icases HC' with ⟨HC, HCr⟩
  iapply (wp_dmaMixedBatch EC 𝒱₀ (thr d i) none (src := srcC i a2 h) (via := ReadAs.same) (dst := a6) (q := q) (fs := fC)
    (Sd := Finset.univ) (fd := f6) (D := DI d i h q fC fR) (j := 0) (u := 0) none NI (Finset.subset_univ _) (by omega) rfl
    (Nat.zero_le _) ?_) $$ [HC H6 HBi]
  · show _ ⊢ iprop(_ ∗ _)
    iintro ⟨H1, H2⟩
    isplitl [H1]
    · iapply (Entails.of_eq (congrArg (fun f => (a6.view.loc (thr d i) ↦{fullShare} f : sProp 𝕄))
        (View.write_whole_univ (Val := Elt F) cc0_scratch0 f6 ((srcC i a2 h).view.read (Elt F) fC))))
      iexact H1
    · iexact H2
  · isplitl [HC]; · iexact HC
    isplitl [H6]; · iexact H6
    iexact HBi
  iintro HBi
  ihave HR' := (pointsTo_split_subset (Finset.subset_univ (srcR i a3 h).view.set)).1 $$ HR
  icases HR' with ⟨HR, HRr⟩
  iapply (wp_dmaMixedBatch EC 𝒱₀ (thr d i) none (src := srcR i a3 h) (via := ReadAs.same) (dst := a7) (q := q) (fs := fR)
    (Sd := Finset.univ) (fd := f7) (D := DI d i h q fC fR) (j := 1) (u := 0) none NI (Finset.subset_univ _) (by omega) rfl
    (Nat.zero_le _) ?_) $$ [HR H7 HBi]
  · show _ ⊢ iprop(_ ∗ _)
    iintro ⟨H1, H2⟩
    isplitl [H1]
    · iapply (Entails.of_eq (congrArg (fun f => (a7.view.loc (thr d i) ↦{fullShare} f : sProp 𝕄))
        (View.write_whole_univ (Val := Elt F) cc0_scratch1 f7 ((srcR i a3 h).view.read (Elt F) fR))))
      iexact H1
    · iexact H2
  · isplitl [HR]; · iexact HR
    isplitl [H7]; · iexact H7
    iexact HBi
  iintro HBi
  -- the wait for the table, and its indexed loads
  iapply (wp_waitMixedBatchAllO EC 𝒱₀ (thr d i) none (dstw := a8) none (A := fun _ : Fin 1 => NA) (J := NA) (D := DA d i q fA) (u := 0) rfl
    (fun _ => View.dmaCredit_pos a8.view (by decide)) (by rw [sumTo_const NA (n := 1) le_rfl]; omega)) $$ [HBa HO]
  · isplitl [HBa]; · iexact HBa
    isplitl [HO]; · iexact HO
    iapply ((K (F := F)).mayWait_none asem hO); iexact Hlv
  iintro ⟨HD, Ha, HO⟩
  ihave HD' := (Entails.of_eq (show bigSep Finset.univ (DA d i q fA) = iprop(pt8 d i fA ∗ shA d i q fA) by
    rw [show (Finset.univ : Finset (Fin 1)) = {0} by decide, bigSep_singleton]; rfl)) $$ HD
  icases HD' with ⟨H8, HA⟩
  iapply (wp_gaths d i _ h fA (g := 0) (by omega) _) $$ H8; iintro H8
  iapply (wp_gaths d i _ h fA (g := 1) (by omega) _) $$ H8; iintro H8
  iapply (wp_gaths d i _ h fA (g := 2) (by omega) _) $$ H8; iintro H8
  -- the waits for the scores and the deltas
  iapply (wp_waitMixedBatchO EC 𝒱₀ (thr d i) none (srcw := srcC i a2 h) (hsrc := (View.wordExact_bits rfl).reshape _ _) (hdst := (Memref.isWhole_whole _).wordExact)
    (dstw := a6) none (J := a6.view.dmaCredit) (A := NI) (D := DI d i h q fC fR) (j := 2) (u := 0) rfl
    (by show 0 + _ ≤ 0 + _ + _; exact Nat.le_add_right _ _)) $$ [HBi HO]
  · isplitl [HBi]; · iexact HBi
    isplitl [HO]; · iexact HO
    iapply ((K (F := F)).mayWait_none isem hO); iexact Hlv
  iintro ⟨HBi, HO⟩
  iapply (wp_waitMixedBatchAllO EC 𝒱₀ (thr d i) none (srcw := srcR i a3 h) (hsrc := (View.wordExact_bits rfl).reshape _ _) (hdst := (Memref.isWhole_whole _).wordExact)
    (dstw := a7) none (J := a7.view.dmaCredit) (A := NI) (D := DI d i h q fC fR) (u := 0 + a6.view.dmaCredit) rfl
    (fun t => by fin_cases t <;> exact View.dmaCredit_pos _ (by decide)) rfl) $$ [HBi HO]
  · isplitl [HBi]; · iexact HBi
    isplitl [HO]; · iexact HO
    iapply ((K (F := F)).mayWait_none isem hO); iexact Hlv
  iintro ⟨HD, Hi, HO⟩
  ihave HD' := (Entails.of_eq (show bigSep Finset.univ (DI d i h q fC fR) = iprop(DI d i h q fC fR 0 ∗ DI d i h q fC fR 1) from bigSep_fin_two _)) $$ HD
  icases HD' with ⟨HD0, HD1⟩
  ihave HD0' := (Entails.of_eq (show DI d i h q fC fR 0 = iprop(pt6 d i ((srcC i a2 h).view.read (Elt F) fC)
      ∗ ((srcC i a2 h).view.loc (thr d i) ↦[(srcC i a2 h).view.set]{q} (fC : Buf (Elt F) ((srcC i a2 h).view.loc (thr d i))))) from rfl)) $$ HD0
  ihave HD1' := (Entails.of_eq (show DI d i h q fC fR 1 = iprop(pt7 d i ((srcR i a3 h).view.read (Elt F) fR)
      ∗ ((srcR i a3 h).view.loc (thr d i) ↦[(srcR i a3 h).view.set]{q} (fR : Buf (Elt F) ((srcR i a3 h).view.loc (thr d i))))) from rfl)) $$ HD1
  icases HD0' with ⟨H6, HC⟩
  icases HD1' with ⟨H7, HR⟩
  ihave HCw := (show iprop(((srcC i a2 h).view.loc (thr d i) ↦[(srcC i a2 h).view.set]{q} fC)
      ∗ (a2.view.loc (thr d i) ↦[Finset.univ \ (srcC i a2 h).view.set]{q} fC)) ⊢ shC d i q fC
    from (pointsTo_split_subset (ℓ := a2.view.loc (thr d i)) (Finset.subset_univ (srcC i a2 h).view.set)).2) $$ [HC HCr]
  · isplitl [HC]; · iexact HC
    iexact HCr
  ihave HRw := (show iprop(((srcR i a3 h).view.loc (thr d i) ↦[(srcR i a3 h).view.set]{q} fR)
      ∗ (a3.view.loc (thr d i) ↦[Finset.univ \ (srcR i a3 h).view.set]{q} fR)) ⊢ shR d i q fR
    from (pointsTo_split_subset (ℓ := a3.view.loc (thr d i)) (Finset.subset_univ (srcR i a3 h).view.set)).2) $$ [HR HRr]
  · isplitl [HR]; · iexact HR
    iexact HRr
  -- the bands
  ihave HWk := (wp_work d i h (anc3 (ancOf fA (wnum i / 3) 0) (ancOf fA (wnum i / 3) 1) (ancOf fA (wnum i / 3) 2)) ((srcC i a2 h).view.read (Elt F) fC)
    ((srcR i a3 h).view.read (Elt F) fR) fO O _ hO) $$ [H6 H7 HWin HOut Hs HO]
  · isplitr; · iexact Hlv
    isplitl [H6]; · iexact H6
    isplitl [H7]; · iexact H7
    isplitl [HWin]; · iexact HWin
    isplitl [HOut]; · iexact HOut
    isplitl [Hs]; · iexact Hs
    iexact HO
  iapply (wp_wand frame (wpE (defs₀ (F := F)) 𝒱₀ (thr d i) none) Set.univ) $$ HWk
  iintro %a ⟨H6, H7, HD, Hs, ⟨%W', %hW', HO⟩⟩
  ihave HD' := (Entails.of_eq (show bigSep Finset.univ (DO d i h fO (tileW i h fC fR fA))
    = iprop(bigSep Finset.univ (fun q : Fin 4 => outPt d i h q (outWr i h q fO (tileW i h fC fR fA q.val))) ∗ bigSep Finset.univ (fun q : Fin 4 => iprop(∃ f, winPt d i q f)))
    from bigSep_sep _ _ _)) $$ HD
  icases HD' with ⟨HOut, HWin⟩
  isplitl [HCw HRw HA HOut]
  · isplitl [HCw]; · iexact HCw
    isplitl [HRw]; · iexact HRw
    isplitl [HA]; · iexact HA
    iexact HOut
  isplitl [H6 H7 H8 HWin]
  · isplitl [H6]; · iexists _; iexact H6
    isplitl [H7]; · iexists _; iexact H7
    isplitl [H8]; · iexists _; iexact H8
    iexact HWin
  isplitl [Hi Ha Hs]
  · isplitl [Hi]; · iexact Hi
    isplitl [Ha]; · iexact Ha
    iexact Hs
  iexists W'
  isplitr
  · ipureintro
    intro p hp
    rcases hW' p hp with hp | hp
    · simp only [Finset.mem_insert] at hp
      rcases hp with rfl | rfl | rfl | hp
      · exact .inr rfl
      · exact .inr rfl
      · exact .inr rfl
      · exact .inl hp
    · exact .inr hp
  · iexact HO

end Cert.KernelIdeal.Tile
-- ==== Proof.Out.lean ====
/- The result as one function of the arguments, the tiles' shares of it, and a tile's task as the launch asks it. -/
module

public import proofs.«01_k».proof.Proof.TileRun

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 1) (Elt F) ℕ UU ℕ

/-! ## The result -/

/-- Tile `n`'s scores. -/
def XC (fC : S1x18x48x48.Idx → Elt F .f32) (n : ℕ) : S2x16x48.Idx → Elt F .f32 :=
  fun y => fC (ix S1x18x48x48 ![0, 2 * (n / 3) + (y 0).val, 16 * (n % 3) + (y 1).val, (y 2).val])

/-- Tile `n`'s deltas. -/
def XR (fR : S1x36x48x48.Idx → Elt F .f32) (n : ℕ) : S4x16x48.Idx → Elt F .f32 :=
  fun y => fR (ix S1x36x48x48 ![0, 4 * (n / 3) + (y 0).val, 16 * (n % 3) + (y 1).val, (y 2).val])

/-- The rows tile `n` writes in band `q`. -/
def rowsW (fC : S1x18x48x48.Idx → Elt F .f32) (fR : S1x36x48x48.Idx → Elt F .f32) (fA : S1508.Idx → Elt F .f32) (n : ℕ) : ℕ → Vec F S192x8 .f32 :=
  tgtW (anc3 (ancOf fA (n / 3) 0) (ancOf fA (n / 3) 1) (ancOf fA (n / 3) 2)) (XC fC n) (XR fR n)

/-- The whole result. -/
def OUT (fC : S1x18x48x48.Idx → Elt F .f32) (fR : S1x36x48x48.Idx → Elt F .f32) (fA : S1508.Idx → Elt F .f32) : S20736x8.Idx → Elt F .f32 :=
  fun x => rowsW fC fR fA ((x 0).val / 768) ((x 0).val / 192 % 4) (ix S192x8 ![(x 0).val % 192, (x 1).val])

variable (d : Dev nD) (i : grid0.Coords)

omit [FloatOps F] [Named F] in
/-- What the copy in reads is the tile's part of the argument. -/
theorem read_srcC (h : k0_cond1 i = 1#1) (fC : S1x18x48x48.Idx → Elt F .f32) : (srcC i a2 h).view.read (Elt F) fC = XC fC (wnum i) := by
  funext y
  have hy0 : (y 0).val < 2 := (y 0).isLt
  have hy1 : (y 1).val < 16 := (y 1).isLt
  have hy2 : (y 2).val < 48 := (y 2).isLt
  have hr : Shape.reshapeEquiv (squeezes_S1x2x16x48_S2x16x48.numel_eq) y = ix S1x2x16x48 ![0, (y 0).val, (y 1).val, (y 2).val] := by
    refine Shape.reshapeEquiv_eq_of_rowMajor _ ?_
    rw [Shape.rowMajor_val_four, Shape.rowMajor_val_three]
    show ((0 % 1 * 2 + (y 0).val % 2) * 16 + (y 1).val % 16) * 48 + (y 2).val % 48 = ((y 0).val * 16 + (y 1).val) * 48 + (y 2).val
    omega
  have e : ((srcC i a2 h).view.emb y : S1x18x48x48.Idx)
      = (Rect.unit (s := S1x18x48x48) (k0_off1 i) S1x2x16x48.size (k0_off1_inb i h)).emb (ix S1x2x16x48 ![0, (y 0).val, (y 1).val, (y 2).val]) :=
    congrArg (Rect.unit (s := S1x18x48x48) (k0_off1 i) S1x2x16x48.size (k0_off1_inb i h)).emb hr
  refine Eq.trans (show (srcC i a2 h).view.read (Elt F) fC y = fC ((srcC i a2 h).view.emb y) from rfl) ?_
  unfold XC
  refine congrArg fC (e.trans (eq_ix fun a => ?_))
  refine Eq.trans (congrArg (· + 1 * _) (congrFun (off1_eq i h) a) : k0_off1 i a + 1 * _ = _) ?_
  fin_cases a
  · rfl
  · show 2 * (wnum i / 3) + 1 * ((y 0).val % 2) = 2 * (wnum i / 3) + (y 0).val
    omega
  · show 16 * (wnum i % 3) + 1 * ((y 1).val % 16) = 16 * (wnum i % 3) + (y 1).val
    omega
  · show 0 + 1 * ((y 2).val % 48) = (y 2).val
    omega

omit [FloatOps F] [Named F] in
/-- What the copy in reads is the tile's part of the argument. -/
theorem read_srcR (h : k0_cond1 i = 1#1) (fR : S1x36x48x48.Idx → Elt F .f32) : (srcR i a3 h).view.read (Elt F) fR = XR fR (wnum i) := by
  funext y
  have hy0 : (y 0).val < 4 := (y 0).isLt
  have hy1 : (y 1).val < 16 := (y 1).isLt
  have hy2 : (y 2).val < 48 := (y 2).isLt
  have hr : Shape.reshapeEquiv (squeezes_S1x4x16x48_S4x16x48.numel_eq) y = ix S1x4x16x48 ![0, (y 0).val, (y 1).val, (y 2).val] := by
    refine Shape.reshapeEquiv_eq_of_rowMajor _ ?_
    rw [Shape.rowMajor_val_four, Shape.rowMajor_val_three]
    show ((0 % 1 * 4 + (y 0).val % 4) * 16 + (y 1).val % 16) * 48 + (y 2).val % 48 = ((y 0).val * 16 + (y 1).val) * 48 + (y 2).val
    omega
  have e : ((srcR i a3 h).view.emb y : S1x36x48x48.Idx)
      = (Rect.unit (s := S1x36x48x48) (k0_off2 i) S1x4x16x48.size (k0_off2_inb i h)).emb (ix S1x4x16x48 ![0, (y 0).val, (y 1).val, (y 2).val]) :=
    congrArg (Rect.unit (s := S1x36x48x48) (k0_off2 i) S1x4x16x48.size (k0_off2_inb i h)).emb hr
  refine Eq.trans (show (srcR i a3 h).view.read (Elt F) fR y = fR ((srcR i a3 h).view.emb y) from rfl) ?_
  unfold XR
  refine congrArg fR (e.trans (eq_ix fun a => ?_))
  refine Eq.trans (congrArg (· + 1 * _) (congrFun (off2_eq i h) a) : k0_off2 i a + 1 * _ = _) ?_
  fin_cases a
  · rfl
  · show 4 * (wnum i / 3) + 1 * ((y 0).val % 4) = 4 * (wnum i / 3) + (y 0).val
    omega
  · show 16 * (wnum i % 3) + 1 * ((y 1).val % 16) = 16 * (wnum i % 3) + (y 1).val
    omega
  · show 0 + 1 * ((y 2).val % 48) = (y 2).val
    omega

/-- The rows of the result band `q` of tile `n` writes. -/
def chunkSet (n : ℕ) (q : Fin 4) : Finset S20736x8.Idx := Finset.univ.filter fun x => (x 0).val / 192 = 4 * n + q.val

/-- The rows of the result tile `n` writes. -/
def tileSet (n : ℕ) : Finset S20736x8.Idx := Finset.univ.filter fun x => (x 0).val / 768 = n

/-- The rows of the row buffer band `q` fills. -/
def winSet (q : Fin 4) : Finset S768x8.Idx := Finset.univ.filter fun x => (x 0).val / 192 = q.val

/-- The elements of a window of the row buffer. -/
theorem set_win (q : Fin 4) : (win a9 q).view.set = winSet q := by
  unfold win
  refine Eq.trans (View.set_slice_whole cc0_scratch3 (Rect.unit (s := S768x8) ![192 * q.val, 0] S192x8.size (inbW q))) ?_
  ext x
  have h1 : (x 1).val < 8 := (x 1).isLt
  rw [Rect.mem_set_unit]
  unfold winSet
  simp only [Finset.mem_filter, Finset.mem_univ, true_and]
  refine (Fin.forall_fin_two (p := fun a : Fin 2 => ![192 * q.val, 0] a ≤ (x a).val ∧ (x a).val < ![192 * q.val, 0] a + S192x8.size a)).trans ?_
  show (192 * q.val ≤ (x 0).val ∧ (x 0).val < 192 * q.val + 192) ∧ (0 ≤ (x 1).val ∧ (x 1).val < 0 + 8) ↔ _
  omega

/-- The elements of a chunk of the result. -/
theorem set_outWin (h : k0_cond1 i = 1#1) (q : Fin 4) : (outWin i a5 q h).view.set = chunkSet (wnum i) q := by
  unfold outWin
  refine Eq.trans (View.set_slice_whole main_v2_scv (Rect.unit (s := S20736x8) (k0_off8 i (BitVec.ofNat 32 (3 + 4 * q.val))) S192x8.size (k0_off8_inb i h q))) ?_
  ext x
  have h1 : (x 1).val < 8 := (x 1).isLt
  rw [Rect.mem_set_unit]
  unfold chunkSet
  simp only [Finset.mem_filter, Finset.mem_univ, true_and]
  rw [off8_eq i h q]
  refine (Fin.forall_fin_two (p := fun a : Fin 2 => ![768 * wnum i + 192 * q.val, 0] a ≤ (x a).val ∧ (x a).val < ![768 * wnum i + 192 * q.val, 0] a + S192x8.size a)).trans ?_
  show (768 * wnum i + 192 * q.val ≤ (x 0).val ∧ (x 0).val < 768 * wnum i + 192 * q.val + 192) ∧ (0 ≤ (x 1).val ∧ (x 1).val < 0 + 8) ↔ _
  omega

/-- Where a row of the window lands in the result. -/
theorem emb_outWin (h : k0_cond1 i = 1#1) (q : Fin 4) (y : S192x8.Idx) :
    (outWin i a5 q h).view.emb y = ix S20736x8 ![768 * wnum i + 192 * q.val + (y 0).val, (y 1).val] := by
  refine eq_ix (s := S20736x8) fun a => ?_
  refine Eq.trans (congrArg (· + 1 * _) (congrFun (off8_eq i h q) a) : k0_off8 i (BitVec.ofNat 32 (3 + 4 * q.val)) a + 1 * _ = _) ?_
  fin_cases a
  · show 768 * wnum i + 192 * q.val + 1 * (y 0).val = 768 * wnum i + 192 * q.val + (y 0).val
    omega
  · show 0 + 1 * (y 1).val = (y 1).val
    omega

/-- What band `q`'s copy leaves is the result's rows. -/
theorem outWr_eq (h : k0_cond1 i = 1#1) (q : Fin 4) (fC : S1x18x48x48.Idx → Elt F .f32) (fR : S1x36x48x48.Idx → Elt F .f32) (fA : S1508.Idx → Elt F .f32)
    (fO : S20736x8.Idx → Elt F .f32) (x : S20736x8.Idx) (hx : x ∈ (outWin i a5 q h).view.set) :
    outWr i h q fO (tileW i h fC fR fA q.val) x = OUT fC fR fA x := by
  obtain ⟨y, -, hy⟩ := Finset.mem_map.mp hx
  have hy0 : (y 0).val < 192 := (y 0).isLt
  have hy1 : (y 1).val < 8 := (y 1).isLt
  have hn := wnum_lt i h
  have hq := q.isLt
  have hL : outWr i h q fO (tileW i h fC fR fA q.val) x = tileW i h fC fR fA q.val y := by
    rw [← hy]
    exact View.write_emb_of_mem (v := (outWin i a5 q h).view) (Val := Elt F) fO (tileW i h fC fR fA q.val) (Finset.mem_univ y)
  have hR : x = ix S20736x8 ![768 * wnum i + 192 * q.val + (y 0).val, (y 1).val] := hy.symm.trans (emb_outWin i h q y)
  have e0 : (x 0).val = 768 * wnum i + 192 * q.val + (y 0).val := by
    rw [hR]; exact Nat.mod_eq_of_lt (show 768 * wnum i + 192 * q.val + (y 0).val < 20736 by omega)
  have e1 : (x 1).val = (y 1).val := by
    rw [hR]; exact Nat.mod_eq_of_lt hy1
  rw [hL]
  unfold OUT rowsW tileW
  rw [e0, e1, show (768 * wnum i + 192 * q.val + (y 0).val) / 768 = wnum i by omega, show (768 * wnum i + 192 * q.val + (y 0).val) / 192 % 4 = q.val by omega,
    show (768 * wnum i + 192 * q.val + (y 0).val) % 192 = (y 0).val by omega, read_srcC, read_srcR]
  refine congrArg _ (eq_ix fun a => ?_)
  fin_cases a <;> rfl

end Cert.KernelIdeal.Tile
-- ==== Proof.Tile.lean ====
/- A tile's task as the launch asks it: from the tile's shares of the arguments and its rows of the result, with its own
   scratch buffers and semaphores, to the same shares and its rows at the result. -/
module

public import proofs.«01_k».proof.Proof.Out

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 1) (Elt F) ℕ UU ℕ

variable (d : Dev nD) (i : grid0.Coords)

/-! ## The arrays, and a tile's part of them -/

abbrev cLoc (d : Dev nD) : Loc nD τ sig := (SparseCore.T d).loc main_arg0
abbrev rLoc (d : Dev nD) : Loc nD τ sig := (SparseCore.T d).loc main_arg1
abbrev tLoc (d : Dev nD) : Loc nD τ sig := (SparseCore.T d).loc main_v1
abbrev oLoc (d : Dev nD) : Loc nD τ sig := (SparseCore.T d).loc main_v2

/-- A share of the three arrays a tile reads. -/
abbrev rdPts (d : Dev nD) (q : PosShare TreeShare) (fC : S1x18x48x48.Idx → Elt F .f32) (fR : S1x36x48x48.Idx → Elt F .f32) (fA : S1508.Idx → Elt F .f32) : sProp 𝕄 :=
  iprop((cLoc d ↦{q} (fC : Buf (Elt F) (cLoc d))) ∗ (rLoc d ↦{q} (fR : Buf (Elt F) (rLoc d))) ∗ (tLoc d ↦{q} (fA : Buf (Elt F) (tLoc d))))

/-- Tile `n`'s rows of the result, holding what `f` holds there. -/
abbrev rowPts (d : Dev nD) (n : ℕ) (f : S20736x8.Idx → Elt F .f32) : sProp 𝕄 := oLoc d ↦[tileSet n]{fullShare} (f : Buf (Elt F) (oLoc d))

omit [FloatOps F] [Named F] in
/-- A tile's rows are its four bands'. -/
theorem rowPts_bands (h : k0_cond1 i = 1#1) (f : S20736x8.Idx → Elt F .f32) :
    (rowPts d (wnum i) f : sProp 𝕄) = bigSep Finset.univ fun q : Fin 4 => outPt d i h q f := by
  have hd : ∀ a ∈ (Finset.univ : Finset (Fin 4)), ∀ b ∈ (Finset.univ : Finset (Fin 4)), a ≠ b → Disjoint (chunkSet (wnum i) a) (chunkSet (wnum i) b) := by
    intro a _ b _ hab
    refine Finset.disjoint_left.mpr fun x hx hy => hab (Fin.ext ?_)
    have h1 := (Finset.mem_filter.mp hx).2
    have h2 := (Finset.mem_filter.mp hy).2
    omega
  have hc : tileSet (wnum i) = (Finset.univ : Finset (Fin 4)).biUnion (chunkSet (wnum i)) := by
    ext x
    unfold tileSet chunkSet
    simp only [Finset.mem_filter, Finset.mem_univ, true_and, Finset.mem_biUnion]
    constructor
    · intro hx
      refine ⟨⟨(x 0).val / 192 % 4, by omega⟩, ?_⟩
      show (x 0).val / 192 = 4 * wnum i + (x 0).val / 192 % 4
      omega
    · rintro ⟨q, hq⟩
      have := q.isLt
      omega
  unfold rowPts
  rw [hc]
  refine (pointsTo_biUnion Finset.univ (ℓ := oLoc d) (chunkSet (wnum i)) hd).trans (bigSep_congr fun q _ => ?_)
  show _ = (outWin i a5 q h).view.loc (thr d i) ↦[(outWin i a5 q h).view.set]{fullShare} (f : Buf (Elt F) ((outWin i a5 q h).view.loc (thr d i)))
  rw [set_outWin]
  rfl

/-- The bands written are the tile's rows of the result. -/
theorem bands_out (h : k0_cond1 i = 1#1) (fC : S1x18x48x48.Idx → Elt F .f32) (fR : S1x36x48x48.Idx → Elt F .f32) (fA : S1508.Idx → Elt F .f32)
    (fO : S20736x8.Idx → Elt F .f32) :
    (bigSep Finset.univ fun q : Fin 4 => outPt d i h q (outWr i h q fO (tileW i h fC fR fA q.val)) : sProp 𝕄) = rowPts d (wnum i) (OUT fC fR fA) := by
  rw [rowPts_bands d i h]
  exact bigSep_congr fun q _ => pointsTo_congr fun x hx => outWr_eq i h q fC fR fA fO x hx

/-- The windows share no row. -/
theorem wins_disjoint : ∀ a ∈ (Finset.univ : Finset (Fin 4)), ∀ b ∈ (Finset.univ : Finset (Fin 4)), a ≠ b → Disjoint (winSet a) (winSet b) := by
  intro a _ b _ hab
  refine Finset.disjoint_left.mpr fun x hx hy => hab (Fin.ext ?_)
  have h1 := (Finset.mem_filter.mp hx).2
  have h2 := (Finset.mem_filter.mp hy).2
  omega

/-- The windows are all the rows. -/
theorem wins_cover : (Finset.univ : Finset (Fin 4)).biUnion winSet = Finset.univ := by
  ext x
  have hx : (x 0).val < 768 := (x 0).isLt
  unfold winSet
  simp only [Finset.mem_filter, Finset.mem_univ, true_and, Finset.mem_biUnion, iff_true]
  exact ⟨⟨(x 0).val / 192, by omega⟩, rfl⟩

omit [FloatOps F] [Named F] in
/-- The row buffer, at some contents, is its four windows. -/
theorem wins_of (f : S768x8.Idx → Elt F .f32) :
    ((thr d i).loc cc0_scratch3 ↦{fullShare} (f : Buf (Elt F) ((thr d i).loc cc0_scratch3)) : sProp 𝕄) = bigSep Finset.univ fun q : Fin 4 => (thr d i).loc cc0_scratch3 ↦[winSet q]{fullShare} (f : Buf (Elt F) ((thr d i).loc cc0_scratch3)) := by
  rw [← pointsTo_biUnion Finset.univ (ℓ := (thr d i).loc cc0_scratch3) winSet wins_disjoint, wins_cover]

omit [FloatOps F] [Named F] in
/-- A window is its rows of the row buffer. -/
theorem winPt_eq (q : Fin 4) (f : S768x8.Idx → Elt F .f32) :
    (winPt d i q f : sProp 𝕄) = ((thr d i).loc cc0_scratch3 ↦[winSet q]{fullShare} (f : Buf (Elt F) ((thr d i).loc cc0_scratch3))) := by
  unfold winPt
  rw [set_win]
  rfl

omit [FloatOps F] [Named F] in
/-- The row buffer at some contents is each of its windows at some contents. -/
theorem wins_split : (iprop(∃ f, (thr d i).loc cc0_scratch3 ↦{fullShare} f) : sProp 𝕄) ⊢ bigSep Finset.univ fun q : Fin 4 => iprop(∃ f, winPt d i q f) := by
  iintro ⟨%f, H⟩
  ihave H' := (Entails.of_eq (wins_of d i f)) $$ H
  have hw : (bigSep Finset.univ fun q : Fin 4 => (thr d i).loc cc0_scratch3 ↦[winSet q]{fullShare} (f : Buf (Elt F) ((thr d i).loc cc0_scratch3)) : sProp 𝕄)
      ⊢ bigSep Finset.univ fun q : Fin 4 => iprop(∃ f, winPt d i q f) := by
    refine bigSep_mono fun q _ => ?_
    rw [← winPt_eq d i q f]
    show (winPt d i q f : sProp 𝕄) ⊢ iprop(∃ f, winPt d i q f)
    iintro H
    iexists f
    iexact H
  iapply hw
  iexact H'

omit [Named F] in
/-- And back. -/
theorem wins_join : (bigSep Finset.univ fun q : Fin 4 => iprop(∃ f, winPt d i q f) : sProp 𝕄) ⊢ iprop(∃ f, (thr d i).loc cc0_scratch3 ↦{fullShare} f) := by
  haveI : Nonempty (S768x8.Idx → Elt F .f32) := ⟨fun _ => FloatOps.ofBits .f32 0⟩
  refine (bigSep_exists_pi Finset.univ (fun q (f : S768x8.Idx → Elt F .f32) => winPt d i q f)).trans ?_
  iintro ⟨%fs, H⟩
  ihave H1 := (Entails.of_eq (show (bigSep Finset.univ fun q : Fin 4 => winPt d i q (fs q) : sProp 𝕄)
      = bigSep Finset.univ fun q : Fin 4 => (thr d i).loc cc0_scratch3 ↦[winSet q]{fullShare} (fs q : Buf (Elt F) ((thr d i).loc cc0_scratch3)) from
    bigSep_congr fun q _ => winPt_eq d i q (fs q))) $$ H
  ihave H' := (pointsTo_biUnion_join Finset.univ (ℓ := (thr d i).loc cc0_scratch3) winSet fs (fs 0) wins_disjoint) $$ H1
  icases H' with ⟨%g, -, Hg⟩
  rw [wins_cover]
  iexists g; iexact Hg

/-! ## The tile's own semaphores and buffers -/

omit [FloatOps F] [Named F] in
/-- The three copies' semaphores are among the tile's own. -/
theorem ownSems0_tile :
    (ownSems0 (thr d i) : sProp 𝕄)
      = iprop(semVal (thr d i, isem) 0 ∗ semVal (thr d i, asem) 0 ∗ semVal (thr d i, osem) 0
          ∗ bigSep ((((ownCells (thr d i)).erase (thr d i, isem)).erase (thr d i, asem)).erase (thr d i, osem)) fun g => semVal g 0) := by
  have m1 : (thr d i, isem) ∈ ownCells (thr d i) := mem_ownCells.mpr ⟨rfl, by show isem.isScoped .scVector = true; decide⟩
  have m2 : (thr d i, asem) ∈ ownCells (thr d i) := mem_ownCells.mpr ⟨rfl, by show asem.isScoped .scVector = true; decide⟩
  have m3 : (thr d i, osem) ∈ ownCells (thr d i) := mem_ownCells.mpr ⟨rfl, by show osem.isScoped .scVector = true; decide⟩
  have n1 : (thr d i, asem) ≠ (thr d i, isem) := fun e => absurd (Prod.mk.inj e).2 (by decide)
  have n2 : (thr d i, osem) ≠ (thr d i, isem) := fun e => absurd (Prod.mk.inj e).2 (by decide)
  have n3 : (thr d i, osem) ≠ (thr d i, asem) := fun e => absurd (Prod.mk.inj e).2 (by decide)
  unfold SparseCore.Cfg.ownSems0
  rw [SparseCore.bigSep_erase' m1, SparseCore.bigSep_erase' (Finset.mem_erase.mpr ⟨n1, m2⟩),
    SparseCore.bigSep_erase' (Finset.mem_erase.mpr ⟨n3, Finset.mem_erase.mpr ⟨n2, m3⟩⟩)]

/-- The tile's name for a buffer of its own. -/
abbrev devB (b : Ref sig .scVector) : DevRef τ sig := (Proc.scVector (cV i) (jV i)).devRef b

omit [FloatOps F] [Named F] in
/-- The four scratch buffers are among the tile's own. -/
theorem ownBufs_tile :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (jV i))).erase (devB i cc0_scratch0)).erase (devB i cc0_scratch1)).erase (devB i cc0_scratch2)).erase (devB i cc0_scratch3))
              fun b => iprop(∃ f, ((d, b) : Loc nD τ sig) ↦{fullShare} f)) := by
  have mem : ∀ b : Ref sig .scVector, b ∈ ({cc0_scratch0, cc0_scratch1, cc0_scratch2, cc0_scratch3} : Finset (Ref sig .scVector)) →
      devB i b ∈ ownRefs (τ := τ) (.scVector (cV i) (jV i)) := by
    intro b hb
    simp only [Finset.mem_insert, Finset.mem_singleton] at hb
    rcases hb with rfl | rfl | rfl | rfl <;> exact SparseCore.Cfg.mem_ownRefs_of_owner (p := Proc.scVector (cV i) (jV i)) rfl
  have ne : ∀ a b : Ref sig .scVector, a ≠ b → devB i a ≠ devB i b := fun a b hab e => hab (Proc.devRef_injective _ e)
  unfold SparseCore.Cfg.ownBufs
  refine (SparseCore.bigSep_erase' (mem cc0_scratch0 (by decide))).trans ?_
  rw [SparseCore.bigSep_erase' (Finset.mem_erase.mpr ⟨ne cc0_scratch1 cc0_scratch0 (by decide), mem cc0_scratch1 (by decide)⟩),
    SparseCore.bigSep_erase' (Finset.mem_erase.mpr ⟨ne cc0_scratch2 cc0_scratch1 (by decide), Finset.mem_erase.mpr ⟨ne cc0_scratch2 cc0_scratch0 (by decide), mem cc0_scratch2 (by decide)⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), mem cc0_scratch3 (by decide)⟩⟩⟩)]

/-! ## The task -/

/-- A tile past the last anchor has no rows. -/
theorem tileSet_empty (n : ℕ) (h : ¬ n < 27) : tileSet n = ∅ := by
  refine Finset.filter_eq_empty_iff.mpr fun x _ hx => ?_
  have := (x 0).isLt
  have h0 : (x 0).val < 20736 := this
  omega

/-- The tile's task. -/
theorem tile_body (hF : (K (F := F)).Facts) (q : PosShare TreeShare) (fC : S1x18x48x48.Idx → Elt F .f32) (fR : S1x36x48x48.Idx → Elt F .f32)
    (fA : S1508.Idx → Elt F .f32) (fO : S20736x8.Idx → Elt F .f32) (O : CellTallies nD τ sig (HIx 1)) (W : Waits sig (HIx 1)) (hO : ∀ g, O g none = 0) :
    iprop(levAts (K (F := F)).L (K (F := F)).lev ∗ emp ∗ (rdPts d q fC fR fA ∗ rowPts d (wnum i) fO)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_sc_kernel i a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _) cc0_scratch4 cc0_scratch5 cc0_scratch6)
          fun _ => iprop((rdPts d q fC fR fA ∗ rowPts d (wnum i) (OUT fC fR fA)) ∗ scopedBufs (V d (cV i) (jV i)) ∗ scopedSems0 (V d (cV i) (jV i))
            ∗ ∃ W', ⌜∀ p ∈ W', p ∈ W ∨ p.2 = none⌝ ∗ owes (V d (cV i) (jV i)) O W') := by
  rw [body_eq]
  by_cases h : k0_cond1 i = 1#1
  · rw [dif_pos h, (K (F := F)).scopedBufs_V hF d (cV i) (jV i), SparseCore.Cfg.scopedSems0_V (Val := Elt F) d (cV i) (jV i), ownSems0_tile, ownBufs_tile]
    iintro ⟨#Hlv, -, ⟨⟨HC, HR, HA⟩, HRow⟩, ⟨H6, H7, H8, H9, Hbufs⟩, ⟨Hi, Ha, Hs, Hsems⟩, HO⟩
    ihave HOut := (Entails.of_eq (rowPts_bands d i h fO)) $$ HRow
    ihave HWin := (wins_split (F := F) d i) $$ H9
    iapply (wp_wand frame (wpE (defs₀ (F := F)) 𝒱₀ (thr d i) none) Set.univ) $$ [HC HR HA HOut H6 H7 H8 HWin Hi Ha Hs HO]
    · iapply (wp_decode d i h q fC fR fA fO O W hO)
      isplitr; · iexact Hlv
      isplitl [HC]; · iexact HC
      isplitl [HR]; · iexact HR
      isplitl [HA]; · iexact HA
      isplitl [HOut]; · iexact HOut
      isplitl [H6]; · iexact H6
      isplitl [H7]; · iexact H7
      isplitl [H8]; · iexact H8
      isplitl [HWin]; · iexact HWin
      isplitl [Hi]; · iexact Hi
      isplitl [Ha]; · iexact Ha
      isplitl [Hs]; · iexact Hs
      iexact HO
    iintro %u ⟨⟨HC, HR, HA, HOut⟩, ⟨H6, H7, H8, HWin⟩, ⟨Hi, Ha, Hs⟩, HO⟩
    ihave HRow := (Entails.of_eq (bands_out d i h fC fR fA fO)) $$ HOut
    ihave H9 := (wins_join (F := F) d i) $$ HWin
    isplitl [HC HR HA HRow]
    · isplitl [HC HR HA]
      · isplitl [HC]; · iexact HC
        isplitl [HR]; · iexact HR
        iexact HA
      · iexact HRow
    isplitl [H6 H7 H8 H9 Hbufs]
    · isplitl [H6]; · iexact H6
      isplitl [H7]; · iexact H7
      isplitl [H8]; · iexact H8
      isplitl [H9]; · iexact H9
      iexact Hbufs
    isplitl [Hi Ha Hs Hsems]
    · isplitl [Hi]; · iexact Hi
      isplitl [Ha]; · iexact Ha
      isplitl [Hs]; · iexact Hs
      iexact Hsems
    iexact HO
  · rw [dif_neg h, show (rowPts d (wnum i) (OUT fC fR fA) : sProp 𝕄) = rowPts d (wnum i) fO from
      pointsTo_congr fun x hx => absurd hx (by rw [tileSet_empty _ fun hn => h (cond_of_lt i hn)]; exact Finset.notMem_empty x)]
    iintro ⟨-, -, HP, HB, HS, HO⟩
    rw [wp_ret]; imodintro
    isplitl [HP]; · iexact HP
    isplitl [HB]; · iexact HB
    isplitl [HS]; · iexact HS
    iexists W; isplitr
    · ipureintro; exact fun p hp => .inl hp
    · iexact HO

end Cert.KernelIdeal.Tile

end
-- ==== Proof.Launch.lean ====
/- The launch: what the call takes and hands back, the tiles' shares, @main on the TensorCore, and the program's run to
   its final memory. -/
module

public import proofs.«01_k».proof.Proof.Tile

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F] [Named F]

local notation "𝕄" => MT nD τ sig (HIx 1) (Elt F) ℕ UU ℕ

/-! ## The tiles' shares -/

/-- The share of the arguments that tile `w` of SparseCore `c` reads with. -/
def sh (c : Fin 2) (w : Fin 16) : PosShare TreeShare := dealOf (dealOf fullShare Finset.univ c) Finset.univ w

omit [FloatOps F] [Named F] in
/-- An array every tile reads goes out as one share per tile. -/
theorem deal_tiles (ℓ : Loc nD τ sig) (f : Buf (Elt F) ℓ) :
    (ℓ ↦{fullShare} f : sProp 𝕄) = bigSep Finset.univ fun c : Fin 2 => bigSep Finset.univ fun w : Fin 16 => ℓ ↦{sh c w} f :=
  (pointsTo_deal Finset.univ ⟨0, Finset.mem_univ _⟩ fullShare).trans
    (bigSep_congr fun c _ => pointsTo_deal Finset.univ ⟨0, Finset.mem_univ _⟩ (dealOf fullShare Finset.univ c))

/-- The rows of the result that a SparseCore's tiles write. -/
def coreSet (c : Fin 2) : Finset S20736x8.Idx := Finset.univ.filter fun x => (x 0).val / 768 % 2 = c.val

omit [FloatOps F] [Named F] in
/-- The result's array goes out by rows, each tile's to it. -/
theorem rows_tiles (d : Dev nD) (f : S20736x8.Idx → Elt F .f32) :
    (oLoc d ↦{fullShare} (f : Buf (Elt F) (oLoc d)) : sProp 𝕄)
      = bigSep Finset.univ fun c : Fin 2 => bigSep Finset.univ fun w : Fin 16 => rowPts d (2 * w.val + c.val) f := by
  have hd : ∀ a ∈ (Finset.univ : Finset (Fin 2)), ∀ b ∈ (Finset.univ : Finset (Fin 2)), a ≠ b → Disjoint (coreSet a) (coreSet b) := by
    intro a _ b _ hab
    refine Finset.disjoint_left.mpr fun x hx hy => hab (Fin.ext ?_)
    exact (Finset.mem_filter.mp hx).2.symm.trans (Finset.mem_filter.mp hy).2
  have hc : (Finset.univ : Finset (Fin 2)).biUnion coreSet = Finset.univ := by
    ext x
    unfold coreSet
    simp only [Finset.mem_filter, Finset.mem_univ, true_and, Finset.mem_biUnion, iff_true]
    exact ⟨⟨(x 0).val / 768 % 2, Nat.mod_lt _ (by decide)⟩, rfl⟩
  have hd' : ∀ c : Fin 2, ∀ a ∈ (Finset.univ : Finset (Fin 16)), ∀ b ∈ (Finset.univ : Finset (Fin 16)), a ≠ b →
      Disjoint (tileSet (2 * a.val + c.val)) (tileSet (2 * b.val + c.val)) := by
    intro c a _ b _ hab
    refine Finset.disjoint_left.mpr fun x hx hy => hab (Fin.ext ?_)
    have h1 := (Finset.mem_filter.mp hx).2
    have h2 := (Finset.mem_filter.mp hy).2
    omega
  have hc' : ∀ c : Fin 2, (Finset.univ : Finset (Fin 16)).biUnion (fun w => tileSet (2 * w.val + c.val)) = coreSet c := by
    intro c
    ext x
    have hx : (x 0).val < 20736 := (x 0).isLt
    have hcl := c.isLt
    unfold coreSet tileSet
    simp only [Finset.mem_filter, Finset.mem_univ, true_and, Finset.mem_biUnion]
    constructor
    · rintro ⟨w, hw⟩; omega
    · intro h
      refine ⟨⟨(x 0).val / 768 / 2, by omega⟩, ?_⟩
      show (x 0).val / 768 = 2 * ((x 0).val / 768 / 2) + c.val
      omega
  have e : (oLoc d ↦[(Finset.univ : Finset (Fin 2)).biUnion coreSet]{fullShare} (f : Buf (Elt F) (oLoc d)) : sProp 𝕄) = bigSep Finset.univ fun c : Fin 2 => oLoc d ↦[coreSet c]{fullShare} (f : Buf (Elt F) (oLoc d)) :=
    pointsTo_biUnion Finset.univ (ℓ := oLoc d) coreSet hd
  rw [hc] at e
  refine e.trans (bigSep_congr fun c _ => ?_)
  rw [← hc' c]
  exact pointsTo_biUnion Finset.univ (ℓ := oLoc d) _ (hd' c)

variable (m : (ℓ : Loc nD τ sig) → Buf (Elt F) ℓ) (ρ : Dev nD → PrngReg)

/-! ## The launch memory and the packed table -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev s0 : DevRef τ sig := Proc.devRef .tc (main_v0 : Ref sig .tc)
abbrev s1 : DevRef τ sig := Proc.devRef .tc (main_v1 : Ref sig .tc)
abbrev s2 : DevRef τ sig := Proc.devRef .tc (main_v2 : Ref sig .tc)

/-- The table's slice of the anchors' array. -/
abbrev opSlice : HloOp τ sig (Elt F) :=
  StableHlo.unary main_arg2 main_v0 ((Host.slice S377x4 ![0, 2] ![49, 1] · slicesBy_S20736x6_S377x4_0s49_2s1) : (⟨S20736x6, .f32⟩ : BufTy).Contents (Elt F) → (⟨S377x4, .f32⟩ : BufTy).Contents (Elt F))
/-- The slice, flattened. -/
abbrev opFlat : HloOp τ sig (Elt F) := StableHlo.reshape main_v0 main_v1 (rfl : (.f32 : EltTy) = .f32) shapeCasts_S377x4_S1508

/-- The launch valuation, and the one after the two host operations. -/
def V0 (d : Dev nD) : Valuation τ sig (Elt F) := fun b => m (d, b)
def V1 (d : Dev nD) : Valuation τ sig (Elt F) := (opSlice (F := F)).result (V0 m d)
def V2 (d : Dev nD) : Valuation τ sig (Elt F) := (opFlat (F := F)).result (V1 m d)

abbrev fC (d : Dev nD) : S1x18x48x48.Idx → Elt F .f32 := m (cLoc d)
abbrev fR (d : Dev nD) : S1x36x48x48.Idx → Elt F .f32 := m (rLoc d)
abbrev fO (d : Dev nD) : S20736x8.Idx → Elt F .f32 := m (oLoc d)
/-- The packed table. -/
abbrev tab (d : Dev nD) : S1508.Idx → Elt F .f32 := V2 m d s1

/-- The result, from the launch memory. -/
abbrev RES (d : Dev nD) : S20736x8.Idx → Elt F .f32 := OUT (fC m d) (fR m d) (tab m d)

/-! ## What the call takes and hands back -/

/-- A SparseCore has sixteen tiles. -/
theorem nSub_zero : (K (F := F)).nSub 0 = 16 := rfl
/-- There are two SparseCores. -/
theorem nCore_zero : (K (F := F)).nCore 0 = 2 := rfl

/-- What one tile takes, the result's rows at `f`. -/
abbrev tilePts (d : Dev nD) (f : S20736x8.Idx → Elt F .f32) (c : Fin 2) (w : Fin 16) : sProp 𝕄 :=
  iprop(rdPts d (sh c w) (fC m d) (fR m d) (tab m d) ∗ rowPts d (2 * w.val + c.val) f)

/-- What one SparseCore takes. -/
abbrev corePts (d : Dev nD) (f : S20736x8.Idx → Elt F .f32) (c : Fin 2) : sProp 𝕄 := bigSep Finset.univ fun w : Fin 16 => tilePts m d f c w

/-- The call's payload: to every tile its share of the arguments and its rows; back the same with the rows at the result. -/
def P : (K (F := F)).Pay (nD := nD) (Val := Elt F) (Name := ℕ) (U := UU) where
  st := fun q d c => match q with | 0 => corePts m d (fO m d) (Fin.cast nCore_zero c)
  dn := fun q d c => match q with | 0 => corePts m d (RES m d) (Fin.cast nCore_zero c)
  go := fun q d c w => match q with | 0 => tilePts m d (fO m d) (Fin.cast nCore_zero c) (Fin.cast nSub_zero w)
  td := fun q d c w => match q with | 0 => tilePts m d (RES m d) (Fin.cast nCore_zero c) (Fin.cast nSub_zero w)
  x := fun _ _ => iprop(emp)

/-- What a tile takes may stand in an invariant. -/
theorem tilePts_storable (d : Dev nD) (f : S20736x8.Idx → Elt F .f32) (c : Fin 2) (w : Fin 16) : Storable (upEmb : UEmb _ 𝕄) (tilePts m d f c w) := by
  refine @Storable.sep _ _ _ _ _ _ _ _ (@Storable.sep _ _ _ _ _ _ _ _ ?_ (@Storable.sep _ _ _ _ _ _ _ _ ?_ ?_)) ?_ <;> exact pts_storable _ _ _

/-- So may what a SparseCore takes. -/
theorem corePts_storable (d : Dev nD) (f : S20736x8.Idx → Elt F .f32) (c : Fin 2) : Storable (upEmb : UEmb _ 𝕄) (corePts m d f c) := by
  haveI := fun w => tilePts_storable m d f c w
  infer_instance

instance P_storable : (P (F := F) m).IsStorable where
  st q d c := match q with | 0 => corePts_storable m d _ _
  dn q d c := match q with | 0 => corePts_storable m d _ _
  go q d c w := match q with | 0 => tilePts_storable m d _ _ _
  td q d c w := match q with | 0 => tilePts_storable m d _ _ _

/-! ## The launch theorem's obligations -/

/-- A tile's place on the grid. -/
def coordsV (c : Fin (grid0.bound 0)) (s : Fin (grid0.bound 1)) : grid0.Coords :=
  fun | 0 => c | 1 => s | ⟨_ + 2, h⟩ => absurd h (Nat.not_lt.2 (Nat.le_add_left _ _))

/-- What the call runs on a tile. -/
theorem defs₀_vector (c : Fin τ.nSC) (s : Fin τ.nSub) :
    defs₀ (F := F) (.scVector c s) 0 ()
      = SparseCore.onTile hcore0 hsub0 (fun c s => cc0_sc_kernel (coordsV c s) a2 (Memref.isWhole_whole _) a3 (Memref.isWhole_whole _)
          a4 (Memref.isWhole_whole _) a5 (Memref.isWhole_whole _) a6 (Memref.isWhole_whole _) a7 (Memref.isWhole_whole _)
          a8 (Memref.isWhole_whole _) a9 (Memref.isWhole_whole _) cc0_scratch4 cc0_scratch5 cc0_scratch6) ⟨⟩ c s := rfl

omit [FloatOps F] [Named F] in
/-- A task that waited only under the copies' index has waited as the launch allows. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile does its task. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (sh (Fin.cast nCore_zero c) (Fin.cast nSub_zero i)) (fC m d) (fR m d) (tab m d) (fO m d) O W hO).trans
    (wp_mono frame _ _ fun _ => obl_post)

/-- What a SparseCore takes is what its tiles take. -/
theorem vecSplit : (K (F := F)).VecSplit' (P m) 0 := by
  intro d c
  show corePts m d (fO m d) (Fin.cast nCore_zero c) ⊢ |={Set.univ}=> iprop(corePts m d (fO m d) (Fin.cast nCore_zero c)
      ∗ (corePts m d (RES m d) (Fin.cast nCore_zero c) -∗ corePts m d (RES m d) (Fin.cast nCore_zero c)))
  iintro H; imodintro
  isplitl [H]; · iexact H
  iintro H; iexact H

/-! ## The launch element: the handshakes' rounds; the copies' counters come from the machine -/

def u₀ : UU := (initOf (K (F := F)).hsCells (K (F := F)).hsToks, 1)

omit [FloatOps F] [Named F] in
/-- Nothing, many times. -/
theorem bigSep_nothing {I : Type} (s : Finset I) : (bigSep s fun _ => iprop(emp)) = (iprop(emp) : sProp 𝕄) := bigSep_emp_const s

/-- The launch element pays for the handshakes; the program has no protocol of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## @main on the TensorCore -/

/-- The TensorCore's arrays. -/
abbrev S6 : Finset (DevRef τ sig) := {b0, b1, b2, s0, s1, s2}

omit [FloatOps F] [Named F] in
/-- Holding the arrays is holding each. -/
theorem held_S6 (d : Dev nD) (W : Valuation τ sig (Elt F)) :
    (held (T d) S6 W : sProp 𝕄) = iprop((cLoc d ↦{fullShare} W b0) ∗ (rLoc d ↦{fullShare} W b1) ∗ ((SparseCore.T d).loc main_arg2 ↦{fullShare} W b2)
      ∗ ((SparseCore.T d).loc main_v0 ↦{fullShare} W s0) ∗ (tLoc d ↦{fullShare} W s1) ∗ (oLoc d ↦{fullShare} W s2)) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] [Named F] in
/-- The arrays are all the TensorCore's buffers outside a call. -/
theorem unscopedBufs_eq (d : Dev nD) (W : (b : Ref sig .tc) → Buf (Elt F) ((d.tc : Thread nD τ).loc b)) :
    (unscopedBufs d W : sProp 𝕄) = iprop((cLoc d ↦{fullShare} W main_arg0) ∗ (rLoc d ↦{fullShare} W main_arg1) ∗ ((SparseCore.T d).loc main_arg2 ↦{fullShare} W main_arg2)
      ∗ ((SparseCore.T d).loc main_v0 ↦{fullShare} W main_v0) ∗ (tLoc d ↦{fullShare} W main_v1) ∗ (oLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

omit [FloatOps F] [Named F] in
/-- At the launch they hold the launch memory. -/
theorem unscoped_held (d : Dev nD) : (unscopedBufs d (fun b => m ((SparseCore.T d).loc b)) : sProp 𝕄) = held (T d) S6 (V0 m d) := by
  rw [unscopedBufs_eq, held_S6]; rfl

/-- The slice's buffers are among the program's six. -/
theorem hSlice : (opSlice (F := F)).bufs ⊆ S6 := show ({b2, s0} : Finset (DevRef τ sig)) ⊆ S6 by decide
/-- The reshape's buffers are among the program's six. -/
theorem hFlat : (opFlat (F := F)).bufs ⊆ S6 := show ({s0, s1} : Finset (DevRef τ sig)) ⊆ S6 by decide

/-- The two host operations change the slice and the table only. -/
theorem V2_kept (d : Dev nD) (b : DevRef τ sig) (h0 : b ≠ s0) (h1 : b ≠ s1) : V2 m d b = m (d, b) := by
  unfold V2 V1
  rw [(opFlat (F := F)).result_of_not_mem _ (b := b) (show b ∉ ({s1} : Finset (DevRef τ sig)) by simpa using h1),
    (opSlice (F := F)).result_of_not_mem _ (b := b) (show b ∉ ({s0} : Finset (DevRef τ sig)) by simpa using h0)]
  rfl

omit [FloatOps F] [Named F] in
/-- Regrouping four. -/
theorem sep_regroup (A B C R : sProp 𝕄) : iprop((A ∗ B ∗ C) ∗ R) = iprop(A ∗ B ∗ C ∗ R) := by
  refine Entails.antisymm ?_ ?_
  · show iprop((A ∗ B ∗ C) ∗ R) ⊢ iprop(A ∗ B ∗ C ∗ R)
    iintro ⟨⟨HA, HB, HC⟩, HR⟩
    isplitl [HA]; · iexact HA
    isplitl [HB]; · iexact HB
    isplitl [HC] <;> iassumption
  · show iprop(A ∗ B ∗ C ∗ R) ⊢ iprop((A ∗ B ∗ C) ∗ R)
    iintro ⟨HA, HB, HC, HR⟩
    isplitl [HA HB HC]
    · isplitl [HA]; · iexact HA
      isplitl [HB] <;> iassumption
    · iexact HR

/-- What the call takes for both SparseCores, the result's array at `f`. -/
theorem cores_eq (d : Dev nD) (f : S20736x8.Idx → Elt F .f32) :
    (bigSep Finset.univ fun c : Fin 2 => corePts m d f c)
      = iprop((cLoc d ↦{fullShare} m (cLoc d)) ∗ (rLoc d ↦{fullShare} m (rLoc d)) ∗ (tLoc d ↦{fullShare} V2 m d s1) ∗ (oLoc d ↦{fullShare} (f : Buf (Elt F) (oLoc d)))) := by
  rw [deal_tiles (cLoc d), deal_tiles (rLoc d), deal_tiles (tLoc d), rows_tiles]
  unfold corePts tilePts rdPts
  simp only [bigSep_sep']
  exact sep_regroup _ _ _ _

/-- What the call hands to the cores: the three arrays it reads, and the result's as it was. -/
theorem st0_eq (d : Dev nD) : (bigSep Finset.univ fun c : Fin ((K (F := F)).nCore 0) => (P m).st 0 d c)
    = iprop((cLoc d ↦{fullShare} m (cLoc d)) ∗ (rLoc d ↦{fullShare} m (rLoc d)) ∗ (tLoc d ↦{fullShare} V2 m d s1) ∗ (oLoc d ↦{fullShare} (m (oLoc d)))) :=
  cores_eq m d (fO m d)
/-- What it gets back: the three arrays unchanged, and the result's at its value. -/
theorem dn0_eq (d : Dev nD) : (bigSep Finset.univ fun c : Fin ((K (F := F)).nCore 0) => (P m).dn 0 d c)
    = iprop((cLoc d ↦{fullShare} m (cLoc d)) ∗ (rLoc d ↦{fullShare} m (rLoc d)) ∗ (tLoc d ↦{fullShare} V2 m d s1) ∗ (oLoc d ↦{fullShare} (RES m d : Buf (Elt F) (oLoc d)))) :=
  cores_eq m d (RES m d)

/-- What @main leaves the claim: the arguments at their launch contents, the result at its value. -/
abbrev FIN (d : Dev nD) : sProp 𝕄 :=
  iprop((cLoc d ↦{fullShare} m (cLoc d)) ∗ (rLoc d ↦{fullShare} m (rLoc d)) ∗ ((SparseCore.T d).loc main_arg2 ↦{fullShare} m ((SparseCore.T d).loc main_arg2))
    ∗ (oLoc d ↦{fullShare} (RES m d : Buf (Elt F) (oLoc d))))

/-- @main: the slice, its flattening, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opSlice) (S := S6) hSlice (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFlat) (S := S6) hFlat (V := V1 m d)) $$ [Hb Hheld]
  · isplitl [Hb]; · iexact Hb
    iexact Hheld
  iintro ⟨Hb, Hheld⟩
  rw [wp_ret]; imodintro
  ihave Hh := (Entails.of_eq (show (held (T d) S6 ((opFlat (F := F)).result (V1 m d)) : sProp 𝕄) = iprop((cLoc d ↦{fullShare} V2 m d b0) ∗ (rLoc d ↦{fullShare} V2 m d b1)
      ∗ ((SparseCore.T d).loc main_arg2 ↦{fullShare} V2 m d b2) ∗ ((SparseCore.T d).loc main_v0 ↦{fullShare} V2 m d s0) ∗ (tLoc d ↦{fullShare} V2 m d s1)
      ∗ (oLoc d ↦{fullShare} V2 m d s2)) from held_S6 (F := F) d (V2 m d))) $$ Hheld
  icases Hh with ⟨HC, HR, HA, -, HT, HO⟩
  iapply ((K (F := F)).wp_run (D (F := F)) 𝒱 (EH := EH) (P := P m) κ d 0) $$ [Hst HC HR HA HT HO Hb Hts]
  isplitr; · iexact Hctx
  isplitl [Hst]; · iexact Hst
  isplitl [HC HR HT HO]
  · rw [st0_eq, V2_kept m d b0 (by decide) (by decide), V2_kept m d b1 (by decide) (by decide), V2_kept m d s2 (by decide) (by decide)]
    isplitl [HC]; · iexact HC
    isplitl [HR]; · iexact HR
    isplitl [HT]; · iexact HT
    iexact HO
  iintro ⟨Hst, Hdn⟩
  ihave Hdn' := (Entails.of_eq (dn0_eq m d)) $$ Hdn
  icases Hdn' with ⟨HC, HR, -, HO⟩
  rw [V2_kept m d b2 (by decide) (by decide)]
  imodintro
  isplitl [Hst]; · iexact Hst
  isplitr [Hb Hts]
  · isplitl [HC]; · iexact HC
    isplitl [HR]; · iexact HR
    isplitl [HA]; · iexact HA
    iexact HO
  isplitl [Hb] <;> iassumption

/-- What the final memory is on device `d`. -/
def fq (d : Dev nD) (s' : Phys nD τ sig (Elt F)) : Prop :=
  s'.mem.mem (cLoc d) = m (cLoc d) ∧ s'.mem.mem (rLoc d) = m (rLoc d)
    ∧ s'.mem.mem ((SparseCore.T d).loc main_arg2) = m ((SparseCore.T d).loc main_arg2) ∧ s'.mem.mem (oLoc d) = (RES m d : Buf (Elt F) (oLoc d))

omit [FloatOps F] [Named F] in
/-- A whole array held is what the memory holds. -/
theorem mem_of_held (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  have h : iprop(SI s' ∗ (ℓ ↦{fullShare} f)) ⊢ (⌜s'.mem.mem ℓ = f⌝ : sProp 𝕄) := by
    iintro ⟨HSI, Hx⟩
    ihave H := (SI_pointsTo_agree (st := s') (ℓ := ℓ) (I := Finset.univ) (q := fullShare) (f := f)) $$ [HSI Hx]
    · isplitl [HSI] <;> iassumption
    icases H with %hx
    ipureintro
    exact funext fun i => hx i (Finset.mem_univ i)
  exact (persistent_entails_right h).trans (sep_mono_right sep_elim_left)

/-- At the end of @main the memory holds what the claim says. -/
theorem hfin (d : Dev nD) (s' : Phys nD τ sig (Elt F)) : iprop(FIN m d ∗ SI s') ⊢ (⌜fq m d s'⌝ : sProp 𝕄) := by
  iintro ⟨⟨HC, HR, HA, HO⟩, HSI⟩
  ihave H := (mem_of_held s' (cLoc d) (m (cLoc d))) $$ [HSI HC]
  · isplitl [HSI] <;> iassumption
  icases H with ⟨%h1, HSI⟩
  ihave H := (mem_of_held s' (rLoc d) (m (rLoc d))) $$ [HSI HR]
  · isplitl [HSI] <;> iassumption
  icases H with ⟨%h2, HSI⟩
  ihave H := (mem_of_held s' ((SparseCore.T d).loc main_arg2) (m ((SparseCore.T d).loc main_arg2))) $$ [HSI HA]
  · isplitl [HSI] <;> iassumption
  icases H with ⟨%h3, HSI⟩
  ihave H := (mem_of_held s' (oLoc d) (RES m d : Buf (Elt F) (oLoc d))) $$ [HSI HO]
  · isplitl [HSI] <;> iassumption
  icases H with ⟨%h4, -⟩
  ipureintro
  exact ⟨h1, h2, h3, h4⟩

/-! ## The program's run -/

/-- The run's end: the arguments kept, the result at its value, every semaphore at zero. -/
def QC : PUnit × MemSt nD τ sig (Elt F) → Prop := fun r =>
  (∀ d : Dev nD, r.2.mem (cLoc d) = m (cLoc d) ∧ r.2.mem (rLoc d) = m (rLoc d)
    ∧ r.2.mem ((SparseCore.T d).loc main_arg2) = m ((SparseCore.T d).loc main_arg2) ∧ r.2.mem (oLoc d) = (RES m d : Buf (Elt F) (oLoc d))) ∧ r.2.sem = fun _ => 0

/-- The program runs to that end from every launch memory. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Frames.lean ====
/- The frame claims: each program runs to its end, keeps its arguments and ends with every semaphore at zero. -/
module

public import proofs.«01_k».proof.Proof.Same
public import proofs.«01_k».proof.Proof.Launch
public import proofs.«01_k».proof.Proof.Gen.Pre_finite_scores

@[expose] public section

noncomputable section

namespace Cert.KernelIdeal.Tile

open Idealize.ShloMosaic Idealize.SL.Sem

/-- The idealized kernel's frame. -/
theorem frame_KernelIdeal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The same under the precondition, which it does not need. -/
theorem frame_KernelIdeal_pre : Cert.quiescent_KernelIdeal_pre_finite_scores := fun m ρ _ => frame_KernelIdeal m ρ trivial

attribute [local instance] namedBits in
/-- The kernel's frame at the bit patterns: the same program, its two named constants at their own bits. -/
theorem frame_Kernel : Cert.quiescent_Kernel := fun m ρ _ => by
  rw [defs_eq]
  exact (θ_run (Cert.KernelIdeal.defs (F := Bits)) _ _).mono (fun _ h => ⟨fun c => ⟨(h.1 c).1, (h.1 c).2.1, (h.1 c).2.2.1⟩, h.2⟩) (run_main (F := Bits) m ρ)

end Cert.KernelIdeal.Tile

end
-- ==== Proof.Math.lean ====
/- The arithmetic of one box over the extended reals: its corners, centre and sides, the mask, and the threshold on the
   two-way softmax as a threshold on the difference of the two scores. -/
module

public import Idealize.ShloMosaic.PureOps.Ideal.Laws
public import Idealize.ShloMosaic.Lib.IdealHost
public import Idealize.ShloMosaic.Lib.ValueIdxCore

@[expose] public section

noncomputable section

namespace Cert.Boxes

open Idealize.ShloMosaic
open Idealize.ShloMosaic.ValueIdx (ix0 ix1 ix2 ix3 ix4 ix5)

/-! ## The literals -/

/-- The pattern of 600. -/
theorem bits_600 : Ideal.ofBits .f32 0x44160000#32 = ((600 : ℝ) : EReal) := by
  simp [Ideal.ofBits, Ideal.ieee]; norm_cast; norm_num [zpow_neg, zpow_ofNat]

/-- The pattern of one half. -/
theorem bits_half : Ideal.ofBits .f32 0x3F000000#32 = ((1 / 2 : ℝ) : EReal) := by
  simp [Ideal.ofBits, Ideal.ieee]; norm_cast; norm_num [zpow_neg, zpow_ofNat]

/-- The pattern of 2. -/
theorem bits_2 : Ideal.ofBits .f32 0x40000000#32 = ((2 : ℝ) : EReal) := by
  simp [Ideal.ofBits, Ideal.ieee]; norm_cast; norm_num [zpow_neg, zpow_ofNat]

/-- The pattern of 7. -/
theorem bits_7 : Ideal.ofBits .f32 0x40E00000#32 = ((7 : ℝ) : EReal) := by
  simp [Ideal.ofBits, Ideal.ieee]; norm_cast; norm_num [zpow_neg, zpow_ofNat]

/-- The pattern of 10. -/
theorem bits_10 : Ideal.ofBits .f32 0x41200000#32 = ((10 : ℝ) : EReal) := by
  simp [Ideal.ofBits, Ideal.ieee]; norm_cast; norm_num [zpow_neg, zpow_ofNat]

/-- The pattern of minus infinity. -/
theorem bits_bot : Ideal.ofBits .f32 0xFF800000#32 = ⊥ := by
  simp [Ideal.ofBits, Ideal.ieee]

/-- The pattern of plus infinity. -/
theorem bits_top : Ideal.ofBits .f32 0x7F800000#32 = ⊤ := by
  simp [Ideal.ofBits, Ideal.ieee]

/-! ## Quotients by the literals -/

/-- A quotient by a real number that is not zero is a product with its inverse. -/
theorem div_real (x : EReal) {r : ℝ} (h : r ≠ 0) : Ideal.div x (r : EReal) = x * ((r⁻¹ : ℝ) : EReal) := by
  unfold Ideal.div
  rw [if_neg (by exact_mod_cast h), EReal.coe_inv]

/-- Half of a number, as a quotient and as a product. -/
theorem div_2 (x : EReal) : Ideal.div x (Ideal.ofBits .f32 0x40000000#32) = x * Ideal.ofBits .f32 0x3F000000#32 := by
  rw [bits_2, bits_half, div_real x (by norm_num)]; norm_num

/-- The 600th part of a number, as a quotient and as a product. -/
theorem div_600 (x : EReal) : Ideal.div x (Ideal.ofBits .f32 0x44160000#32) = x * ((1 / 600 : ℝ) : EReal) := by
  rw [bits_600, div_real x (by norm_num)]; norm_num

/-! ## One box -/

/-- What one box is computed from: the two scores, the four deltas, and the anchor's four fields. -/
structure Row where
  /-- the background's score -/
  c0 : EReal
  /-- the object's score -/
  c1 : EReal
  /-- delta of the first coordinate -/
  t0 : EReal
  /-- delta of the second coordinate -/
  t1 : EReal
  /-- delta of the width -/
  t2 : EReal
  /-- delta of the height -/
  t3 : EReal
  /-- the anchor's centre, first coordinate -/
  cx : EReal
  /-- the anchor's centre, second coordinate -/
  cy : EReal
  /-- the anchor's width -/
  w : EReal
  /-- the anchor's height -/
  h : EReal

/-- A centre in pixels. -/
def ctr (t sz c : EReal) : EReal := (t * sz + c) * Ideal.ofBits .f32 0x44160000#32

/-- A side in pixels. -/
def sd (t sz : EReal) : EReal := Ideal.exp t * sz * Ideal.ofBits .f32 0x44160000#32

/-- The lower corner of a centre and a side. -/
def lo (x s : EReal) : EReal := x - s * Ideal.ofBits .f32 0x3F000000#32

/-- The upper corner of a centre and a side. -/
def hi (x s : EReal) : EReal := x + s * Ideal.ofBits .f32 0x3F000000#32

/-- The four corners. -/
def Row.lx (r : Row) : EReal := lo (ctr r.t0 r.w r.cx) (sd r.t2 r.w)
@[inherit_doc Row.lx] def Row.ly (r : Row) : EReal := lo (ctr r.t1 r.h r.cy) (sd r.t3 r.h)
@[inherit_doc Row.lx] def Row.rx (r : Row) : EReal := hi (ctr r.t0 r.w r.cx) (sd r.t2 r.w)
@[inherit_doc Row.lx] def Row.ry (r : Row) : EReal := hi (ctr r.t1 r.h r.cy) (sd r.t3 r.h)

/-- The eight numbers of a box: corners in pixels, then centre and sides in units of the image. -/
def Row.val (r : Row) (e : ℕ) : EReal :=
  match e with
  | 0 => r.lx
  | 1 => r.ly
  | 2 => r.rx
  | 3 => r.ry
  | 4 => ctr r.t0 r.w r.cx * ((1 / 600 : ℝ) : EReal)
  | 5 => ctr r.t1 r.h r.cy * ((1 / 600 : ℝ) : EReal)
  | 6 => sd r.t2 r.w * ((1 / 600 : ℝ) : EReal)
  | _ => sd r.t3 r.h * ((1 / 600 : ℝ) : EReal)

/-- Whether the difference of the scores is above the logit of the threshold. -/
def Row.likely (r : Row) : BitVec 1 := Ideal.cmp .ogt (r.c1 - r.c0) ((Real.log (7 * 3⁻¹) : ℝ) : EReal)

/-- The kernel's mask. -/
def Row.keep (r : Row) : BitVec 1 :=
  IntOp.andi (IntOp.andi (IntOp.andi (IntOp.andi r.likely (Ideal.cmp .oge r.lx (Ideal.ofBits .f32 0x00000000#32)))
    (Ideal.cmp .oge r.ly (Ideal.ofBits .f32 0x00000000#32))) (Ideal.cmp .ole r.rx (Ideal.ofBits .f32 0x44160000#32)))
    (Ideal.cmp .ole r.ry (Ideal.ofBits .f32 0x44160000#32))

/-- The mask with the reference's grouping, and its own test of the score. -/
def Row.mask (r : Row) (score : BitVec 1) : BitVec 1 :=
  IntOp.andi score (IntOp.andi (IntOp.andi (IntOp.andi (Ideal.cmp .oge r.lx (Ideal.ofBits .f32 0x00000000#32))
    (Ideal.cmp .oge r.ly (Ideal.ofBits .f32 0x00000000#32))) (Ideal.cmp .ole r.rx (Ideal.ofBits .f32 0x44160000#32)))
    (Ideal.cmp .ole r.ry (Ideal.ofBits .f32 0x44160000#32)))

/-- The two groupings of the mask agree. -/
theorem Row.mask_eq (r : Row) : r.mask r.likely = r.keep := by
  unfold Row.mask Row.keep IntOp.andi
  simp only [BitVec.and_assoc]

/-- Selecting between a number and zero is multiplying by the bit. -/
theorem select_mul (b : BitVec 1) (v : EReal) :
    Scalar.select b v (Ideal.ofBits .f32 0x00000000#32) = v * (((b.toNat : ℕ) : ℝ) : EReal) := by
  rcases (by revert b; decide : b = 0#1 ∨ b = 1#1) with rfl | rfl
  · simp [Scalar.select, Ideal.ofBits_zero_f32]
  · simp [Scalar.select]

/-- The row of the anchors' table that anchor `p` takes at column `k` is in the table. -/
theorem row_lt (p : Fin 9) (k : Fin 48) : 49 * (k.val * p.val) < 20736 := by
  have : k.val * p.val ≤ 47 * 8 := Nat.mul_le_mul (by omega) (by omega)
  omega

/-- What the box of anchor `p` at row `j` and column `k` of the map is computed from, in the three arguments. -/
def rowAt (C : (⟨4, ![1, 18, 48, 48]⟩ : Shape).Idx → EReal) (R : (⟨4, ![1, 36, 48, 48]⟩ : Shape).Idx → EReal)
    (A : (⟨2, ![20736, 6]⟩ : Shape).Idx → EReal) (p : Fin 9) (j k : Fin 48) : Row where
  c0 := C (ix4 0 ⟨2 * p.val, by omega⟩ j k)
  c1 := C (ix4 0 ⟨2 * p.val + 1, by omega⟩ j k)
  t0 := R (ix4 0 ⟨4 * p.val, by omega⟩ j k)
  t1 := R (ix4 0 ⟨4 * p.val + 1, by omega⟩ j k)
  t2 := R (ix4 0 ⟨4 * p.val + 2, by omega⟩ j k)
  t3 := R (ix4 0 ⟨4 * p.val + 3, by omega⟩ j k)
  cx := A (ix2 ⟨49 * (k.val * p.val), row_lt p k⟩ 2)
  cy := A (ix2 ⟨49 * (k.val * p.val), row_lt p k⟩ 3)
  w := A (ix2 ⟨49 * (k.val * p.val), row_lt p k⟩ 4)
  h := A (ix2 ⟨49 * (k.val * p.val), row_lt p k⟩ 5)

/-! ## The threshold -/

/-- The two-way softmax of `c1` against `c0`, after any real number is taken off both. -/
def score (c0 c1 M : EReal) : EReal :=
  Ideal.div (Ideal.exp (c1 - M)) (Ideal.ofBits .f32 0x00000000#32 + (Ideal.exp (c0 - M) + Ideal.exp (c1 - M)))

/-- Over the reals the softmax is above 7/10 exactly where the difference of the scores is above the logarithm of 7/3. -/
theorem softmax_gt (a b M : ℝ) :
    7 * (10 : ℝ)⁻¹ < Real.exp (b - M) * (Real.exp (a - M) + Real.exp (b - M))⁻¹ ↔ Real.log (7 * 3⁻¹) < b - a := by
  have ha := Real.exp_pos (a - M)
  have hb := Real.exp_pos (b - M)
  have e : Real.exp (b - M) = Real.exp (b - a) * Real.exp (a - M) := by rw [← Real.exp_add]; congr 1; ring
  rw [Real.log_lt_iff_lt_exp (by norm_num), ← div_eq_mul_inv (Real.exp (b - M)), lt_div_iff₀ (by positivity)]
  constructor
  · intro h
    rw [e] at h
    have : (7 * 3⁻¹) * Real.exp (a - M) < Real.exp (b - a) * Real.exp (a - M) := by linarith
    exact lt_of_mul_lt_mul_right this ha.le
  · intro h
    have := mul_lt_mul_of_pos_right h ha
    rw [← e] at this
    linarith

/-- The reference's test of the score is the kernel's, where the scores are real numbers. -/
theorem score_test (r : Row) (M : EReal) (a b m : ℝ) (h0 : r.c0 = a) (h1 : r.c1 = b) (hM : M = m) :
    Ideal.cmp .ogt (score r.c0 r.c1 M) (Ideal.div (Ideal.ofBits .f32 0x40E00000#32) (Ideal.ofBits .f32 0x41200000#32)) = r.likely := by
  unfold Row.likely score
  rw [h0, h1, hM, bits_7, bits_10, div_real _ (by norm_num), Ideal.ofBits_zero_f32, zero_add]
  have hs : ((a : EReal) - m) = ((a - m : ℝ) : EReal) := (EReal.coe_sub _ _).symm
  have hs' : ((b : EReal) - m) = ((b - m : ℝ) : EReal) := (EReal.coe_sub _ _).symm
  have hs'' : ((b : EReal) - a) = ((b - a : ℝ) : EReal) := (EReal.coe_sub _ _).symm
  rw [hs, hs', hs'']
  show Ideal.cmp .ogt (Ideal.div ((Real.exp (b - m) : ℝ) : EReal) (((Real.exp (a - m) : ℝ) : EReal) + ((Real.exp (b - m) : ℝ) : EReal))) _ = _
  rw [← EReal.coe_add, div_real _ (by positivity), ← EReal.coe_mul, ← EReal.coe_mul]
  unfold Ideal.cmp
  simp only [EReal.coe_lt_coe_iff, softmax_gt]

end Cert.Boxes

end
-- ==== Proof.KernelValue.lean ====
/- The kernel's result, number by number: row `(48 p + j) 48 + k` of the result is the box of anchor `p` at row `j` and
   column `k` of the map, or zeros where the mask drops it. -/
module

public import proofs.«01_k».proof.Proof.Launch
public import proofs.«01_k».proof.Proof.Math

@[expose] public section

noncomputable section

namespace Cert.KernelIdeal.Tile

open Cert.KernelIdeal Cert.KernelIdeal.Gen Cert.Boxes
open Idealize.ShloMosaic Idealize.SL.Sem
open Idealize.ShloMosaic.ValueIdx (ix2 ix4)

/-- What one lane of a block computes from. -/
def laneRow (A : Anc Ideal) (c0 c1 t0 t1 t2 t3 : FVec Ideal S16 .f32) (l : S16.Idx) : Row :=
  ⟨c0 l, c1 l, t0 l, t1 l, t2 l, t3 l, A.cx l, A.cy l, A.w l, A.h l⟩

/-- The named constant of the threshold. -/
theorem named_logit : (Named.named (F := Ideal) κ "logit" (φ := .f32) 0x3F58E883#32 : EReal) = ((Real.log (7 * 3⁻¹) : ℝ) : EReal) :=
  IdealRules.named_const.ideal_named_scalar κ "logit" _ _ rfl

/-- The named constant of the image's size. -/
theorem named_inv : (Named.named (F := Ideal) κ "inv_src" (φ := .f32) 0x3ADA740E#32 : EReal) = ((1 / 600 : ℝ) : EReal) :=
  IdealRules.named_const.ideal_named_scalar κ "inv_src" _ _ rfl

/-- Back in units of the image, a coordinate is a 600th of itself. -/
theorem unitOf_lane (x : FVec Ideal S16 .f32) (l : S16.Idx) : unitOf x l = (x l : EReal) * ((1 / 600 : ℝ) : EReal) :=
  congrArg (fun c : EReal => (x l : EReal) * c) named_inv

/-- One lane's number before the mask. -/
theorem rawVal_lane (A : Anc Ideal) (c0 c1 t0 t1 t2 t3 : FVec Ideal S16 .f32) (c : ℕ) (l : S16.Idx) :
    rawVal A t0 t1 t2 t3 c l = (laneRow A c0 c1 t0 t1 t2 t3 l).val c := by
  unfold rawVal Row.val
  split
  · rfl
  · rfl
  · rfl
  · rfl
  · exact unitOf_lane _ l
  · exact unitOf_lane _ l
  · exact unitOf_lane _ l
  · split
    all_goals first | exact unitOf_lane _ l | (exfalso; simp_all)

/-- One lane's mask. -/
theorem keepOf_lane (A : Anc Ideal) (c0 c1 t0 t1 t2 t3 : FVec Ideal S16 .f32) (l : S16.Idx) :
    keepOf A c0 c1 t0 t1 t2 t3 l = (laneRow A c0 c1 t0 t1 t2 t3 l).keep := by
  unfold Row.keep Row.likely
  rw [← named_logit]
  rfl

/-- One lane's number. -/
theorem blkVal_lane (A : Anc Ideal) (c0 c1 t0 t1 t2 t3 : FVec Ideal S16 .f32) (c : ℕ) (l : S16.Idx) :
    blkVal A c0 c1 t0 t1 t2 t3 c l = Scalar.select (laneRow A c0 c1 t0 t1 t2 t3 l).keep ((laneRow A c0 c1 t0 t1 t2 t3 l).val c)
      (Ideal.ofBits .f32 0x00000000#32) := by
  rw [← rawVal_lane, ← keepOf_lane]
  rfl

/-- The packed table holds row `49 r` of the anchors, its last four columns, at `4 r`. -/
theorem tab_apply (m : (ℓ : Loc nD τ sig) → Buf (Elt Ideal) ℓ) (d : Dev nD) (r : ℕ) (hr : r < 377) (c : ℕ) (hc : c < 4) :
    tab m d (ix S1508 ![4 * r + c]) = m (d, b2) (ix2 ⟨49 * r, by omega⟩ ⟨2 + c, by omega⟩) := by
  have e : tab m d = shapeCast S1508 (Host.slice S377x4 ![0, 2] ![49, 1] (m (d, b2) : S20736x6.Idx → EReal) slicesBy_S20736x6_S377x4_0s49_2s1) shapeCasts_S377x4_S1508 := by
    show V2 m d s1 = _
    unfold V2 V1
    rw [StableHlo.reshape_result, StableHlo.unary_result]
    rfl
  rw [e, shapeCast_apply (k := ix2 ⟨r, hr⟩ ⟨c, hc⟩)]
  · unfold Host.slice
    refine congrArg (m (d, b2)) (funext fun a => Fin.ext ?_)
    fin_cases a
    · show 0 + 49 * r = 49 * r
      omega
    · show 2 + 1 * c = 2 + c
      omega
  · rw [Shape.rowMajor_val_two, Shape.rowMajor_val_one]
    show r * 4 + c = (4 * r + c) % 1508
    omega

/-- The anchors of each of a row's three groups of lanes. -/
theorem anc3_ancOf (X : S1508.Idx → Elt Ideal .f32) (p g : ℕ) (hg : g < 3) : anc3 (ancOf X p 0) (ancOf X p 1) (ancOf X p 2) g = ancOf X p g := by
  interval_cases g <;> rfl

/-- The lane of row `(48 p + j) 48 + k` computes from what the box of anchor `p` at row `j` and column `k` is computed from. -/
theorem laneRow_eq (m : (ℓ : Loc nD τ sig) → Buf (Elt Ideal) ℓ) (d : Dev nD) (p : Fin 9) (j k : Fin 48) (n i g l : ℕ)
    (hp : n / 3 = p.val) (hi : i < 16) (hj : 16 * (n % 3) + i = j.val) (hg : g < 3) (hl : l < 16) (hk : 16 * g + l = k.val) :
    laneRow (ancOf (tab m d) (n / 3) g) (ldC (XC (fC m d) n) 0 i g) (ldC (XC (fC m d) n) 1 i g) (ldR (XR (fR m d) n) 0 i g)
        (ldR (XR (fR m d) n) 1 i g) (ldR (XR (fR m d) n) 2 i g) (ldR (XR (fR m d) n) 3 i g) (lane l)
      = rowAt (fC m d) (fR m d) (m (d, b2)) p j k := by
  have hC : ∀ a (ha : a < 2), ldC (XC (fC m d) n) a i g (lane l) = fC m d (ix4 0 ⟨2 * p.val + a, by omega⟩ j k) := by
    intro a ha
    refine congrArg (fC m d) (funext fun b => Fin.ext ?_)
    fin_cases b
    · rfl
    · show (2 * (n / 3) + a % 2) % 18 = 2 * p.val + a
      omega
    · show (16 * (n % 3) + i % 16) % 48 = j.val
      omega
    · show (16 * g + l % 16) % 48 % 48 = k.val
      omega
  have hR : ∀ a (ha : a < 4), ldR (XR (fR m d) n) a i g (lane l) = fR m d (ix4 0 ⟨4 * p.val + a, by omega⟩ j k) := by
    intro a ha
    refine congrArg (fR m d) (funext fun b => Fin.ext ?_)
    fin_cases b
    · rfl
    · show (4 * (n / 3) + a % 4) % 36 = 4 * p.val + a
      omega
    · show (16 * (n % 3) + i % 16) % 48 = j.val
      omega
    · show (16 * g + l % 16) % 48 % 48 = k.val
      omega
  have hA : ∀ c (hc : c < 4), ldA (tab m d) (n / 3) g c (lane l) = m (d, b2) (ix2 ⟨49 * (k.val * p.val), row_lt p k⟩ ⟨2 + c, by omega⟩) := by
    intro c hc
    have hlt : k.val * p.val < 377 := by
      have : k.val * p.val ≤ 47 * 8 := Nat.mul_le_mul (by omega) (by omega)
      omega
    have e : ldA (tab m d) (n / 3) g c (lane l) = tab m d (ix S1508 ![4 * (k.val * p.val) + c]) := by
      show tab m d (ix S1508 ![4 * (n / 3) * (16 * g + l % 16) + c]) = _
      rw [hp, Nat.mod_eq_of_lt hl, hk, Nat.mul_assoc, Nat.mul_comm p.val]
    rw [e]
    exact tab_apply m d _ hlt c hc
  unfold laneRow rowAt ancOf
  rw [hC 0 (by decide), hC 1 (by decide), hR 0 (by decide), hR 1 (by decide), hR 2 (by decide), hR 3 (by decide)]
  simp only [hA 0 (by decide), hA 1 (by decide), hA 2 (by decide), hA 3 (by decide)]
  rfl

/-- The kernel's result at anchor `p`, row `j`, column `k` and number `e`. -/
theorem RES_apply (m : (ℓ : Loc nD τ sig) → Buf (Elt Ideal) ℓ) (d : Dev nD) (p : Fin 9) (j k : Fin 48) (e : Fin 8) :
    RES m d (ix2 ⟨(p.val * 48 + j.val) * 48 + k.val, by omega⟩ e)
      = Scalar.select (rowAt (fC m d) (fR m d) (m (d, b2)) p j k).keep ((rowAt (fC m d) (fR m d) (m (d, b2)) p j k).val e.val)
          (Ideal.ofBits .f32 0x00000000#32) := by
  have key : ∀ x : S20736x8.Idx, RES m d x
      = tgtB (anc3 (ancOf (tab m d) ((x 0).val / 768 / 3) 0) (ancOf (tab m d) ((x 0).val / 768 / 3) 1) (ancOf (tab m d) ((x 0).val / 768 / 3) 2))
          (XC (fC m d) ((x 0).val / 768)) (XR (fR m d) ((x 0).val / 768)) ((x 0).val / 192 % 4) ((x 0).val % 192 / 16) (x 1).val
          (lane ((x 0).val % 192 % 16)) := by
    intro x
    show tgtB _ _ _ _ ((x 0).val % 192 % 192 / 16) ((x 1).val % 8) (lane ((x 0).val % 192 % 192 % 16)) = _
    have h1 : (x 1).val < 8 := (x 1).isLt
    rw [Nat.mod_mod, Nat.mod_eq_of_lt h1]
  rw [key]
  have hR : ((ix2 ⟨(p.val * 48 + j.val) * 48 + k.val, by omega⟩ e : S20736x8.Idx) 0).val = (p.val * 48 + j.val) * 48 + k.val := rfl
  generalize (ix2 ⟨(p.val * 48 + j.val) * 48 + k.val, by omega⟩ e : S20736x8.Idx) 0 = r0 at hR
  obtain ⟨R, hlt⟩ := r0
  simp only at hR
  have hb : R % 192 / 16 % 3 < 3 := Nat.mod_lt _ (by decide)
  unfold tgtB
  simp only
  rw [blkVal_lane, anc3_ancOf _ _ _ hb, laneRow_eq m d p j k (R / 768) (4 * (R / 192 % 4) + R % 192 / 16 / 3) (R % 192 / 16 % 3) (R % 192 % 16)
    (by omega) (by omega) (by omega) hb (by omega) (by omega)]

end Cert.KernelIdeal.Tile

end
-- ==== Proof.RefValue.lean ====
/- The reference's result, number by number: what each of its named pieces holds at anchor `p`, row `j`, column `k`, and
   so that its result there is the box's number times the mask's bit. -/
module

public import proofs.«01_k».proof.Proof.Gen.ReferenceIdeal.Run
public import proofs.«01_k».proof.Proof.Math
public import Idealize.ShloMosaic.PureOps.Reduce
public import Idealize.ShloMosaic.Lib.Pipeline.Value
public import Idealize.ShloMosaic.Lib.IdealHost
public import Idealize.ShloMosaic.PureOps.Ideal.Laws

@[expose] public section

noncomputable section

namespace Cert.ReferenceIdeal.Value

open Cert.ReferenceIdeal Cert.ReferenceIdeal.Gen Cert.Boxes
open Idealize.ShloMosaic Idealize.ShloMosaic.TcCoe Idealize.SL.Sem Idealize.ShloMosaic.StableHlo
open Idealize.ShloMosaic.ValueIdx (ix0 ix1 ix2 ix3 ix4 ix5 eq_ix1 eq_ix2 eq_ix4)

variable (V : Valuation τ sig (Elt Ideal))

/-- The scores. -/
abbrev argC : S1x18x48x48.Idx → EReal := V (Proc.devRef .tc main_arg0)
/-- The deltas. -/
abbrev argR : S1x36x48x48.Idx → EReal := V (Proc.devRef .tc main_arg1)
/-- The anchors. -/
abbrev argA : S20736x6.Idx → EReal := V (Proc.devRef .tc main_arg2)

/-- What the box at `(p, j, k)` is computed from. -/
abbrev box (p : Fin 9) (j k : Fin 48) : Row := rowAt (argC V) (argR V) (argA V) p j k

/-- The row of the result that holds anchor `p`, row `j`, column `k`. -/
def pos (p : Fin 9) (j k : Fin 48) : Fin 20736 := ⟨(p.val * 48 + j.val) * 48 + k.val, by omega⟩

/-! ## The inputs, reshaped -/

/-- The scores by anchor: score `t` of anchor `p` is plane `2p + t`. -/
theorem v0_apply (p : Fin 9) (t : Fin 2) (j k : Fin 48) :
    res_main_v0 V (ix5 0 p t j k) = argC V (ix4 0 ⟨2 * p.val + t.val, by omega⟩ j k) := by
  unfold res_main_v0
  refine shapeCast_apply _ _ _ _ ((Shape.rowMajor_val_four _).trans (Eq.trans ?_ (Shape.rowMajor_val_five _).symm))
  show ((0 * 18 + (2 * p.val + t.val)) * 48 + j.val) * 48 + k.val = (((0 * 9 + p.val) * 2 + t.val) * 48 + j.val) * 48 + k.val
  omega

/-- The deltas by anchor: delta `t` of anchor `p` is plane `4p + t`. -/
theorem v14_apply (p : Fin 9) (t : Fin 4) (j k : Fin 48) :
    res_main_v14 V (ix5 0 p t j k) = argR V (ix4 0 ⟨4 * p.val + t.val, by omega⟩ j k) := by
  unfold res_main_v14
  refine shapeCast_apply _ _ _ _ ((Shape.rowMajor_val_four _).trans (Eq.trans ?_ (Shape.rowMajor_val_five _).symm))
  show ((0 * 36 + (4 * p.val + t.val)) * 48 + j.val) * 48 + k.val = (((0 * 9 + p.val) * 4 + t.val) * 48 + j.val) * 48 + k.val
  omega

/-! ## Where the anchors are read -/

/-- The word of the anchors' row for column `k` of anchor `p`. -/
def word (p : Fin 9) (k : Fin 48) : BitVec 32 := BitVec.ofNat 32 (49 * (k.val * p.val))

/-- The anchor row's word, as a number. -/
theorem word_toNat (p : Fin 9) (k : Fin 48) : (word p k).toNat = 49 * (k.val * p.val) := by
  unfold word
  rw [BitVec.toNat_ofNat, Nat.mod_eq_of_lt (by have := row_lt p k; omega)]

/-- The word is what the reference's integer operations give. -/
theorem word_all : ∀ (p : Fin 9) (k : Fin 48), IntOp.muli (IntOp.addi (IntOp.muli (BitVec.ofNat 32 k.val) 48#32) (BitVec.ofNat 32 k.val)) (BitVec.ofNat 32 p.val) = word p k
    ∧ IntOp.cmpi .slt (word p k) 0#32 = 0#1 ∧ IntOp.cmpi .sge (word p k) 0#32 = 1#1 ∧ IntOp.cmpi .sle (word p k) 20735#32 = 1#1
    ∧ (word p k).toInt.toNat = 49 * (k.val * p.val) := by decide +kernel

/-- The index the reference looks an anchor up by. -/
theorem v28_apply (p : Fin 9) (j k : Fin 48) : res_main_v28 V (ix1 (pos p j k)) = word p k := by
  unfold res_main_v28
  rw [shapeCast_apply (k := ix3 p j k), broadcastInDim_apply (k := ix3 p 0 k), broadcastInDim_apply (k := ix2 p k)]
  · exact (word_all p k).1
  · intro a; fin_cases a <;> rfl
  · intro a; fin_cases a <;> rfl
  · exact (Shape.rowMajor_val_three _).trans (Eq.trans rfl (Shape.rowMajor_val_one (d := ![20736]) (ix1 (pos p j k))).symm)

/-- The lookup leaves a nonnegative index as it is. -/
theorem take_apply (p : Fin 9) (j k : Fin 48) : res_main_call0_v5 V (ix2 (pos p j k) 0) = word p k := by
  unfold res_main_call0_v5
  rw [broadcastInDim_apply (k := ix1 (pos p j k))]
  · show Scalar.select (IntOp.cmpi .slt (res_main_v28 V (ix1 (pos p j k))) 0#32) _ (res_main_v28 V (ix1 (pos p j k))) = _
    rw [v28_apply, (word_all p k).2.1]
    rfl
  · intro a; fin_cases a; rfl

/-- A host reduction by `and` of ones is one. -/
theorem foldl_and_one {α : Type} (l : List α) (x : α → BitVec 1) (h : ∀ i ∈ l, x i = 1#1) :
    l.foldl (fun r i => IntOp.andi r (x i)) 1#1 = 1#1 := by
  induction l with
  | nil => rfl
  | cons a l ih =>
    rw [List.foldl_cons, h a (List.mem_cons_self), show IntOp.andi 1#1 1#1 = (1#1 : BitVec 1) from rfl]
    exact ih fun i hi => h i (List.mem_cons_of_mem _ hi)

/-- The test that the row is in the table passes. -/
theorem inTable_apply (p : Fin 9) (j k : Fin 48) :
    Host.reduce IntOp.andi (andi (cmpi .sge (res_main_call0_v5 V) (broadcastInDim S20736x1 ![] bcast_S_S20736x1 (constantI S_ 32 0#32)))
      (cmpi .sle (res_main_call0_v5 V) (broadcastInDim S20736x1 ![0, 1] bcast_S1x1_S20736x1_0_1 (broadcastInDim S1x1 ![1] bcast_S1_S1x1_1 (constantI S1 32 20735#32)))))
      (constantI S_ 1 1#1) reducesTo_S20736x1_S20736_d1 h_S_ (ix1 (pos p j k)) = 1#1 := by
  rw [Host.reduce_eq_foldl]
  refine foldl_and_one _ _ fun i hi => ?_
  have hd : reducesTo_S20736x1_S20736_d1.drop i = ix1 (pos p j k) := by simpa using (List.mem_filter.mp hi).2
  have h0 : i 0 = pos p j k := by
    apply Fin.ext
    rw [← Shape.ReducesTo.drop_apply_val_of_eq reducesTo_S20736x1_S20736_d1 i 0 0, hd]
  have hi' : i = ix2 (pos p j k) 0 := by
    rw [eq_ix2 i, h0]
    congr 1
    exact Subsingleton.elim (α := Fin 1) _ _
  rw [hi']
  show IntOp.andi (IntOp.cmpi .sge (res_main_call0_v5 V (ix2 (pos p j k) 0)) 0#32) (IntOp.cmpi .sle (res_main_call0_v5 V (ix2 (pos p j k) 0)) 20735#32) = 1#1
  rw [take_apply, (word_all p k).2.2.1, (word_all p k).2.2.2.1]
  rfl

/-- The gather reads the table's row at the word, clamped into the table. -/
theorem gather_apply (x : S20736x6.Idx → EReal) (idx : IVec S20736x1 32) (r : Fin 20736) (c : Fin 6) :
    Host.gather gather_S20736x6_S20736x1_S20736x6_1_0_n_n_0_1_16 x idx (ix2 r c)
      = x (ix2 ⟨min (idx (ix2 r 0)).toInt.toNat 20735, by omega⟩ c) := by
  unfold Host.gather
  congr 1
  funext a
  refine Fin.ext ?_
  show gather_S20736x6_S20736x1_S20736x6_1_0_n_n_0_1_16.start (ix2 r c) idx a + gather_S20736x6_S20736x1_S20736x6_1_0_n_n_0_1_16.batchCoord (ix2 r c) a
      + gather_S20736x6_S20736x1_S20736x6_1_0_n_n_0_1_16.offCoord (ix2 r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20736x6_S20736x1_S20736x6_1_0_n_n_0_1_16.startIndexMap from List.mem_singleton.mpr rfl)]
    have hsi : gather_S20736x6_S20736x1_S20736x6_1_0_n_n_0_1_16.siIdx (ix2 r c)
        ⟨List.idxOf (0 : Fin 2) gather_S20736x6_S20736x1_S20736x6_1_0_n_n_0_1_16.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  · have hs : gather_S20736x6_S20736x1_S20736x6_1_0_n_n_0_1_16.start (ix2 r c) idx 1 = 0 := by
      unfold GatherDims.start
      rw [dif_neg (by decide)]
    rw [hs, Nat.zero_add]
    unfold GatherDims.offCoord
    rw [dif_pos (by decide)]
    rfl

/-- The anchors' fields at `(p, j, k)`. -/
theorem v30_apply (p : Fin 9) (j k : Fin 48) (c : Fin 6) :
    res_main_v30 V (ix4 p j k c) = argA V (ix2 ⟨49 * (k.val * p.val), row_lt p k⟩ c) := by
  unfold res_main_v30
  rw [shapeCast_apply (k := ix2 (pos p j k) c)]
  · have e1 : broadcastInDim (s := S20736) S20736x6 ![0] bcast_S20736_S20736x6_0 _ (ix2 (pos p j k) c) = 1#1 :=
      (broadcastInDim_apply (k := ix1 (pos p j k)) (hk := fun a => by fin_cases a; rfl) ..).trans (inTable_apply V p j k)
    rw [ValueIdx.select_apply, e1, ValueIdx.select_one, gather_apply]
    have e2 : min (res_main_call0_v5 V (ix2 (pos p j k) 0)).toInt.toNat 20735 = 49 * (k.val * p.val) := by
      rw [take_apply, (word_all p k).2.2.2.2]
      exact Nat.min_eq_left (by have := row_lt p k; omega)
    exact congrArg (fun r : Fin 20736 => argA V (ix2 r c)) (Fin.ext e2)
  · exact (Shape.rowMajor_val_two _).trans (Eq.trans (by show ((p.val * 48 + j.val) * 48 + k.val) * 6 + c.val = _; rfl) (Shape.rowMajor_val_four (d := ![9, 48, 48, 6]) (ix4 p j k c)).symm)

/-- One field of the anchors, over the map. -/
theorem field_apply (p : Fin 9) (j k : Fin 48) (c : Fin 6) (h : S9x48x48x6.Slices ![0, 0, 0, c.val] S9x48x48x1) :
    broadcastInDim S1x9x48x48 ![1, 2, 3] bcast_S9x48x48_S1x9x48x48_1_2_3
        (shapeCast S9x48x48 (extractStridedSlice S9x48x48x1 ![0, 0, 0, c.val] (res_main_v30 V) h) shapeCasts_S9x48x48x1_S9x48x48) (ix4 0 p j k)
      = argA V (ix2 ⟨49 * (k.val * p.val), row_lt p k⟩ c) := by
  rw [broadcastInDim_apply (k := ix3 p j k), shapeCast_apply (k := ix4 p j k 0), extractStridedSlice_apply (k := ix4 p j k c), v30_apply]
  · intro a
    fin_cases a
    · show p.val = 0 + p.val; omega
    · show j.val = 0 + j.val; omega
    · show k.val = 0 + k.val; omega
    · rfl
  · exact (Shape.rowMajor_val_four _).trans (Eq.trans (by show ((p.val * 48 + j.val) * 48 + k.val) * 1 + 0 = (p.val * 48 + j.val) * 48 + k.val; omega) (Shape.rowMajor_val_three _).symm)
  · intro a; fin_cases a <;> rfl

/-- One delta, over the map. -/
theorem delta_apply (p : Fin 9) (j k : Fin 48) (t : Fin 4) (h : S1x9x4x48x48.Slices ![0, 0, t.val, 0, 0] S1x9x1x48x48) :
    shapeCast S1x9x48x48 (extractStridedSlice S1x9x1x48x48 ![0, 0, t.val, 0, 0] (res_main_v14 V) h) shapeCasts_S1x9x1x48x48_S1x9x48x48 (ix4 0 p j k)
      = argR V (ix4 0 ⟨4 * p.val + t.val, by omega⟩ j k) := by
  rw [shapeCast_apply (k := ix5 0 p 0 j k), extractStridedSlice_apply (k := ix5 0 p t j k), v14_apply]
  · intro a
    fin_cases a
    · rfl
    · show p.val = 0 + p.val; omega
    · rfl
    · show j.val = 0 + j.val; omega
    · show k.val = 0 + k.val; omega
  · exact (Shape.rowMajor_val_five _).trans (Eq.trans (by show (((0 * 9 + p.val) * 1 + 0) * 48 + j.val) * 48 + k.val = ((0 * 9 + p.val) * 48 + j.val) * 48 + k.val; omega) (Shape.rowMajor_val_four _).symm)

/-! ## The boxes -/

/-- The anchor's width. -/
theorem v39_apply (p : Fin 9) (j k : Fin 48) : res_main_v39 V (ix4 0 p j k) = (box V p j k).w := field_apply V p j k 4 _

/-- The anchor's height. -/
theorem v42_apply (p : Fin 9) (j k : Fin 48) : res_main_v42 V (ix4 0 p j k) = (box V p j k).h := field_apply V p j k 5 _

/-- The first coordinate of the box's centre. -/
theorem v48_apply (p : Fin 9) (j k : Fin 48) : res_main_v48 V (ix4 0 p j k) = ctr (box V p j k).t0 (box V p j k).w (box V p j k).cx := by
  unfold ctr
  rw [← v39_apply, show (box V p j k).t0 = _ from (delta_apply V p j k 0 slices_S1x9x4x48x48_S1x9x1x48x48_0_0_0_0_0).symm,
    show (box V p j k).cx = _ from (field_apply V p j k 2 slices_S9x48x48x6_S9x48x48x1_0_0_0_2).symm]
  rfl

/-- The second coordinate of the box's centre. -/
theorem v54_apply (p : Fin 9) (j k : Fin 48) : res_main_v54 V (ix4 0 p j k) = ctr (box V p j k).t1 (box V p j k).h (box V p j k).cy := by
  unfold ctr
  rw [← v42_apply, show (box V p j k).t1 = _ from (delta_apply V p j k 1 slices_S1x9x4x48x48_S1x9x1x48x48_0_0_1_0_0).symm,
    show (box V p j k).cy = _ from (field_apply V p j k 3 slices_S9x48x48x6_S9x48x48x1_0_0_0_3).symm]
  rfl

/-- The box's width. -/
theorem v60_apply (p : Fin 9) (j k : Fin 48) : res_main_v60 V (ix4 0 p j k) = sd (box V p j k).t2 (box V p j k).w := by
  unfold sd
  rw [← v39_apply, show (box V p j k).t2 = _ from (delta_apply V p j k 2 slices_S1x9x4x48x48_S1x9x1x48x48_0_0_2_0_0).symm]
  rfl

/-- The box's height. -/
theorem v66_apply (p : Fin 9) (j k : Fin 48) : res_main_v66 V (ix4 0 p j k) = sd (box V p j k).t3 (box V p j k).h := by
  unfold sd
  rw [← v42_apply, show (box V p j k).t3 = _ from (delta_apply V p j k 3 slices_S1x9x4x48x48_S1x9x1x48x48_0_0_3_0_0).symm]
  rfl

/-- The box's left end. -/
theorem v69_apply (p : Fin 9) (j k : Fin 48) : res_main_v69 V (ix4 0 p j k) = (box V p j k).lx := by
  unfold Row.lx lo
  rw [← v48_apply, ← v60_apply, ← div_2]
  rfl

/-- The box's top end. -/
theorem v72_apply (p : Fin 9) (j k : Fin 48) : res_main_v72 V (ix4 0 p j k) = (box V p j k).ly := by
  unfold Row.ly lo
  rw [← v54_apply, ← v66_apply, ← div_2]
  rfl

/-- The box's right end. -/
theorem v75_apply (p : Fin 9) (j k : Fin 48) : res_main_v75 V (ix4 0 p j k) = (box V p j k).rx := by
  unfold Row.rx hi
  rw [← v48_apply, ← v60_apply, ← div_2]
  rfl

/-- The box's bottom end. -/
theorem v78_apply (p : Fin 9) (j k : Fin 48) : res_main_v78 V (ix4 0 p j k) = (box V p j k).ry := by
  unfold Row.ry hi
  rw [← v54_apply, ← v66_apply, ← div_2]
  rfl

/-! ## The scores -/

/-- The score axis, dropped. -/
theorem reds : S1x9x2x48x48.Reduces [2] S1x9x48x48 := by decide

/-- The place a reduction over the score axis reads for the score `t` of an anchor's place. -/
theorem lift_apply (p : Fin 9) (t : Fin 2) (j k : Fin 48) : reds.lift (ix4 0 p j k) t = ix5 0 p t j k := by
  funext a
  apply Fin.ext
  fin_cases a <;> rfl

/-- What the softmax takes off both scores. -/
def shift (p : Fin 9) (j k : Fin 48) : EReal := max (argC V (ix4 0 ⟨2 * p.val, by omega⟩ j k)) (argC V (ix4 0 ⟨2 * p.val + 1, by omega⟩ j k))

/-- A greatest number of two. -/
theorem fold_two (f : Fin 2 → EReal) (b : EReal) : (Finset.univ : Finset (Fin 2)).fold max b f = max (f 0) (max (f 1) b) := by
  have e : (Finset.univ : Finset (Fin 2)) = insert 0 {1} := by decide
  rw [e, Finset.fold_insert (by decide), Finset.fold_singleton]

/-- The greater of the two scores. -/
theorem max_apply (p : Fin 9) (j k : Fin 48) :
    Host.reduce FloatOps.maximumf (res_main_v0 V) (constant S_ .f32 0xFF800000#32) reducesTo_S1x9x2x48x48_S1x9x48x48_d2 h_S_ (ix4 0 p j k)
      = shift V p j k := by
  rw [Host.reduce_eq_fold_single _ _ _ _ reds]
  refine (fold_two (fun t : Fin 2 => res_main_v0 V (reds.lift (ix4 0 p j k) t)) (Ideal.ofBits .f32 0xFF800000#32)).trans ?_
  rw [lift_apply, lift_apply, v0_apply, v0_apply, bits_bot, max_bot_right]
  rfl

/-- The exponential of a score less the greater one. -/
theorem v7_apply (p : Fin 9) (t : Fin 2) (j k : Fin 48) :
    res_main_v7 V (ix5 0 p t j k) = Ideal.exp (argC V (ix4 0 ⟨2 * p.val + t.val, by omega⟩ j k) - shift V p j k) := by
  unfold res_main_v7
  show Ideal.exp ((show EReal from res_main_v0 V (ix5 0 p t j k)) - broadcastInDim S1x9x2x48x48 _ _ _ (ix5 0 p t j k)) = _
  rw [v0_apply, broadcastInDim_apply (k := ix5 0 p 0 j k), broadcastInDim_apply (k := ix4 0 p j k)]
  · show Ideal.exp (_ - max (Ideal.ofBits .f32 0xFF800000#32) (Host.reduce _ _ _ _ _ (ix4 0 p j k))) = _
    rw [max_apply, bits_bot, max_bot_left]
  · intro a; fin_cases a <;> rfl
  · intro a; fin_cases a <;> rfl

/-- The sum of the two exponentials. -/
theorem sum_apply (p : Fin 9) (j k : Fin 48) :
    Host.reduceAdd (res_main_v7 V) (constant S_ .f32 0x00000000#32) reducesTo_S1x9x2x48x48_S1x9x48x48_d2 h_S_ (ix4 0 p j k)
      = Ideal.ofBits .f32 0x00000000#32 + (Ideal.exp ((box V p j k).c0 - shift V p j k) + Ideal.exp ((box V p j k).c1 - shift V p j k)) := by
  rw [ValueIdx.hostReduceAdd_apply, Ideal.hostReduceAdd_single _ reds]
  have e := Fin.sum_univ_two (M := EReal) (fun t : Fin 2 => res_main_v7 V (reds.lift (ix4 0 p j k) t))
  rw [lift_apply, lift_apply, v7_apply, v7_apply] at e
  exact congrArg (Ideal.ofBits .f32 0x00000000#32 + ·) e

/-- The object's score after the softmax. -/
theorem score_apply (p : Fin 9) (j k : Fin 48) :
    shapeCast S1x9x48x48 (extractStridedSlice S1x9x1x48x48 ![0, 0, 1, 0, 0] (Host.divf (res_main_v7 V) (broadcastInDim S1x9x2x48x48 ![0, 1, 2, 3, 4] bcast_S1x9x1x48x48_S1x9x2x48x48_0_1_2_3_4 (broadcastInDim S1x9x1x48x48 ![0, 1, 3, 4] bcast_S1x9x48x48_S1x9x1x48x48_0_1_3_4 (Host.reduceAdd (res_main_v7 V) (constant S_ .f32 0x00000000#32) reducesTo_S1x9x2x48x48_S1x9x48x48_d2 h_S_)))) slices_S1x9x2x48x48_S1x9x1x48x48_0_0_1_0_0) shapeCasts_S1x9x1x48x48_S1x9x48x48 (ix4 0 p j k)
      = score (box V p j k).c0 (box V p j k).c1 (shift V p j k) := by
  rw [shapeCast_apply (k := ix5 0 p 0 j k), extractStridedSlice_apply (k := ix5 0 p 1 j k), show ∀ x y : FVec Ideal S1x9x2x48x48 .f32, ∀ i, Host.divf x y i = Ideal.div (x i) (y i) from fun _ _ _ => rfl, v7_apply,
    broadcastInDim_apply (k := ix5 0 p 0 j k), broadcastInDim_apply (k := ix4 0 p j k), sum_apply]
  · rfl
  · intro a; fin_cases a <;> rfl
  · intro a; fin_cases a <;> rfl
  · intro a
    fin_cases a
    · rfl
    · show p.val = 0 + p.val; omega
    · rfl
    · show j.val = 0 + j.val; omega
    · show k.val = 0 + k.val; omega
  · exact (Shape.rowMajor_val_five _).trans (Eq.trans (by show (((0 * 9 + p.val) * 1 + 0) * 48 + j.val) * 48 + k.val = ((0 * 9 + p.val) * 48 + j.val) * 48 + k.val; omega) (Shape.rowMajor_val_four _).symm)

/-- The reference's test of the score at `(p, j, k)`. -/
def test (p : Fin 9) (j k : Fin 48) : BitVec 1 :=
  Ideal.cmp .ogt (score (box V p j k).c0 (box V p j k).c1 (shift V p j k)) (Ideal.div (Ideal.ofBits .f32 0x40E00000#32) (Ideal.ofBits .f32 0x41200000#32))

/-- The mask's number at `(p, j, k)`. -/
theorem v95_apply (p : Fin 9) (j k : Fin 48) :
    res_main_v95 V (ix5 0 p j k 0) = (((((box V p j k).mask (test V p j k)).toNat : ℕ) : ℝ) : EReal) := by
  unfold res_main_v95
  rw [broadcastInDim_apply (k := ix4 0 p j k)]
  · unfold Row.mask test
    rw [← v69_apply, ← v72_apply, ← v75_apply, ← v78_apply, ← score_apply]
    rfl
  · intro a; fin_cases a <;> rfl

/-! ## The result -/

/-- A place's number, with a last axis of one. -/
abbrev unit (a : FVec Ideal S1x9x48x48 .f32) : S1x9x48x48x1.Idx → EReal :=
  broadcastInDim S1x9x48x48x1 ![0, 1, 2, 3] bcast_S1x9x48x48_S1x9x48x48x1_0_1_2_3 a

/-- Four numbers a place, one after another. -/
abbrev fours (a b c d : FVec Ideal S1x9x48x48 .f32) : List ((s : Shape) × (s.Idx → EReal)) :=
  [⟨S1x9x48x48x1, unit a⟩, ⟨S1x9x48x48x1, unit b⟩, ⟨S1x9x48x48x1, unit c⟩, ⟨S1x9x48x48x1, unit d⟩]

/-- Four numbers a place, side by side. -/
def four (a b c d : FVec Ideal S1x9x48x48 .f32) : FVec Ideal S1x9x48x48x4 .f32 :=
  concatenate S1x9x48x48x4 4 (fours a b c d) concatenates_S1x9x48x48x1_S1x9x48x48x1_S1x9x48x48x1_S1x9x48x48x1_S1x9x48x48x4_d4

/-- It reads that number. -/
theorem unit_apply (a : FVec Ideal S1x9x48x48 .f32) (p : Fin 9) (j k : Fin 48) :
    unit a (ix5 0 p j k 0) = a (ix4 0 p j k) := by
  unfold unit
  rw [broadcastInDim_apply (k := ix4 0 p j k)]
  intro a; fin_cases a <;> rfl

/-- The number `t` of the four. -/
theorem four_apply (a b c d : FVec Ideal S1x9x48x48 .f32) (p : Fin 9) (j k : Fin 48) (t : Fin 4) :
    four a b c d (ix5 0 p j k t) = (![a (ix4 0 p j k), b (ix4 0 p j k), c (ix4 0 p j k), d (ix4 0 p j k)] : Fin 4 → EReal) t := by
  have piece : ∀ (n : ℕ) (hn : n < 4) (x : FVec Ideal S1x9x48x48 .f32) (_ : (fours a b c d)[n]'hn = ⟨S1x9x48x48x1, unit x⟩)
      (_ : ((((fours a b c d).take n).map (·.1)).map fun s => if h : s.rank = S1x9x48x48x4.rank then s.size ((4 : Fin S1x9x48x48x4.rank).cast h.symm) else 0).sum = n),
      four a b c d (ix5 0 p j k ⟨n, hn⟩) = x (ix4 0 p j k) := fun n hn x hx hs =>
    (concatenate_apply_piece (t := S1x9x48x48x4) 4 (fours a b c d) _ (ix5 0 p j k ⟨n, hn⟩) n hn S1x9x48x48x1 (unit x) hx rfl n hs (ix5 0 p j k 0)
      (by intro b' hb; fin_cases b' <;> first | rfl | exact absurd rfl hb) rfl).trans (unit_apply x p j k)
  obtain ⟨t, ht⟩ := t
  interval_cases t
  · exact piece 0 _ a rfl rfl
  · exact piece 1 _ b rfl rfl
  · exact piece 2 _ c rfl rfl
  · exact piece 3 _ d rfl rfl

/-- The mask's number, under each of the four. -/
theorem mask_apply (p : Fin 9) (j k : Fin 48) (t : Fin 4) :
    broadcastInDim S1x9x48x48x4 ![0, 1, 2, 3, 4] bcast_S1x9x48x48x1_S1x9x48x48x4_0_1_2_3_4 (res_main_v95 V) (ix5 0 p j k t)
      = (((((box V p j k).mask (test V p j k)).toNat : ℕ) : ℝ) : EReal) := by
  rw [broadcastInDim_apply (k := ix5 0 p j k 0), v95_apply]
  intro a; fin_cases a <;> rfl

/-- The reference's result. -/
def result : FVec Ideal S20736x8 .f32 :=
  shapeCast _ (concatenate S1x9x48x48x8 4
    [⟨S1x9x48x48x4, mulf (four (res_main_v69 V) (res_main_v72 V) (res_main_v75 V) (res_main_v78 V))
        (broadcastInDim S1x9x48x48x4 ![0, 1, 2, 3, 4] bcast_S1x9x48x48x1_S1x9x48x48x4_0_1_2_3_4 (res_main_v95 V))⟩,
      ⟨S1x9x48x48x4, mulf (Host.divf (four (res_main_v48 V) (res_main_v54 V) (res_main_v60 V) (res_main_v66 V))
          (broadcastInDim S1x9x48x48x4 ![] bcast_S_S1x9x48x48x4 (constant S_ .f32 0x44160000#32)))
        (broadcastInDim S1x9x48x48x4 ![0, 1, 2, 3, 4] bcast_S1x9x48x48x1_S1x9x48x48x4_0_1_2_3_4 (res_main_v95 V))⟩]
    concatenates_S1x9x48x48x4_S1x9x48x48x4_S1x9x48x48x8_d4) shapeCasts_S1x9x48x48x8_S20736x8

/-- The reference's result at anchor `p`, row `j`, column `k` and number `e`. -/
theorem result_apply (p : Fin 9) (j k : Fin 48) (e : Fin 8) :
    result V (ix2 (pos p j k) e) = (box V p j k).val e.val * (((((box V p j k).mask (test V p j k)).toNat : ℕ) : ℝ) : EReal) := by
  unfold result
  rw [shapeCast_apply (k := (ix5 0 p j k e : S1x9x48x48x8.Idx))]
  rotate_left
  · exact (Shape.rowMajor_val_five _).trans (Eq.trans (by show (((0 * 9 + p.val) * 48 + j.val) * 48 + k.val) * 8 + e.val = ((p.val * 48 + j.val) * 48 + k.val) * 8 + e.val; omega) (Shape.rowMajor_val_two _).symm)
  by_cases he : e.val < 4
  · rw [concatenate_pair_apply_left (t := S1x9x48x48x8) (s₁ := S1x9x48x48x4) 4 _ _ _ (ix5 0 p j k e : S1x9x48x48x8.Idx) rfl (ix5 0 p j k ⟨e.val, he⟩ : S1x9x48x48x4.Idx) (by intro b; fin_cases b <;> rfl)]
    show four _ _ _ _ _ * _ = _
    rw [four_apply, mask_apply, v69_apply, v72_apply, v75_apply, v78_apply]
    congr 1
    obtain ⟨e, h8⟩ := e
    simp only at he
    interval_cases e <;> rfl
  · rw [concatenate_pair_apply_right (t := S1x9x48x48x8) (s₁ := S1x9x48x48x4) (s₂ := S1x9x48x48x4) 4 _ _ _ (ix5 0 p j k e : S1x9x48x48x8.Idx) rfl rfl (ix5 0 p j k ⟨e.val - 4, by omega⟩ : S1x9x48x48x4.Idx)
      (by intro b hb; fin_cases b <;> first | rfl | exact absurd rfl hb) (by show e.val - 4 + 4 = e.val; omega)]
    show Ideal.div (four _ _ _ _ _) (Ideal.ofBits .f32 0x44160000#32) * _ = _
    rw [four_apply, mask_apply, v48_apply, v54_apply, v60_apply, v66_apply, div_600]
    congr 1
    obtain ⟨e, h8⟩ := e
    simp only at he
    interval_cases e <;> first | omega | rfl

end Cert.ReferenceIdeal.Value

end
-- ==== Proof.Precond.lean ====
/- What the precondition says: a memory it holds of has a real number at every place of the score array. -/
module

public import proofs.«01_k».proof.Proof.Gen.Pre_finite_scores
public import proofs.«01_k».proof.Proof.Math
public import Idealize.ShloMosaic.PureOps.Reduce

@[expose] public section

noncomputable section

namespace Cert.Pre_finite_scores.Gen

open Cert.Boxes Idealize.ShloMosaic

/-- A conjunction over a list that comes to one has a one at every member, and started from one. -/
theorem foldl_one {ι : Type} (x : ι → BitVec 1) : ∀ (l : List ι) (b : BitVec 1), l.foldl (fun a i => IntOp.andi a (x i)) b = 1#1 → b = 1#1 ∧ ∀ i ∈ l, x i = 1#1
  | [], b, h => ⟨h, fun _ hi => nomatch hi⟩
  | i :: l, b, h => by
    obtain ⟨h1, h2⟩ := foldl_one x l _ h
    have key := (by decide : ∀ b y : BitVec 1, IntOp.andi b y = 1#1 → b = 1#1 ∧ y = 1#1) b (x i) h1
    refine ⟨key.1, fun i' hi => ?_⟩
    rcases List.mem_cons.mp hi with rfl | hi
    · exact key.2
    · exact h2 _ hi

/-- An extended real of which the absolute value is below the top is a real number. -/
theorem real_of_abs (x : EReal) (h : Ideal.cmp .olt (max x (-x)) ⊤ = 1#1) : ∃ a : ℝ, x = a := by
  have hlt : max x (-x) < ⊤ := by
    by_contra hn
    have : Ideal.cmp .olt (max x (-x)) ⊤ = 0#1 := by unfold Ideal.cmp; simp [hn]
    rw [this] at h
    exact absurd h (by decide)
  have h1 : x ≠ ⊤ := fun e => absurd hlt (by simp [e])
  have h2 : x ≠ ⊥ := fun e => absurd hlt (by simp [e])
  exact ⟨x.toReal, (EReal.coe_toReal h1 h2).symm⟩

/-- Under the precondition every score is a real number. -/
theorem real_scores (C : FVec Ideal S1x18x48x48 .f32) (R : FVec Ideal S1x36x48x48 .f32) (A : FVec Ideal S20736x6 .f32)
    (h : Cert.Pre_finite_scores.fn C R A = fun _ => 1#1) (i : S1x18x48x48.Idx) : ∃ a : ℝ, (C i : EReal) = a := by
  have h0 := congrFun h (Shape.Idx.first h_S_)
  unfold Cert.Pre_finite_scores.fn at h0
  simp only at h0
  rw [Host.reduce_eq_foldl] at h0
  have hi := (foldl_one _ _ _ h0).2 i (List.mem_filter.mpr ⟨List.mem_map.mpr ⟨S1x18x48x48.rowMajor i, List.mem_finRange _, Equiv.symm_apply_apply _ _⟩,
    decide_eq_true (funext fun a => a.elim0)⟩)
  refine real_of_abs (C i) ?_
  rw [← bits_top]
  exact hi

end Cert.Pre_finite_scores.Gen

end
-- ==== Proof.Algebraic.lean ====
/- The value claim: over the extended reals the kernel and the reference end with the same array, wherever the scores are
   real numbers. -/
module

public import proofs.«01_k».proof.Defs
public import proofs.«01_k».proof.Proof.Launch
public import proofs.«01_k».proof.Proof.KernelValue
public import proofs.«01_k».proof.Proof.RefValue
public import proofs.«01_k».proof.Proof.Precond

@[expose] public section

noncomputable section

namespace Cert.Boxes

open Idealize.ShloMosaic Idealize.SL.Sem Idealize.ShloMosaic.StableHlo
open Idealize.ShloMosaic.ValueIdx (ix2 ix4 eq_ix2)

open Cert.ReferenceIdeal.Value in
/-- Where the two scores are real, the reference's number is the kernel's. -/
theorem result_eq (V : Valuation Cert.ReferenceIdeal.τ Cert.ReferenceIdeal.sig (Elt Ideal)) (p : Fin 9) (j k : Fin 48) (e : Fin 8)
    (h : ∀ i, ∃ a : ℝ, argC V i = a) :
    result V (ix2 (pos p j k) e) = Scalar.select (box V p j k).keep ((box V p j k).val e.val) (Ideal.ofBits .f32 0x00000000#32) := by
  obtain ⟨a, ha⟩ := h (ix4 0 ⟨2 * p.val, by omega⟩ j k)
  obtain ⟨b, hb⟩ := h (ix4 0 ⟨2 * p.val + 1, by omega⟩ j k)
  have hM : shift V p j k = ((max a b : ℝ) : EReal) := by
    unfold shift
    rw [ha, hb]
    exact (EReal.coe_strictMono.monotone.map_max).symm
  have ht : test V p j k = (box V p j k).likely := score_test (box V p j k) _ a b _ ha hb hM
  rw [result_apply, select_mul, ht, Row.mask_eq]

open Cert.ReferenceIdeal.Value in
/-- Every row of the result is that of one anchor's place. -/
theorem row_eq (r : Fin 20736) : r = pos ⟨r.val / 2304, by omega⟩ ⟨r.val / 48 % 48, by omega⟩ ⟨r.val % 48, by omega⟩ :=
  Fin.ext (by show r.val = (r.val / 2304 * 48 + r.val / 48 % 48) * 48 + r.val % 48; omega)

/-- From memories that agree on the arguments, with every score real, the two results are one array. -/
theorem values_eq (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h0 : Cert.ReferenceIdeal.Value.argC V = Cert.KernelIdeal.Tile.fC m d) (h1 : Cert.ReferenceIdeal.Value.argR V = Cert.KernelIdeal.Tile.fR m d)
    (h2 : Cert.ReferenceIdeal.Value.argA V = m (d, Cert.KernelIdeal.Tile.b2))
    (hr : ∀ i, ∃ a : ℝ, Cert.ReferenceIdeal.Value.argC V i = a) :
    Cert.ReferenceIdeal.Value.result V = Cert.KernelIdeal.Tile.RES m d := by
  funext i
  rw [eq_ix2 i, row_eq (i 0)]
  refine (result_eq V _ _ _ _ hr).trans (Eq.trans ?_ (Cert.KernelIdeal.Tile.RES_apply m d _ _ _ _).symm)
  unfold Cert.ReferenceIdeal.Value.box
  rw [h0, h1, h2]

/-- The reference's result, from a memory that agrees with the kernel's on the arguments, is the kernel's. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_scores m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.result (launchContents m' c) = Cert.KernelIdeal.Tile.RES m c := by
  have e0 : Cert.ReferenceIdeal.Value.argC (launchContents m' c) = Cert.KernelIdeal.Tile.fC m c := h0
  refine values_eq m c (launchContents m' c) e0 h1 h2 fun i => ?_
  rw [e0]
  exact Cert.Pre_finite_scores.Gen.real_scores _ _ _ (hpre c) i

/-- The kernel and the reference compute the same array, wherever the scores are finite. -/
theorem algebraic : Cert.algebraic_KernelIdeal_ReferenceIdeal_pre_finite_scores := fun m g m' g' hpre hargs => by
  refine ⟨fun c => Cert.KernelIdeal.Tile.RES m c, ?_, ?_⟩
  · exact (θ_run Cert.KernelIdeal.defs _ _).mono (fun _ h c => ⟨(h.1 c).2.2.2, (h.1 c).1, (h.1 c).2.1, (h.1 c).2.2.1⟩) (Cert.KernelIdeal.Tile.run_main (F := Ideal) m g)
  · refine (θ_run Cert.ReferenceIdeal.defs _ _).mono (fun _ h c => ⟨(h c).1.trans ?_, (h c).2⟩) (Cert.ReferenceIdeal.Value.run m' g')
    exact ref_eq m m' hpre c (hargs c).1 (hargs c).2.1 (hargs c).2.2

end Cert.Boxes

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Kernel.Skeleton
public import proofs.«01_k».proof.Proof.Gen.ReferenceIdeal
public import proofs.«01_k».proof.Proof.Gen.ReferenceIdeal.Run
public import proofs.«01_k».proof.Proof.Gen.Pre_finite_scores
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The reference's frame: its operations leave the arguments, and it declares no semaphore. -/
theorem frame_ReferenceIdeal : Cert.quiescent_ReferenceIdeal := fun m ρ _ =>
  (θ_run Cert.ReferenceIdeal.defs _ _).mono (fun r h => ⟨fun c => (h c).2, funext fun g => nomatch g.2⟩) (Cert.ReferenceIdeal.Value.run m ρ)

/-- The two named constants are what the certificate's table says. -/
theorem preserved : Cert.preserves_Kernel_KernelIdeal :=
  ⟨IdealRules.named_const.statement Cert.KernelIdeal.κ "logit" .f32 _ _ rfl, IdealRules.named_const.statement Cert.KernelIdeal.κ "inv_src" .f32 _ _ rfl⟩

/-- Everything the certificate claims: the side conditions, the frames, the constants and the value. -/
theorem claim : Cert.Claim :=
  ⟨Cert.Kernel.Gen.facts, Cert.KernelIdeal.Gen.facts, Cert.ReferenceIdeal.Gen.facts, Cert.Pre_finite_scores.Gen.facts,
    Cert.KernelIdeal.Tile.frame_Kernel, Cert.KernelIdeal.Tile.frame_KernelIdeal, Cert.KernelIdeal.Tile.frame_KernelIdeal_pre,
    frame_ReferenceIdeal, fun m ρ _ => frame_ReferenceIdeal m ρ trivial, preserved, Cert.Boxes.algebraic⟩

end Cert.Proof

end
